-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "gelu_a" .bf16 0x3D37#16 ((12003091 / 268435456 : ℝ) : EReal)
  ∧ IdealRules.named_const.Statement Cert.KernelIdeal.κ "gelu_c" .bf16 0x3F4C#16 ((6693141 / 8388608 : ℝ) : EReal)
  ∧ IdealRules.named_const.Statement Cert.KernelIdeal.κ "gelu_3a" .bf16 0x3E09#16 ((36009273 / 268435456 : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v172) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_v65) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v0) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_v61) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)) (v4 : (c : Dev Cert.Kernel6Ideal.nD) → Buf (Elt Ideal) ((c.tc : Thread Cert.Kernel6Ideal.nD Cert.Kernel6Ideal.τ).loc Cert.Kernel6Ideal.main_v7_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_v7_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_v49) = v3 c
          ∧ r.2.mem ((c.tc : Thread Cert.Reference6Ideal.nD Cert.Reference6Ideal.τ).loc Cert.Reference6Ideal.main_v51) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v55) = v1 c
          ∧ r.2.mem ((c.tc : Thread Cert.Reference8Ideal.nD Cert.Reference8Ideal.τ).loc Cert.Reference8Ideal.main_v56) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_arguments.lean ====
abbrev S4096x1024 : Shape := ⟨2, ![4096, 1024]⟩
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S4096x2048 : Shape := ⟨2, ![4096, 2048]⟩

class Facts : Prop where
  bcast_S_S4096x1024 : S_.BroadcastsInDim S4096x1024 (![] : Fin 0 → Fin S4096x1024.rank)
  slices_S4096x6656_S4096x2048_0_2560 : S4096x6656.Slices ![0, 2560] S4096x2048
  bcast_S_S4096x2048 : S_.BroadcastsInDim S4096x2048 (![] : Fin 0 → Fin S4096x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024 : S_.BroadcastsInDim S1024 (![] : Fin 0 → Fin S1024.rank)

variable [Facts]

def fn_part1 {F : FTy → Type} [FloatOps F] (main_v2 : IVec S4096x1024 1) (main_v6 : IVec S4096x2048 1) (main_v9 : IVec S8x128x128 1) (main_v12 : IVec S8x128 1) (main_v15 : IVec S1024 1) (main_v16 : FVec F S1024 .f32) (main_v17 : FVec F S1024 .f32) : IVec S4096x1024 1 × IVec S4096x2048 1 × IVec S8x128x128 1 × IVec S8x128 1 × IVec S1024 1 × IVec S1024 1 :=
  let main_v18 : IVec S1024 1 := cmpf .olt main_v16 main_v17
  (main_v2, main_v6, main_v9, main_v12, main_v15, main_v18)

def fn {F : FTy → Type} [FloatOps F] (main_arg0 : FVec F S4096x1024 .bf16) (main_arg1 : FVec F S4096x6656 .bf16) (main_arg2 : FVec F S8x128x128 .f32) (main_arg3 : FVec F S8x128 .f32) (main_arg4 : FVec F S1024 .f32) (main_arg5 : FVec F S1024 .f32) : IVec S4096x1024 1 × IVec S4096x2048 1 × IVec S8x128x128 1 × IVec S8x128 1 × IVec S1024 1 × IVec S1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x2048 .bf16 := (extractStridedSlice S4096x2048 ![0, 2560] · slices_S4096x6656_S4096x2048_0_2560) main_arg1
  let main_v4 : FVec F S4096x2048 .bf16 := Host.absf main_v3
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_v7 : FVec F S8x128x128 .f32 := Host.absf main_arg2
  let main_cst_1 : FVec F S_ .f32 := constant S_ .f32 0x7F800000#32
  let main_v8 : FVec F S8x128x128 .f32 := broadcastInDim S8x128x128 ![] bcast_S_S8x128x128 main_cst_1
  let main_v9 : IVec S8x128x128 1 := cmpf .olt main_v7 main_v8
  let main_v10 : FVec F S8x128 .f32 := Host.absf main_arg3
  let main_cst_2 : FVec F S_ .f32 := constant S_ .f32 0x7F800000#32
  let main_v11 : FVec F S8x128 .f32 := broadcastInDim S8x128 ![] bcast_S_S8x128 main_cst_2
  let main_v12 : IVec S8x128 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S1024 .f32 := Host.absf main_arg5
  let main_cst_4 : FVec F S_ .f32 := constant S_ .f32 0x7F800000#32
  let main_v17 : FVec F S1024 .f32 := broadcastInDim S1024 ![] bcast_S_S1024 main_cst_4
  fn_part1 (F := F) main_v2 main_v6 main_v9 main_v12 main_v15 main_v16 main_v17
-- ==== Kernel.lean ====
abbrev S4096x1024 : Shape := ⟨2, ![4096, 1024]⟩
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S1x1024 : Shape := ⟨2, ![1, 1024]⟩
abbrev S4096x2048 : Shape := ⟨2, ![4096, 2048]⟩
abbrev S128x8 : Shape := ⟨2, ![128, 8]⟩
abbrev S512x1024 : Shape := ⟨2, ![512, 1024]⟩
abbrev S512x2560 : Shape := ⟨2, ![512, 2560]⟩
abbrev S512x2048 : Shape := ⟨2, ![512, 2048]⟩
abbrev S128x1024 : Shape := ⟨2, ![128, 1024]⟩
abbrev S512 : Shape := ⟨1, ![512]⟩
abbrev S512x1 : Shape := ⟨2, ![512, 1]⟩

abbrev nBuf : Space → Nat
  | .hbm => 69
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x6656, .bf16⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S1024, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .f32⟩
  | .hbm, ⟨31, _⟩ => ⟨S1x128x128, .f32⟩
  | .hbm, ⟨32, _⟩ => ⟨S8x128x128, .f32⟩
  | .hbm, ⟨33, _⟩ => ⟨S8x128x128, .f32⟩
  | .hbm, ⟨34, _⟩ => ⟨S8x128x128, .bf16⟩
  | .hbm, ⟨35, _⟩ => ⟨S8x128x1, .f32⟩
  | .hbm, ⟨36, _⟩ => ⟨S8x128x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128, .i1⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S1x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S128x128, .f32⟩
  | .hbm, ⟨62, _⟩ => ⟨S1x1024, .f32⟩
  | .hbm, ⟨63, _⟩ => ⟨S1x1024, .f32⟩
  | .hbm, ⟨64, _⟩ => ⟨S4096x2048, .bf16⟩
  | .hbm, ⟨65, _⟩ => ⟨S8x128x128, .f32⟩
  | .hbm, ⟨66, _⟩ => ⟨S128x8, .f32⟩
  | .hbm, ⟨67, _⟩ => ⟨S1x1024, .f32⟩
  | .hbm, ⟨68, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x2560, .bf16⟩
  | .local _ .vmem, ⟨3, _⟩ => ⟨S512x2560, .bf16⟩
  | .local _ .vmem, ⟨4, _⟩ => ⟨S8x128x128, .bf16⟩
  | .local _ .vmem, ⟨5, _⟩ => ⟨S8x128x128, .f32⟩
  | .local _ .vmem, ⟨6, _⟩ => ⟨S128x128, .f32⟩
  | .local _ .vmem, ⟨7, _⟩ => ⟨S1x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S8x128x128, .f32⟩
  | .local _ .vmem, ⟨12, _⟩ => ⟨S128x8, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24_0 : Ref sig .tc := ⟨.hbm, 64, rfl⟩
abbrev main_v24_1 : Ref sig .tc := ⟨.hbm, 65, rfl⟩
abbrev main_v24_2 : Ref sig .tc := ⟨.hbm, 66, rfl⟩
abbrev main_v24_3 : Ref sig .tc := ⟨.hbm, 67, rfl⟩
abbrev main_v24_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v768 : BitVec 1 := Scalar.cmpi .eq arg0 c7_i32
  let v769 : BitVec 32 := Scalar.extui v768
  let c0_i32_626 : BitVec 32 := 0#32
  let v770 : BitVec 1 := Scalar.cmpi .ne v769 c0_i32_626
  v770

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_3a" => some ((36009273 / 268435456 : ℝ) : EReal)
  | "gelu_a" => some ((12003091 / 268435456 : ℝ) : EReal)
  | "gelu_c" => some ((6693141 / 8388608 : ℝ) : EReal)
  | _ => none
-- ==== ReferenceIdeal.lean ====
abbrev S4096x1024 : Shape := ⟨2, ![4096, 1024]⟩
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S4096 : Shape := ⟨1, ![4096]⟩
abbrev S4096x2048 : Shape := ⟨2, ![4096, 2048]⟩

abbrev nBuf : Space → Nat
  | .hbm => 234
  | .vmem => 0
  | .smem => 0
  | _ => 0

abbrev hbmTy0_0 (i : Nat) : BufTy := match i % 128 with
  | 0 => ⟨S4096x1024, .bf16⟩
  | 1 => ⟨S4096x6656, .bf16⟩
  | 2 => ⟨S8x128x128, .f32⟩
  | 3 => ⟨S8x128, .f32⟩
  | 4 => ⟨S1024, .f32⟩
  | 5 => ⟨S1024, .f32⟩
  | 6 => ⟨S4096x1024, .f32⟩
  | 7 => ⟨S1x4096x1024, .f32⟩
  | 8 => ⟨S4096x6656, .f32⟩
  | 9 => ⟨S4096x1024, .f32⟩
  | 10 => ⟨S1x4096x1024, .f32⟩
  | 11 => ⟨S4096x6656, .f32⟩
  | 12 => ⟨S4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S_, .f32⟩
  | 21 => ⟨S1x4096x1024, .f32⟩
  | 22 => ⟨S1x4096x1024, .f32⟩
  | 23 => ⟨S1x4096x1024, .f32⟩
  | 24 => ⟨S_, .f32⟩
  | 25 => ⟨S1x4096x1024, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S1x4096x1024, .f32⟩
  | 45 => ⟨S_, .f32⟩
  | 46 => ⟨S1x4096x1024, .f32⟩
  | 47 => ⟨S1x4096x1024, .f32⟩
  | 48 => ⟨S_, .f32⟩
  | 49 => ⟨S1x4096x1024, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S_, .f32⟩
  | 60 => ⟨S1x4096x1024, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S_, .f32⟩
  | 67 => ⟨S1x4096x1024, .f32⟩
  | 68 => ⟨S1x4096x1024, .f32⟩
  | 69 => ⟨S1x4096x1024, .f32⟩
  | 70 => ⟨S_, .f32⟩
  | 71 => ⟨S1x4096, .f32⟩
  | 72 => ⟨S1x4096x1, .f32⟩
  | 73 => ⟨S_, .f32⟩
  | 74 => ⟨S1x4096x1, .f32⟩
  | 75 => ⟨S1x4096x1, .f32⟩
  | 76 => ⟨S1x4096x1024, .f32⟩
  | 77 => ⟨S1x4096x1024, .f32⟩
  | 78 => ⟨S1x4096x1024, .f32⟩
  | 79 => ⟨S_, .f32⟩
  | 80 => ⟨S1x4096, .f32⟩
  | 81 => ⟨S1x4096x1, .f32⟩
  | 82 => ⟨S_, .f32⟩
  | 83 => ⟨S1x4096x1, .f32⟩
  | 84 => ⟨S1x4096x1, .f32⟩
  | 85 => ⟨S_, .f32⟩
  | 86 => ⟨S1x4096x1, .f32⟩
  | 87 => ⟨S1x4096x1, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1024, .f32⟩
  | 94 => ⟨S1x4096x1024, .f32⟩
  | 95 => ⟨S1x1x1024, .f32⟩
  | 96 => ⟨S1x4096x1024, .f32⟩
  | 97 => ⟨S1x4096x1024, .f32⟩
  | 98 => ⟨S1x1x1024, .f32⟩
  | 99 => ⟨S1x4096x1024, .f32⟩
  | 100 => ⟨S1x4096x1024, .f32⟩
  | 101 => ⟨S1x32x128x8x128, .f32⟩
  | 102 => ⟨S128, .i32⟩
  | 103 => ⟨S_, .i32⟩
  | 104 => ⟨S_, .i32⟩
  | 105 => ⟨S128, .i32⟩
  | 106 => ⟨S128, .i32⟩
  | 107 => ⟨S128, .i32⟩
  | 108 => ⟨S_, .i32⟩
  | 109 => ⟨S128, .i32⟩
  | 110 => ⟨S128, .i1⟩
  | 111 => ⟨S128, .i32⟩
  | 112 => ⟨S128, .i32⟩
  | 113 => ⟨S_, .i32⟩
  | 114 => ⟨S128, .i32⟩
  | 115 => ⟨S128, .i1⟩
  | 116 => ⟨S128, .i1⟩
  | 117 => ⟨S_, .i32⟩
  | 118 => ⟨S128, .i32⟩
  | 119 => ⟨S128, .i32⟩
  | 120 => ⟨S128, .i32⟩
  | 121 => ⟨S128x1, .i32⟩
  | 122 => ⟨S1x128, .i32⟩
  | 123 => ⟨S128x128, .i32⟩
  | 124 => ⟨S128x128, .i32⟩
  | 125 => ⟨S128x128, .i1⟩
  | 126 => ⟨S128x128, .f32⟩
  | 127 => ⟨S1x128x128, .f32⟩
  | _ => ⟨S4096x1024, .bf16⟩

abbrev hbmTy0_1 (i : Nat) : BufTy := match i % 128 with
  | 0 => ⟨S8x128x128, .f32⟩
  | 1 => ⟨S8x128x128, .f32⟩
  | 2 => ⟨S8x1x32x128x128, .f32⟩
  | 3 => ⟨S1x32x128x8x128, .f32⟩
  | 4 => ⟨S128x8, .f32⟩
  | 5 => ⟨S1x1x128x8x1, .f32⟩
  | 6 => ⟨S1x32x128x8x128, .f32⟩
  | 7 => ⟨S1x32x128x8x128, .f32⟩
  | 8 => ⟨S1x4096x1024, .f32⟩
  | 9 => ⟨S1x4096x1024, .f32⟩
  | 10 => ⟨S1x4096x1024, .f32⟩
  | 11 => ⟨S1x4096x1024, .f32⟩
  | 12 => ⟨S1x32x128x8x128, .f32⟩
  | 13 => ⟨S_, .f32⟩
  | 14 => ⟨S1x128x8, .f32⟩
  | 15 => ⟨S1x1x128x8x1, .f32⟩
  | 16 => ⟨S_, .f32⟩
  | 17 => ⟨S128x8, .f32⟩
  | 18 => ⟨S8x128, .f32⟩
  | 19 => ⟨S8x1x32x128x128, .f32⟩
  | 20 => ⟨S8x128x128, .f32⟩
  | 21 => ⟨S8x1x32x128x128, .f32⟩
  | 22 => ⟨S1x32x128x8x128, .f32⟩
  | 23 => ⟨S8x128x128, .f32⟩
  | 24 => ⟨S8x128x128, .f32⟩
  | 25 => ⟨S1x4096x1024, .f32⟩
  | 26 => ⟨S_, .f32⟩
  | 27 => ⟨S1x1024, .f32⟩
  | 28 => ⟨S1x1x1024, .f32⟩
  | 29 => ⟨S_, .f32⟩
  | 30 => ⟨S1024, .f32⟩
  | 31 => ⟨S1x4096x1024, .f32⟩
  | 32 => ⟨S_, .f32⟩
  | 33 => ⟨S1x1024, .f32⟩
  | 34 => ⟨S1x1x1024, .f32⟩
  | 35 => ⟨S1x4096x1024, .f32⟩
  | 36 => ⟨S1x4096x1024, .f32⟩
  | 37 => ⟨S_, .f32⟩
  | 38 => ⟨S1024, .f32⟩
  | 39 => ⟨S1x4096x1024, .f32⟩
  | 40 => ⟨S_, .f32⟩
  | 41 => ⟨S1x4096, .f32⟩
  | 42 => ⟨S1x4096x1, .f32⟩
  | 43 => ⟨S1x4096x1024, .f32⟩
  | 44 => ⟨S1x4096x1024, .f32⟩
  | 45 => ⟨S1x4096x1, .f32⟩
  | 46 => ⟨S_, .f32⟩
  | 47 => ⟨S1x4096x1, .f32⟩
  | 48 => ⟨S1x4096x1, .f32⟩
  | 49 => ⟨S_, .f32⟩
  | 50 => ⟨S4096, .f32⟩
  | 51 => ⟨S1x4096, .f32⟩
  | 52 => ⟨S1x4096x1024, .f32⟩
  | 53 => ⟨S1x4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S_, .f32⟩
  | 59 => ⟨S1x4096, .f32⟩
  | 60 => ⟨S1x4096x1, .f32⟩
  | 61 => ⟨S_, .f32⟩
  | 62 => ⟨S1x4096x1, .f32⟩
  | 63 => ⟨S1x4096x1, .f32⟩
  | 64 => ⟨S_, .f32⟩
  | 65 => ⟨S4096, .f32⟩
  | 66 => ⟨S1x4096, .f32⟩
  | 67 => ⟨S1x4096x1024, .f32⟩
  | 68 => ⟨S1x4096x1024, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S1x4096x1024, .f32⟩
  | 75 => ⟨S_, .f32⟩
  | 76 => ⟨S1x4096x1024, .f32⟩
  | 77 => ⟨S1x4096x1024, .f32⟩
  | 78 => ⟨S1x4096x1024, .f32⟩
  | 79 => ⟨S_, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S_, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S4096x1024, .f32⟩
  | 100 => ⟨S4096x1024, .f32⟩
  | 101 => ⟨S4096x2048, .f32⟩
  | 102 => ⟨S4096x2048, .bf16⟩
  | 103 => ⟨S128x8, .f32⟩
  | 104 => ⟨S1x1024, .f32⟩
  | 105 => ⟨S1x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_v6 : Ref sig .tc := ⟨.hbm, 110, rfl⟩
abbrev main_call0_v7 : Ref sig .tc := ⟨.hbm, 111, rfl⟩
abbrev main_call0_v8 : Ref sig .tc := ⟨.hbm, 112, rfl⟩
abbrev main_call0_c : Ref sig .tc := ⟨.hbm, 113, rfl⟩
abbrev main_call0_v9 : Ref sig .tc := ⟨.hbm, 114, rfl⟩
abbrev main_call0_v10 : Ref sig .tc := ⟨.hbm, 115, rfl⟩
abbrev main_call0_v11 : Ref sig .tc := ⟨.hbm, 116, rfl⟩
abbrev main_call0_c_0 : Ref sig .tc := ⟨.hbm, 117, rfl⟩
abbrev main_call0_v12 : Ref sig .tc := ⟨.hbm, 118, rfl⟩
abbrev main_call0_v13 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_v99 : Ref sig .tc := ⟨.hbm, 143, rfl⟩
abbrev main_cst_20 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_cst_22 : Ref sig .tc := ⟨.hbm, 157, rfl⟩
abbrev main_v111 : Ref sig .tc := ⟨.hbm, 158, rfl⟩
abbrev main_v112 : Ref sig .tc := ⟨.hbm, 159, rfl⟩
abbrev main_cst_23 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_24 : Ref sig .tc := ⟨.hbm, 165, rfl⟩
abbrev main_v117 : Ref sig .tc := ⟨.hbm, 166, rfl⟩
abbrev main_v118 : Ref sig .tc := ⟨.hbm, 167, rfl⟩
abbrev main_cst_25 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_26 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_28 : Ref sig .tc := ⟨.hbm, 186, rfl⟩
abbrev main_v134 : Ref sig .tc := ⟨.hbm, 187, rfl⟩
abbrev main_v135 : Ref sig .tc := ⟨.hbm, 188, rfl⟩
abbrev main_cst_29 : Ref sig .tc := ⟨.hbm, 189, rfl⟩
abbrev main_v136 : Ref sig .tc := ⟨.hbm, 190, rfl⟩
abbrev main_v137 : Ref sig .tc := ⟨.hbm, 191, rfl⟩
abbrev main_cst_30 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_31 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_32 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_33 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_34 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_35 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_36 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S1x1024 : Shape := ⟨2, ![1, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S512 : Shape := ⟨1, ![512]⟩
abbrev S512x1 : Shape := ⟨2, ![512, 1]⟩

abbrev nBuf : Space → Nat
  | .hbm => 37
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1x4096x4096, .f32⟩
  | .hbm, ⟨23, _⟩ => ⟨S4096x4096, .f32⟩
  | .hbm, ⟨24, _⟩ => ⟨S4096x4096, .bf16⟩
  | .hbm, ⟨25, _⟩ => ⟨S1024x4096, .bf16⟩
  | .hbm, ⟨26, _⟩ => ⟨S1024x4x1024, .bf16⟩
  | .hbm, ⟨27, _⟩ => ⟨S4x1024x1024, .bf16⟩
  | .hbm, ⟨28, _⟩ => ⟨S1x4x1024x1024, .bf16⟩
  | .hbm, ⟨29, _⟩ => ⟨S4096x1024, .bf16⟩
  | .hbm, ⟨30, _⟩ => ⟨S1x4096x1024, .bf16⟩
  | .hbm, ⟨31, _⟩ => ⟨S1x1024, .f32⟩
  | .hbm, ⟨32, _⟩ => ⟨S4096x1024, .f32⟩
  | .hbm, ⟨33, _⟩ => ⟨S4096x4096, .bf16⟩
  | .hbm, ⟨34, _⟩ => ⟨S1x1024, .f32⟩
  | .hbm, ⟨35, _⟩ => ⟨S4096x1024, .bf16⟩
  | .hbm, ⟨36, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x4x1024x1024, .bf16⟩
  | .local _ .vmem, ⟨8, _⟩ => ⟨S1x4096x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S1x1024 : Shape := ⟨2, ![1, 1024]⟩
abbrev S4096 : Shape := ⟨1, ![4096]⟩
abbrev S4096x4096 : Shape := ⟨2, ![4096, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x4096, .f32⟩
  | .hbm, ⟨27, _⟩ => ⟨S1x4096x1024, .f32⟩
  | .hbm, ⟨28, _⟩ => ⟨S_, .f32⟩
  | .hbm, ⟨29, _⟩ => ⟨S1x4096x4096, .f32⟩
  | .hbm, ⟨30, _⟩ => ⟨S1x4096x4096, .f32⟩
  | .hbm, ⟨31, _⟩ => ⟨S_, .f32⟩
  | .hbm, ⟨32, _⟩ => ⟨S1x4096x4096, .f32⟩
  | .hbm, ⟨33, _⟩ => ⟨S1x4096x4096, .i1⟩
  | .hbm, ⟨34, _⟩ => ⟨S_, .f32⟩
  | .hbm, ⟨35, _⟩ => ⟨S1x4096x4096, .f32⟩
  | .hbm, ⟨36, _⟩ => ⟨S1x4096x4096, .f32⟩
  | .hbm, ⟨37, _⟩ => ⟨S_, .f32⟩
  | .hbm, ⟨38, _⟩ => ⟨S1x4096x4096, .f32⟩
  | .hbm, ⟨39, _⟩ => ⟨S1x4096x4096, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S1024x4096, .f32⟩
  | .hbm, ⟨44, _⟩ => ⟨S4096x1024, .f32⟩
  | .hbm, ⟨45, _⟩ => ⟨S1x4096x4096, .f32⟩
  | .hbm, ⟨46, _⟩ => ⟨S1x4096x4096, .f32⟩
  | .hbm, ⟨47, _⟩ => ⟨S_, .f32⟩
  | .hbm, ⟨48, _⟩ => ⟨S1x4096x4096, .f32⟩
  | .hbm, ⟨49, _⟩ => ⟨S1x4096x4096, .f32⟩
  | .hbm, ⟨50, _⟩ => ⟨S4096x1024, .f32⟩
  | .hbm, ⟨51, _⟩ => ⟨S1024x4096, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S1x4096x1024, .f32⟩
  | .hbm, ⟨58, _⟩ => ⟨S1x4096x1024, .f32⟩
  | .hbm, ⟨59, _⟩ => ⟨S_, .f32⟩
  | .hbm, ⟨60, _⟩ => ⟨S1024, .f32⟩
  | .hbm, ⟨61, _⟩ => ⟨S1x4096x1024, .f32⟩
  | .hbm, ⟨62, _⟩ => ⟨S_, .f32⟩
  | .hbm, ⟨63, _⟩ => ⟨S1x4096, .f32⟩
  | .hbm, ⟨64, _⟩ => ⟨S1x4096x1, .f32⟩
  | .hbm, ⟨65, _⟩ => ⟨S1x4096x1024, .f32⟩
  | .hbm, ⟨66, _⟩ => ⟨S1x4096x1024, .f32⟩
  | .hbm, ⟨67, _⟩ => ⟨S1x4096x1, .f32⟩
  | .hbm, ⟨68, _⟩ => ⟨S_, .f32⟩
  | .hbm, ⟨69, _⟩ => ⟨S1x4096x1, .f32⟩
  | .hbm, ⟨70, _⟩ => ⟨S1x4096x1, .f32⟩
  | .hbm, ⟨71, _⟩ => ⟨S_, .f32⟩
  | .hbm, ⟨72, _⟩ => ⟨S4096, .f32⟩
  | .hbm, ⟨73, _⟩ => ⟨S1x4096, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S4096x1024, .f32⟩
  | .hbm, ⟨81, _⟩ => ⟨S4096x4096, .f32⟩
  | .hbm, ⟨82, _⟩ => ⟨S4096x4096, .bf16⟩
  | .hbm, ⟨83, _⟩ => ⟨S1x1024, .f32⟩
  | .hbm, ⟨84, _⟩ => ⟨S4096x1024, .bf16⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel3.lean ====
abbrev S4096x2560 : Shape := ⟨2, ![4096, 2560]⟩
abbrev S4096x2048 : Shape := ⟨2, ![4096, 2048]⟩
abbrev S4096x1024 : Shape := ⟨2, ![4096, 1024]⟩
abbrev S1024 : Shape := ⟨1, ![1024]⟩
abbrev S1024x6656 : Shape := ⟨2, ![1024, 6656]⟩
abbrev S1024x4x1664 : Shape := ⟨3, ![1024, 4, 1664]⟩
abbrev S4x1024x1664 : Shape := ⟨3, ![4, 1024, 1664]⟩
abbrev S1x4x1024x1664 : Shape := ⟨4, ![1, 4, 1024, 1664]⟩
abbrev S1x1024 : Shape := ⟨2, ![1, 1024]⟩
abbrev S4096x6656 : Shape := ⟨2, ![4096, 6656]⟩
abbrev S512x2560 : Shape := ⟨2, ![512, 2560]⟩
abbrev S512x2048 : Shape := ⟨2, ![512, 2048]⟩
abbrev S512x1024 : Shape := ⟨2, ![512, 1024]⟩
abbrev S512x6656 : Shape := ⟨2, ![512, 6656]⟩
abbrev S512x1664 : Shape := ⟨2, ![512, 1664]⟩
abbrev S1x1x1024x1664 : Shape := ⟨4, ![1, 1, 1024, 1664]⟩
abbrev S1024x1664 : Shape := ⟨2, ![1024, 1664]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024x6656, .f32⟩
  | .hbm, ⟨7, _⟩ => ⟨S1024x6656, .bf16⟩
  | .hbm, ⟨8, _⟩ => ⟨S1024x4x1664, .bf16⟩
  | .hbm, ⟨9, _⟩ => ⟨S4x1024x1664, .bf16⟩
  | .hbm, ⟨10, _⟩ => ⟨S1x4x1024x1664, .bf16⟩
  | .hbm, ⟨11, _⟩ => ⟨S1x1024, .f32⟩
  | .hbm, ⟨12, _⟩ => ⟨S4096x1024, .f32⟩
  | .hbm, ⟨13, _⟩ => ⟨S4096x6656, .bf16⟩
  | .hbm, ⟨14, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x4x1024x1664, .bf16⟩
  | .local _ .vmem, ⟨12, _⟩ => ⟨S512x1024, .f32⟩
  | .local _ .vmem, ⟨13, _⟩ => ⟨S512x1024, .f32⟩
  | .local _ .vmem, ⟨14, _⟩ => ⟨S512x6656, .bf16⟩
  | .local _ .vmem, ⟨15, _⟩ => ⟨S512x6656, .bf16⟩
  | .local _ .vmem, ⟨16, _⟩ => ⟨S1x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x6656 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2560 : Shape := ⟨2, ![4096, 2560]⟩
abbrev S4096x2048 : Shape := ⟨2, ![4096, 2048]⟩
abbrev S4096x1024 : Shape := ⟨2, ![4096, 1024]⟩
abbrev S1024 : Shape := ⟨1, ![1024]⟩
abbrev S1024x6656 : Shape := ⟨2, ![1024, 6656]⟩
abbrev S4096x6656 : Shape := ⟨2, ![4096, 6656]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x6656 : Shape := ⟨3, ![1, 4096, 6656]⟩
abbrev S6656x1024 : Shape := ⟨2, ![6656, 1024]⟩
abbrev S1x1024 : Shape := ⟨2, ![1, 1024]⟩
abbrev S4096 : Shape := ⟨1, ![4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024x6656, .f32⟩
  | .hbm, ⟨7, _⟩ => ⟨S4096x6656, .bf16⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x4096x6656, .f32⟩
  | .hbm, ⟨30, _⟩ => ⟨S4096x6656, .f32⟩
  | .hbm, ⟨31, _⟩ => ⟨S1x4096x6656, .f32⟩
  | .hbm, ⟨32, _⟩ => ⟨S6656x1024, .f32⟩
  | .hbm, ⟨33, _⟩ => ⟨S1024x6656, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1024, .f32⟩
  | .hbm, ⟨43, _⟩ => ⟨S1x4096x1024, .f32⟩
  | .hbm, ⟨44, _⟩ => ⟨S_, .f32⟩
  | .hbm, ⟨45, _⟩ => ⟨S1x4096, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x4096x1, .f32⟩
  | .hbm, ⟨50, _⟩ => ⟨S_, .f32⟩
  | .hbm, ⟨51, _⟩ => ⟨S1x4096x1, .f32⟩
  | .hbm, ⟨52, _⟩ => ⟨S1x4096x1, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S4096x1024, .f32⟩
  | .hbm, ⟨62, _⟩ => ⟨S4096x1024, .f32⟩
  | .hbm, ⟨63, _⟩ => ⟨S1x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel4.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1x4096x1280 : Shape := ⟨3, ![1, 4096, 1280]⟩
abbrev S1x4096x1024 : Shape := ⟨3, ![1, 4096, 1024]⟩
abbrev S1x1280x1024 : Shape := ⟨3, ![1, 1280, 1024]⟩
abbrev S1x1024x1024 : Shape := ⟨3, ![1, 1024, 1024]⟩
abbrev S4096x2048 : Shape := ⟨2, ![4096, 2048]⟩
abbrev S512x1024 : Shape := ⟨2, ![512, 1024]⟩
abbrev S512x512 : Shape := ⟨2, ![512, 512]⟩
abbrev S512x2048 : Shape := ⟨2, ![512, 2048]⟩
abbrev S512x1280 : Shape := ⟨2, ![512, 1280]⟩

abbrev nBuf : Space → Nat
  | .hbm => 28
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S4096x1280, .f32⟩
  | .hbm, ⟨8, _⟩ => ⟨S1x4096x1280, .f32⟩
  | .hbm, ⟨9, _⟩ => ⟨S1x4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S1x4096x1024, .f32⟩
  | .hbm, ⟨14, _⟩ => ⟨S1x4096x1024, .f32⟩
  | .hbm, ⟨15, _⟩ => ⟨S4096x1024, .f32⟩
  | .hbm, ⟨16, _⟩ => ⟨S4096x1024, .bf16⟩
  | .hbm, ⟨17, _⟩ => ⟨S1280x1024, .bf16⟩
  | .hbm, ⟨18, _⟩ => ⟨S1x1280x1024, .bf16⟩
  | .hbm, ⟨19, _⟩ => ⟨S1024x1024, .bf16⟩
  | .hbm, ⟨20, _⟩ => ⟨S1x1024x1024, .bf16⟩
  | .hbm, ⟨21, _⟩ => ⟨S1024x1024, .bf16⟩
  | .hbm, ⟨22, _⟩ => ⟨S1x1024x1024, .bf16⟩
  | .hbm, ⟨23, _⟩ => ⟨S4096x1024, .bf16⟩
  | .hbm, ⟨24, _⟩ => ⟨S4096x1024, .bf16⟩
  | .hbm, ⟨25, _⟩ => ⟨S4096x2048, .bf16⟩
  | .hbm, ⟨26, _⟩ => ⟨S4096x1280, .bf16⟩
  | .hbm, ⟨27, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1280x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | .local _ .vmem, ⟨23, _⟩ => ⟨S512x1280, .bf16⟩
  | .local _ .vmem, ⟨24, _⟩ => ⟨S512x1280, .bf16⟩
  | .local _ .vmem, ⟨25, _⟩ => ⟨S512x1024, .bf16⟩
  | .local _ .vmem, ⟨26, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1x4096x1024 : Shape := ⟨3, ![1, 4096, 1024]⟩
abbrev S1x4096x1280 : Shape := ⟨3, ![1, 4096, 1280]⟩
abbrev S_ : Shape := ⟨0, ![]⟩
abbrev S1024x1280 : Shape := ⟨2, ![1024, 1280]⟩
abbrev S4096x2048 : Shape := ⟨2, ![4096, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S4096x6656, .f32⟩
  | .hbm, ⟨8, _⟩ => ⟨S4096x1024, .f32⟩
  | .hbm, ⟨9, _⟩ => ⟨S1x4096x1024, .f32⟩
  | .hbm, ⟨10, _⟩ => ⟨S4096x6656, .f32⟩
  | .hbm, ⟨11, _⟩ => ⟨S4096x1024, .f32⟩
  | .hbm, ⟨12, _⟩ => ⟨S1x4096x1024, .f32⟩
  | .hbm, ⟨13, _⟩ => ⟨S4096x1280, .f32⟩
  | .hbm, ⟨14, _⟩ => ⟨S1x4096x1280, .f32⟩
  | .hbm, ⟨15, _⟩ => ⟨S1x4096x1024, .f32⟩
  | .hbm, ⟨16, _⟩ => ⟨S4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1024x1024, .f32⟩
  | .hbm, ⟨49, _⟩ => ⟨S1024x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1024x1280, .f32⟩
  | .hbm, ⟨58, _⟩ => ⟨S1280x1024, .f32⟩
  | .hbm, ⟨59, _⟩ => ⟨S1x4096x1280, .f32⟩
  | .hbm, ⟨60, _⟩ => ⟨S1024x1024, .f32⟩
  | .hbm, ⟨61, _⟩ => ⟨S1024x1024, .f32⟩
  | .hbm, ⟨62, _⟩ => ⟨S1x4096x1024, .f32⟩
  | .hbm, ⟨63, _⟩ => ⟨S4096x1024, .f32⟩
  | .hbm, ⟨64, _⟩ => ⟨S4096x1024, .f32⟩
  | .hbm, ⟨65, _⟩ => ⟨S4096x2048, .f32⟩
  | .hbm, ⟨66, _⟩ => ⟨S4096x2048, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x1280, .f32⟩
  | .hbm, ⟨72, _⟩ => ⟨S4096x1280, .bf16⟩
  | .hbm, ⟨73, _⟩ => ⟨S4096x1024, .f32⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S4096x4096 : Shape := ⟨2, ![4096, 4096]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩
abbrev S1x1024x1024 : Shape := ⟨3, ![1, 1024, 1024]⟩

abbrev nBuf : Space → Nat
  | .hbm => 31
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S4096x1024, .f32⟩
  | .hbm, ⟨22, _⟩ => ⟨S4096x1024, .bf16⟩
  | .hbm, ⟨23, _⟩ => ⟨S1024x4096, .bf16⟩
  | .hbm, ⟨24, _⟩ => ⟨S1024x4x1024, .bf16⟩
  | .hbm, ⟨25, _⟩ => ⟨S4x1024x1024, .bf16⟩
  | .hbm, ⟨26, _⟩ => ⟨S1x4x1024x1024, .bf16⟩
  | .hbm, ⟨27, _⟩ => ⟨S4096x1024, .bf16⟩
  | .hbm, ⟨28, _⟩ => ⟨S1x4096x1024, .bf16⟩
  | .hbm, ⟨29, _⟩ => ⟨S4096x1024, .f32⟩
  | .hbm, ⟨30, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x4x1024x1024, .bf16⟩
  | .local _ .vmem, ⟨5, _⟩ => ⟨S1x4096x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024 : Shape := ⟨1, ![1024]⟩
abbrev S1024x4096 : Shape := ⟨2, ![1024, 4096]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4096 : Shape := ⟨2, ![4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1x4096x4096, .f32⟩
  | .hbm, ⟨22, _⟩ => ⟨S1x4096x1024, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S1x4096x1024, .f32⟩
  | .hbm, ⟨28, _⟩ => ⟨S1x4096x1024, .f32⟩
  | .hbm, ⟨29, _⟩ => ⟨S4096x1024, .f32⟩
  | .hbm, ⟨30, _⟩ => ⟨S4096x4096, .f32⟩
  | .hbm, ⟨31, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel6.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1024 : Shape := ⟨1, ![1024]⟩
abbrev S1x1280x1024 : Shape := ⟨3, ![1, 1280, 1024]⟩
abbrev S1x1024x1024 : Shape := ⟨3, ![1, 1024, 1024]⟩
abbrev S1x1024 : Shape := ⟨2, ![1, 1024]⟩
abbrev S512x1024 : Shape := ⟨2, ![512, 1024]⟩
abbrev S512x512 : Shape := ⟨2, ![512, 512]⟩
abbrev S512x1280 : Shape := ⟨2, ![512, 1280]⟩
abbrev S512 : Shape := ⟨1, ![512]⟩
abbrev S512x1 : Shape := ⟨2, ![512, 1]⟩

abbrev nBuf : Space → Nat
  | .hbm => 20
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1280x1024, .bf16⟩
  | .hbm, ⟨9, _⟩ => ⟨S1x1280x1024, .bf16⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S1x1024x1024, .bf16⟩
  | .hbm, ⟨14, _⟩ => ⟨S1x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1280, .bf16⟩
  | .local _ .vmem, ⟨11, _⟩ => ⟨S512x1280, .bf16⟩
  | .local _ .vmem, ⟨12, _⟩ => ⟨S512x1024, .bf16⟩
  | .local _ .vmem, ⟨13, _⟩ => ⟨S512x1024, .bf16⟩
  | .local _ .vmem, ⟨14, _⟩ => ⟨S1x1280x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1024 : Shape := ⟨1, ![1024]⟩
abbrev S1x4096x1024 : Shape := ⟨3, ![1, 4096, 1024]⟩
abbrev S1x4096x1280 : Shape := ⟨3, ![1, 4096, 1280]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x6656, .f32⟩
  | .hbm, ⟨9, _⟩ => ⟨S4096x1024, .f32⟩
  | .hbm, ⟨10, _⟩ => ⟨S1x4096x1024, .f32⟩
  | .hbm, ⟨11, _⟩ => ⟨S4096x6656, .f32⟩
  | .hbm, ⟨12, _⟩ => ⟨S4096x1024, .f32⟩
  | .hbm, ⟨13, _⟩ => ⟨S1x4096x1024, .f32⟩
  | .hbm, ⟨14, _⟩ => ⟨S4096x1280, .f32⟩
  | .hbm, ⟨15, _⟩ => ⟨S1x4096x1280, .f32⟩
  | .hbm, ⟨16, _⟩ => ⟨S1x4096x1024, .f32⟩
  | .hbm, ⟨17, _⟩ => ⟨S4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096, .f32⟩
  | .hbm, ⟨45, _⟩ => ⟨S1x4096x1, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S_, .f32⟩
  | .hbm, ⟨50, _⟩ => ⟨S1x4096x1, .f32⟩
  | .hbm, ⟨51, _⟩ => ⟨S1x4096x1, .f32⟩
  | .hbm, ⟨52, _⟩ => ⟨S1x4096x1, .f32⟩
  | .hbm, ⟨53, _⟩ => ⟨S1x4096x1024, .f32⟩
  | .hbm, ⟨54, _⟩ => ⟨S1x4096x1024, .f32⟩
  | .hbm, ⟨55, _⟩ => ⟨S1x1x1024, .f32⟩
  | .hbm, ⟨56, _⟩ => ⟨S1x4096x1024, .f32⟩
  | .hbm, ⟨57, _⟩ => ⟨S1x4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x1024, .f32⟩
  | .hbm, ⟨62, _⟩ => ⟨S4096x1024, .bf16⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x6656 : Shape := ⟨2, ![1024, 6656]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4x1664 : Shape := ⟨3, ![1024, 4, 1664]⟩
abbrev S4x1024x1664 : Shape := ⟨3, ![4, 1024, 1664]⟩
abbrev S1x4x1024x1664 : Shape := ⟨4, ![1, 4, 1024, 1664]⟩
abbrev S4096x6656 : Shape := ⟨2, ![4096, 6656]⟩
abbrev S1024x1024 : Shape := ⟨2, ![1024, 1024]⟩
abbrev S1x1x1024x1664 : Shape := ⟨4, ![1, 1, 1024, 1664]⟩
abbrev S1024x1664 : Shape := ⟨2, ![1024, 1664]⟩

abbrev nBuf : Space → Nat
  | .hbm => 27
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6656, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S4096x1024, .f32⟩
  | .hbm, ⟨21, _⟩ => ⟨S4096x1024, .bf16⟩
  | .hbm, ⟨22, _⟩ => ⟨S1024x6656, .bf16⟩
  | .hbm, ⟨23, _⟩ => ⟨S1024x4x1664, .bf16⟩
  | .hbm, ⟨24, _⟩ => ⟨S4x1024x1664, .bf16⟩
  | .hbm, ⟨25, _⟩ => ⟨S1x4x1024x1664, .bf16⟩
  | .hbm, ⟨26, _⟩ => ⟨S4096x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1664, .bf16⟩
  | .local _ .vmem, ⟨3, _⟩ => ⟨S1x1x1024x1664, .bf16⟩
  | .local _ .vmem, ⟨4, _⟩ => ⟨S1024x1664, .bf16⟩
  | .local _ .vmem, ⟨5, _⟩ => ⟨S1024x1664, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024 : Shape := ⟨1, ![1024]⟩
abbrev S1024x6656 : Shape := ⟨2, ![1024, 6656]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x6656 : Shape := ⟨3, ![1, 4096, 6656]⟩
abbrev S4096x6656 : Shape := ⟨2, ![4096, 6656]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6656, .f32⟩
  | .hbm, ⟨3, _⟩ => ⟨S1x4096x1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x6656, .f32⟩
  | .hbm, ⟨21, _⟩ => ⟨S4096x6656, .f32⟩
  | .hbm, ⟨22, _⟩ => ⟨S4096x6656, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x1024 : Shape := ⟨2, ![4096, 1024]⟩
abbrev S1024 : Shape := ⟨1, ![1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1024, .f32⟩
  | .hbm, ⟨56, _⟩ => ⟨S1x4096x1024, .f32⟩
  | .hbm, ⟨57, _⟩ => ⟨S_, .f32⟩
  | .hbm, ⟨58, _⟩ => ⟨S1x4096, .f32⟩
  | .hbm, ⟨59, _⟩ => ⟨S1x4096x1, .f32⟩
  | .hbm, ⟨60, _⟩ => ⟨S1x4096x1024, .f32⟩
  | .hbm, ⟨61, _⟩ => ⟨S1x4096x1024, .f32⟩
  | .hbm, ⟨62, _⟩ => ⟨S1x4096x1, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S4096x1024, .f32⟩
  | .hbm, ⟨75, _⟩ => ⟨S1x128, .f32⟩
  | .hbm, ⟨76, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proof.Lift.lean ====
/-
  REAL ARITHMETIC INSIDE THE EXTENDED REALS. A number that is finite is the cast `((r : ℝ) : EReal)` of a real; the lemmas
  here say that the operations of the two programs take casts to casts: a sum, a product, a difference, a finite sum, a
  `tanh`, a reciprocal square root of a positive number, a quotient by a literal. They are in the `pointwise` set, so that
  reading a term at an index also carries the cast from its leaves to its root. Over the reals the algebra is then the
  ordinary one (`ring`).
-/
module

public import Idealize.ShloMosaic.Lib.Pointwise
public import Idealize.ShloMosaic.PureOps.IdealRules

@[expose] public section

noncomputable section

namespace Cert.Lift

open Idealize.ShloMosaic

/-! ### Operations on casts -/

@[pointwise] theorem add (a b : ℝ) : (a : EReal) + (b : EReal) = ((a + b : ℝ) : EReal) := (EReal.coe_add a b).symm
@[pointwise] theorem mul (a b : ℝ) : (a : EReal) * (b : EReal) = ((a * b : ℝ) : EReal) := (EReal.coe_mul a b).symm
@[pointwise] theorem sub (a b : ℝ) : (a : EReal) - (b : EReal) = ((a - b : ℝ) : EReal) := (EReal.coe_sub a b).symm
@[pointwise] theorem neg (a : ℝ) : -(a : EReal) = ((-a : ℝ) : EReal) := (EReal.coe_neg a).symm
@[pointwise] theorem one_add (a : ℝ) : (1 : EReal) + (a : EReal) = ((1 + a : ℝ) : EReal) := (EReal.coe_add 1 a).symm
@[pointwise] theorem add_one (a : ℝ) : (a : EReal) + (1 : EReal) = ((a + 1 : ℝ) : EReal) := (EReal.coe_add a 1).symm
@[pointwise] theorem one_sub (a : ℝ) : (1 : EReal) - (a : EReal) = ((1 - a : ℝ) : EReal) := (EReal.coe_sub 1 a).symm
@[pointwise] theorem zero_mul (a : ℝ) : (0 : EReal) * (a : EReal) = ((0 : ℝ) : EReal) := by simp
@[pointwise] theorem mul_zero (a : ℝ) : (a : EReal) * (0 : EReal) = ((0 : ℝ) : EReal) := by simp
@[pointwise] theorem zero_sub (a : ℝ) : (0 : EReal) - (a : EReal) = ((-a : ℝ) : EReal) := by simp
@[pointwise] theorem tanh (a : ℝ) : Ideal.tanh (a : EReal) = ((Real.tanh a : ℝ) : EReal) := Ideal.tanh_coe a

/-- The cast of a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

@[pointwise] theorem sum {ι : Type*} (s : Finset ι) (f : ι → ℝ) : ∑ i ∈ s, (f i : EReal) = ((∑ i ∈ s, f i : ℝ) : EReal) :=
  (coe_sum s f).symm

/-- A quotient by a nonzero number. -/
theorem div {b : ℝ} (h : b ≠ 0) (a : ℝ) : Ideal.div (a : EReal) (b : EReal) = ((a / b : ℝ) : EReal) := by
  rw [Ideal.div_coe h, mul, mul_one_div]

@[pointwise] theorem div_1024 (a : ℝ) : Ideal.div (a : EReal) ((1024 : ℝ) : EReal) = ((a / 1024 : ℝ) : EReal) := div (by norm_num) a

/-- The reciprocal square root of a positive number. -/
theorem rsqrt {a : ℝ} (h : 0 < a) : Ideal.rsqrt (a : EReal) = (((Real.sqrt a)⁻¹ : ℝ) : EReal) := by
  rw [Ideal.rsqrt_coe, if_neg (not_lt.2 h.le), if_neg h.ne']

/-! ### The literals the programs hold -/

@[pointwise] theorem half_f32 : Ideal.ofBits .f32 0x3F000000#32 = ((1 / 2 : ℝ) : EReal) := by
  simp [Ideal.ofBits, Ideal.ieee, -EReal.coe_mul]; norm_num
@[pointwise] theorem half_bf16 : Ideal.ofBits .bf16 0x3F00#16 = ((1 / 2 : ℝ) : EReal) := by
  simp [Ideal.ofBits, Ideal.ieee, -EReal.coe_mul]; norm_num
@[pointwise] theorem neg_half_f32 : Ideal.ofBits .f32 0xBF000000#32 = ((-(1 / 2) : ℝ) : EReal) := by
  simp [Ideal.ofBits, Ideal.ieee, -EReal.coe_mul]; norm_num
@[pointwise] theorem three_f32 : Ideal.ofBits .f32 0x40400000#32 = ((3 : ℝ) : EReal) := by
  simp [Ideal.ofBits, Ideal.ieee, -EReal.coe_mul]; norm_num
@[pointwise] theorem width_f32 : Ideal.ofBits .f32 0x44800000#32 = ((1024 : ℝ) : EReal) := by
  simp [Ideal.ofBits, Ideal.ieee, -EReal.coe_mul]; norm_num
/-- The coefficients of the gelu, as the float32 words of reference.py. -/
@[pointwise] theorem gelu_a_f32 : Ideal.ofBits .f32 0x3D372713#32 = ((12003091 / 268435456 : ℝ) : EReal) := by
  simp [Ideal.ofBits, Ideal.ieee, -EReal.coe_mul]; norm_num
@[pointwise] theorem gelu_c_f32 : Ideal.ofBits .f32 0x3F4C422A#32 = ((6693141 / 8388608 : ℝ) : EReal) := by
  simp [Ideal.ofBits, Ideal.ieee, -EReal.coe_mul]; norm_num
/-- The `1e-6` under the square root of the layernorm. -/
@[pointwise] theorem eps_f32 : Ideal.ofBits .f32 0x358637BD#32 = ((8796093 / 8796093022208 : ℝ) : EReal) := by
  simp [Ideal.ofBits, Ideal.ieee, -EReal.coe_mul]; norm_num

/-! ### A finite number is a cast -/

theorem inf_f32 : Ideal.ofBits .f32 0x7F800000#32 = (⊤ : EReal) := by
  simp [Ideal.ofBits, Ideal.ieee]
theorem inf_bf16 : Ideal.ofBits .bf16 0x7F80#16 = (⊤ : EReal) := by
  simp [Ideal.ofBits, Ideal.ieee]

end Cert.Lift

end
-- ==== Proof.SguReal.lean ====
/-
  THE GRADIENT OF THE SPATIAL GATING UNIT, OVER THE REALS. An array is a function of its coordinates as natural numbers.
  The forward part reads `dy` (the cotangent), `u` and `v` (the two halves of the projection), the mixing weights `w`, their
  bias `b` and the layernorm's scale and shift `lg`, `lb`:

      gv = gelu v,  nh = (gv - mean gv) / sqrt (var gv + eps),  vn = nh * lg + lb
      mix r c = ∑ s, (w * mask) (group of c) (r in its block) s * vn (row s of r's block) c + b
      out = gelu u * mix

  and the functions below are what both programs compute: the gradient of `out`, contracted with `dy`, by `u`, `v`, `w`, `b`,
  `lg` and `lb`. A block is 128 rows; a group is 128 columns; the mask keeps a pair of rows when the second is in no later
  chunk of 64 rows than the first.
-/
module

public import proofs.«01_k».proof.Proof.Lift

@[expose] public section

noncomputable section

namespace Cert.Sgu

/-! ### The gelu -/

/-- The two coefficients of the gelu and the layernorm's `1e-6`, as the float32 numbers the step computes with. -/
def ga : ℝ := 12003091 / 268435456
def gc : ℝ := 6693141 / 8388608
def eps : ℝ := 8796093 / 8796093022208

theorem eps_pos : 0 < eps := by unfold eps; norm_num

def th (x : ℝ) : ℝ := Real.tanh (gc * (x + ga * (x * x * x)))
def gelu (x : ℝ) : ℝ := 1 / 2 * x * (1 + th x)
def dgelu (x : ℝ) : ℝ := 1 / 2 * (1 + th x) + 1 / 2 * x * (1 - th x * th x) * (gc * (1 + 3 * ga * (x * x)))

/-! ### The layernorm of one row -/

def mean (x : ℕ → ℝ) : ℝ := (∑ c : Fin 1024, x c) / 1024
def cen (x : ℕ → ℝ) (c : ℕ) : ℝ := x c - mean x
def var (x : ℕ → ℝ) : ℝ := (∑ c : Fin 1024, cen x c * cen x c) / 1024
def rstd (x : ℕ → ℝ) : ℝ := (Real.sqrt (var x + eps))⁻¹
def nrm (x : ℕ → ℝ) (c : ℕ) : ℝ := cen x c * rstd x

theorem var_nonneg (x : ℕ → ℝ) : 0 ≤ var x :=
  div_nonneg (Finset.sum_nonneg fun c _ => mul_self_nonneg _) (by norm_num)

theorem var_pos (x : ℕ → ℝ) : 0 < var x + eps := add_pos_of_nonneg_of_pos (var_nonneg x) eps_pos

/-- The gradient of the normalisation at the row `x`, contracted with `d`. -/
def dnrm (x d : ℕ → ℝ) (c : ℕ) : ℝ :=
  rstd x * (d c - mean d - nrm x c * mean (fun k => d k * nrm x k))

/-! ### The arrays -/

variable (dy u v : ℕ → ℕ → ℝ) (w : ℕ → ℕ → ℕ → ℝ) (b : ℕ → ℕ → ℝ) (lg lb : ℕ → ℝ)

def msk (t s : ℕ) : ℝ := if s / 64 ≤ t / 64 then 1 else 0
def wm (g t s : ℕ) : ℝ := w g t s * msk t s
def gv (r c : ℕ) : ℝ := gelu (v r c)
def nh (r c : ℕ) : ℝ := nrm (gv v r) c
def vn (r c : ℕ) : ℝ := nh v r c * lg c + lb c
def mix (r c : ℕ) : ℝ := ∑ s : Fin 128, wm w (c / 128) (r % 128) s * vn v lg lb (128 * (r / 128) + s) c + b (c / 128) (r % 128)
def dmix (r c : ℕ) : ℝ := dy r c * gelu (u r c)

/-- The gradient by `u`. -/
def du (r c : ℕ) : ℝ := dy r c * mix v w b lg lb r c * dgelu (u r c)
/-- The gradient by the normalised, scaled and shifted rows. -/
def dvn (r c : ℕ) : ℝ := ∑ t : Fin 128, wm w (c / 128) t (r % 128) * dmix dy u (128 * (r / 128) + t) c
/-- The gradient by `v`. -/
def dv (r c : ℕ) : ℝ := dnrm (gv v r) (fun k => dvn dy u w r k * lg k) c * dgelu (v r c)
/-- One block's part of the gradient by the mixing weights, and of the gradient by their bias. -/
def dwsAt (q g t s : ℕ) : ℝ := ∑ j : Fin 128, dmix dy u (128 * q + t) (128 * g + j) * vn v lg lb (128 * q + s) (128 * g + j)
def dws (g t s : ℕ) : ℝ := (∑ q : Fin 32, dwsAt dy u v lg lb q g t s) * msk t s
def dbs (t g : ℕ) : ℝ := ∑ q : Fin 32, ∑ j : Fin 128, dmix dy u (128 * q + t) (128 * g + j)
/-- The gradients by the layernorm's scale and shift. -/
def dlg (c : ℕ) : ℝ := ∑ r : Fin 4096, dvn dy u w r c * nh v r c
def dlb (c : ℕ) : ℝ := ∑ r : Fin 4096, dvn dy u w r c

/-! ### The same at a block and a group -/

theorem mix_at (q t g j : ℕ) (ht : t < 128) (hj : j < 128) :
    mix v w b lg lb (128 * q + t) (128 * g + j)
      = ∑ s : Fin 128, wm w g t s * vn v lg lb (128 * q + s) (128 * g + j) + b g t := by
  have h1 : (128 * g + j) / 128 = g := by omega
  have h2 : (128 * q + t) % 128 = t := by omega
  have h3 : (128 * q + t) / 128 = q := by omega
  unfold mix; rw [h1, h2, h3]

theorem dvn_at (q t g j : ℕ) (ht : t < 128) (hj : j < 128) :
    dvn dy u w (128 * q + t) (128 * g + j) = ∑ s : Fin 128, wm w g s t * dmix dy u (128 * q + s) (128 * g + j) := by
  have h1 : (128 * g + j) / 128 = g := by omega
  have h2 : (128 * q + t) % 128 = t := by omega
  have h3 : (128 * q + t) / 128 = q := by omega
  unfold dvn; rw [h1, h2, h3]

/-! ### The normalisation's gradient, as differentiation writes it -/

theorem sum_cen (x : ℕ → ℝ) : ∑ c : Fin 1024, cen x c = 0 := by
  unfold cen mean
  rw [Finset.sum_sub_distrib]; simp; ring

theorem rstd_sq (x : ℕ → ℝ) : rstd x / (var x + eps) = rstd x * rstd x * rstd x := by
  have h := var_pos x
  have hs : rstd x * rstd x = (var x + eps)⁻¹ := by
    unfold rstd; rw [← mul_inv, Real.mul_self_sqrt h.le]
  rw [mul_assoc, mul_comm (rstd x), hs, div_eq_mul_inv, mul_comm]

/-- What differentiating the centred rows twice — once through the mean of squares, once through the difference itself —
    leaves, with the mean of the whole taken off: it is `dnrm`, because centred rows sum to zero. -/
theorem dnrm_eq (x d : ℕ → ℝ) (c : ℕ) :
    (d c * rstd x + cen x c * ((∑ k : Fin 1024, cen x k * d k) * (-(1 / 2) * (rstd x / (var x + eps))) / 1024)
        + ((∑ k : Fin 1024, cen x k * d k) * (-(1 / 2) * (rstd x / (var x + eps))) / 1024) * cen x c)
      + (∑ k : Fin 1024, -(d k * rstd x + cen x k * ((∑ k : Fin 1024, cen x k * d k) * (-(1 / 2) * (rstd x / (var x + eps))) / 1024)
        + ((∑ k : Fin 1024, cen x k * d k) * (-(1 / 2) * (rstd x / (var x + eps))) / 1024) * cen x k)) / 1024
      = dnrm x d c := by
  rw [rstd_sq]
  generalize hA : (∑ k : Fin 1024, cen x k * d k) * (-(1 / 2) * (rstd x * rstd x * rstd x)) / 1024 = A
  have h0 : ∑ k : Fin 1024, -(d k * rstd x + cen x k * A + A * cen x k) = -(∑ k : Fin 1024, d k) * rstd x := by
    have : ∀ k : Fin 1024, -(d k * rstd x + cen x k * A + A * cen x k) = -(rstd x) * d k - 2 * A * cen x k := fun k => by ring
    simp only [this]
    rw [Finset.sum_sub_distrib, ← Finset.mul_sum, ← Finset.mul_sum, sum_cen]; ring
  rw [h0]
  have h1 : mean (fun k => d k * nrm x k) = (∑ k : Fin 1024, cen x k * d k) * rstd x / 1024 := by
    unfold mean nrm
    rw [Finset.sum_mul]; congr 1; exact Finset.sum_congr rfl fun k _ => by ring
  unfold dnrm; rw [h1, ← hA]
  unfold mean nrm; ring

end Cert.Sgu

end
-- ==== Proof.SguKer1.lean ====
/-
  THE KERNEL'S ROWWISE VALUES AT REAL ARGUMENTS: the gelu and its slope at the two halves of the projection, the layernorm,
  the scaled and shifted rows and the gradient by the mix, of one block of 512 rows. Each payload, read at an index, is the
  cast of a function of `SguReal`.
-/
module

public import proofs.«01_k».proof.Proof.SguReal
public import proofs.«01_k».proof.Proof.Gen.KernelIdeal.Skeleton

@[expose] public section

set_option maxRecDepth 16384
set_option backward.proofsInPublic true

noncomputable section

namespace Cert.Sgu.Ker

open Cert.KernelIdeal Cert.KernelIdeal.Gen Idealize.ShloMosaic Cert.Sgu

@[pointwise] theorem named_a : Named.named (F := Ideal) (φ := .bf16) κ "gelu_a" 0x3D37#16 = ((ga : ℝ) : EReal) :=
  IdealRules.named_const.ideal_named_scalar _ _ _ _ rfl
@[pointwise] theorem named_c : Named.named (F := Ideal) (φ := .bf16) κ "gelu_c" 0x3F4C#16 = ((gc : ℝ) : EReal) :=
  IdealRules.named_const.ideal_named_scalar _ _ _ _ rfl
@[pointwise] theorem named_3a : Named.named (F := Ideal) (φ := .bf16) κ "gelu_3a" 0x3E09#16 = ((3 * ga : ℝ) : EReal) := by
  rw [IdealRules.named_const.ideal_named_scalar κ "gelu_3a" (φ := .bf16) 0x3E09#16 ((36009273 / 268435456 : ℝ) : EReal) rfl]
  unfold ga; norm_num

/-- A block of rows holds the casts of a real array. -/
abbrev Rows (x : S512x1024.Idx → EReal) (f : ℕ → ℕ → ℝ) : Prop := ∀ (r : Fin 512) (c : Fin 1024), x (ix2 r c) = ((f r c : ℝ) : EReal)

section half
variable {x : S512x1024.Idx → EReal} {f : ℕ → ℕ → ℝ} (H : Rows x f)
include H

theorem pay25 : Rows (k0_pay25 (F := Ideal) x) fun r c => th (f r c) := fun r c => by
  pointwise [k0_pay25, k0_pay24, H r c]
  congr 1; unfold th; congr 1; ring

theorem gu : Rows (k0_pay26 (F := Ideal) x) fun r c => gelu (f r c) := fun r c => by
  pointwise [k0_pay26, pay25 H r c, H r c]
  rfl

theorem dgu : Rows (k0_pay27 (F := Ideal) x) fun r c => dgelu (f r c) := fun r c => by
  pointwise [k0_pay27, k0_pay24, pay25 H r c, H r c]
  unfold dgelu; rfl

theorem pay29 : Rows (k0_pay29 (F := Ideal) x) fun r c => ga * (f r c * f r c) * f r c := fun r c => by
  pointwise [k0_pay29, k0_pay28, H r c]

theorem pay30 : Rows (k0_pay30 (F := Ideal) x (k0_pay29 x)) fun r c => th (f r c) := fun r c => by
  pointwise [k0_pay30, pay29 H r c, H r c]
  congr 1; unfold th; congr 1; ring

theorem dgv : Rows (k0_pay31 (F := Ideal) x (k0_pay28 x) (k0_pay29 x)) fun r c => dgelu (f r c) := fun r c => by
  pointwise [k0_pay31, k0_pay28, pay30 H r c, H r c]
  unfold dgelu; rfl

theorem pay32 : Rows (k0_pay32 (F := Ideal) x (k0_pay29 x)) fun r c => cen (gv f r) c := fun r c => by
  pointwise [k0_pay32, pay30 H, H]
  rfl

theorem pay33 (r : Fin 512) (a : Fin 1) : k0_pay33 (F := Ideal) x (k0_pay29 x) (ix2 r a) = ((rstd (gv f r) : ℝ) : EReal) := by
  pointwise [k0_pay33, pay32 H]
  exact Lift.rsqrt (var_pos _)

theorem nhat : Rows (k0_pay34 (F := Ideal) x (k0_pay29 x)) fun r c => nh f r c := fun r c => by
  pointwise [k0_pay34, pay32 H, pay33 H]
  rfl

end half

theorem vnorm {z : S512x1024.Idx → EReal} {x5 x6 : S1x1024.Idx → EReal} {v : ℕ → ℕ → ℝ} {lg lb : ℕ → ℝ}
    (Hz : Rows z fun r c => nh v r c)
    (h5 : ∀ (a : Fin 1) (c : Fin 1024), x5 (ix2 a c) = ((lg c : ℝ) : EReal)) (h6 : ∀ (a : Fin 1) (c : Fin 1024), x6 (ix2 a c) = ((lb c : ℝ) : EReal)) :
    Rows (k0_pay36 (F := Ideal) z x5 x6) fun r c => vn v lg lb r c := fun r c => by
  pointwise [k0_pay36, k0_pay35, Hz, h5, h6]
  rfl

theorem dyf {x : S512x1024.Idx → EReal} {dy : ℕ → ℕ → ℝ} (H : Rows x dy) : Rows (k0_pay37 (F := Ideal) x) dy := fun r c => by
  pointwise [k0_pay37, H r c]

theorem dmixf {g d : S512x1024.Idx → EReal} {dy u : ℕ → ℕ → ℝ} (Hg : Rows g fun r c => gelu (u r c)) (Hd : Rows d dy) :
    Rows (k0_pay71 (F := Ideal) g d) fun r c => dmix dy u r c := fun r c => by
  pointwise [k0_pay71, Hg r c, Hd r c]
  rfl

theorem dmixb {g d : S512x1024.Idx → EReal} {dy u : ℕ → ℕ → ℝ} (Hg : Rows g fun r c => gelu (u r c)) (Hd : Rows d dy) :
    Rows (k0_pay72 (F := Ideal) g d) fun r c => dmix dy u r c := fun r c => by
  pointwise [k0_pay72, dmixf Hg Hd]

end Cert.Sgu.Ker

end
-- ==== Proof.SguKer2.lean ====
/-
  THE ROWS OF ONE BLOCK OF THE KERNEL: each of the four blocks of 128 rows of the gradient by the normalised rows, and of the
  mix, is put together from eight products of 128 by 128. At an index each is the cast of the function of `SguReal`.
-/
module

public import proofs.«01_k».proof.Proof.SguKer1

@[expose] public section

set_option maxRecDepth 16384
set_option backward.proofsInPublic true

noncomputable section

namespace Cert.Sgu.Ker

open Cert.KernelIdeal Cert.KernelIdeal.Gen Idealize.ShloMosaic Cert.Sgu

/-- A slab of 128 by 128 under a unit axis holds the casts of a real array. -/
abbrev Slab (x : S1x128x128.Idx → EReal) (f : ℕ → ℕ → ℝ) : Prop := ∀ (a : Fin 1) (t s : Fin 128), x (ix3 a t s) = ((f t s : ℝ) : EReal)

variable {dm vn : S512x1024.Idx → EReal} {W0 W1 W2 W3 W4 W5 W6 W7 B0 B1 B2 B3 B4 B5 B6 B7 : S1x128x128.Idx → EReal}
  {dy u v : ℕ → ℕ → ℝ} {w : ℕ → ℕ → ℕ → ℝ} {b : ℕ → ℕ → ℝ} {lg lb : ℕ → ℝ}

/-- A column of one of the eight products is the sum over the block that the gradient is, at any column of its group. -/
theorem dvn_branch (Q g k c : ℕ) (t : Fin 128) (hQ : Q % 128 = 0) (hk : k = c) (hg : c / 128 = g) :
    ((∑ i : Fin 128, wm w g i t * dmix dy u (Q + i) k : ℝ) : EReal) = ((dvn dy u w (Q + t) c : ℝ) : EReal) := by
  subst hk hg
  have h2 : (Q + t) % 128 = t := by omega
  have h3 : 128 * ((Q + t) / 128) = Q := by omega
  unfold dvn; rw [h2, h3]

theorem dvn_branch0 (g k c : ℕ) (t : Fin 128) (hk : k = c) (hg : c / 128 = g) :
    ((∑ i : Fin 128, wm w g i t * dmix dy u i k : ℝ) : EReal) = ((dvn dy u w t c : ℝ) : EReal) := by
  have := dvn_branch (dy := dy) (u := u) (w := w) 0 g k c t rfl hk hg
  simpa only [Nat.zero_add] using this

theorem mix_branch (Q g k c : ℕ) (t : Fin 128) (hQ : Q % 128 = 0) (hk : k = c) (hg : c / 128 = g) :
    ((∑ i : Fin 128, wm w g t i * Sgu.vn v lg lb (Q + i) k + b g t : ℝ) : EReal) = ((mix v w b lg lb (Q + t) c : ℝ) : EReal) := by
  subst hk hg
  have h2 : (Q + t) % 128 = t := by omega
  have h3 : 128 * ((Q + t) / 128) = Q := by omega
  unfold mix; rw [h2, h3]

theorem mix_branch0 (g k c : ℕ) (t : Fin 128) (hk : k = c) (hg : c / 128 = g) :
    ((∑ i : Fin 128, wm w g t i * Sgu.vn v lg lb i k + b g t : ℝ) : EReal) = ((mix v w b lg lb t c : ℝ) : EReal) := by
  have := mix_branch (v := v) (lg := lg) (lb := lb) (w := w) (b := b) 0 g k c t rfl hk hg
  simpa only [Nat.zero_add] using this

theorem mix_branch' (Q g k c t r : ℕ) (hQ : Q % 128 = 0) (ht : t < 128) (hr : Q + t = r) (hk : k = c) (hg : c / 128 = g) :
    ((∑ i : Fin 128, wm w g t i * Sgu.vn v lg lb (Q + i) k + b g t : ℝ) : EReal) = ((mix v w b lg lb r c : ℝ) : EReal) := by
  subst hr
  exact mix_branch Q g k c ⟨t, ht⟩ hQ hk hg

theorem mix_same (a r c : ℕ) (h : a = r) : ((mix v w b lg lb a c : ℝ) : EReal) = ((mix v w b lg lb r c : ℝ) : EReal) := by rw [h]

theorem du_of (x : EReal) (r c : ℕ) (hx : x = ((mix v w b lg lb r c : ℝ) : EReal)) :
    ((dy r c : ℝ) : EReal) * x * ((dgelu (u r c) : ℝ) : EReal) = ((du dy u v w b lg lb r c : ℝ) : EReal) := by
  rw [hx, ← EReal.coe_mul, ← EReal.coe_mul]; rfl

section dvn
variable (Hdm : Rows dm fun r c => dmix dy u r c)
  (H0 : Slab W0 (wm w 0))
  (H1 : Slab W1 (wm w 1))
  (H2 : Slab W2 (wm w 2))
  (H3 : Slab W3 (wm w 3))
  (H4 : Slab W4 (wm w 4))
  (H5 : Slab W5 (wm w 5))
  (H6 : Slab W6 (wm w 6))
  (H7 : Slab W7 (wm w 7))
include Hdm H0 H1 H2 H3 H4 H5 H6 H7

theorem dvn0 (t : Fin 128) (c : Fin 1024) :
    k0_pay98 (F := Ideal) (k0_pay75 dm W0) (k0_pay78 dm W1) (k0_pay81 dm W2) (k0_pay84 dm W3) (k0_pay87 dm W4) (k0_pay90 dm W5) (k0_pay93 dm W6) (k0_pay96 dm W7)
      (ix2 t c) = ((dvn dy u w (t) c : ℝ) : EReal) := by
  pointwise [k0_pay98, k0_pay75, k0_pay78, k0_pay81, k0_pay84, k0_pay87, k0_pay90, k0_pay93, k0_pay96, k0_pay74, k0_pay77, k0_pay80, k0_pay83, k0_pay86, k0_pay89, k0_pay92, k0_pay95, Hdm, H0, H1, H2, H3, H4, H5, H6, H7]
  have := c.isLt
  split_ifs <;> exact dvn_branch0 _ _ _ t (by omega) (by omega)

theorem dvn1 (t : Fin 128) (c : Fin 1024) :
    k0_pay125 (F := Ideal) dm (k0_pay101 dm W0) (k0_pay104 dm W1) (k0_pay108 dm W2) (k0_pay111 dm W3) (k0_pay114 dm W4) (k0_pay117 dm W5) (k0_pay120 dm W6) W7
      (ix2 t c) = ((dvn dy u w (128 + t) c : ℝ) : EReal) := by
  pointwise [k0_pay125, k0_pay101, k0_pay104, k0_pay108, k0_pay111, k0_pay114, k0_pay117, k0_pay120, k0_pay123, k0_pay100, k0_pay103, k0_pay107, k0_pay110, k0_pay113, k0_pay116, k0_pay119, Hdm, H0, H1, H2, H3, H4, H5, H6, H7]
  have := c.isLt
  split_ifs <;> exact dvn_branch 128 _ _ _ t rfl (by omega) (by omega)

theorem dvn2 (t : Fin 128) (c : Fin 1024) :
    k0_pay152 (F := Ideal) dm (k0_pay128 dm W0) (k0_pay132 (k0_pay130 dm) (k0_pay131 W1)) (k0_pay135 dm W2) (k0_pay138 dm W3) (k0_pay142 dm W4) (k0_pay145 dm W5) (k0_pay147 dm) (k0_pay148 W6) W7
      (ix2 t c) = ((dvn dy u w (256 + t) c : ℝ) : EReal) := by
  pointwise [k0_pay152, k0_pay128, k0_pay132, k0_pay130, k0_pay131, k0_pay135, k0_pay138, k0_pay142, k0_pay145, k0_pay147, k0_pay148, k0_pay150, k0_pay127, k0_pay134, k0_pay137, k0_pay141, k0_pay144, Hdm, H0, H1, H2, H3, H4, H5, H6, H7]
  have := c.isLt
  split_ifs <;> exact dvn_branch 256 _ _ _ t rfl (by omega) (by omega)

theorem dvn3 (t : Fin 128) (c : Fin 1024) :
    k0_pay180 (F := Ideal) dm (k0_pay155 dm W0) (k0_pay160 dm W1) (k0_pay163 dm W2) (k0_pay166 (k0_pay165 dm) W3) (k0_pay169 dm W4) (k0_pay172 dm W5) W6 W7
      (ix2 t c) = ((dvn dy u w (384 + t) c : ℝ) : EReal) := by
  pointwise [k0_pay180, k0_pay155, k0_pay160, k0_pay163, k0_pay166, k0_pay165, k0_pay169, k0_pay172, k0_pay176, k0_pay178, k0_pay154, k0_pay159, k0_pay162, k0_pay168, k0_pay171, Hdm, H0, H1, H2, H3, H4, H5, H6, H7]
  have := c.isLt
  split_ifs <;> exact dvn_branch 384 _ _ _ t rfl (by omega) (by omega)

end dvn

section mix

variable (Hvn : Rows vn fun r c => Sgu.vn v lg lb r c)
  (H0 : Slab W0 (wm w 0))
  (H1 : Slab W1 (wm w 1))
  (H2 : Slab W2 (wm w 2))
  (H3 : Slab W3 (wm w 3))
  (H4 : Slab W4 (wm w 4))
  (H5 : Slab W5 (wm w 5))
  (H6 : Slab W6 (wm w 6))
  (H7 : Slab W7 (wm w 7))
  (J0 : Slab B0 fun t _ => b 0 t)
  (J1 : Slab B1 fun t _ => b 1 t)
  (J2 : Slab B2 fun t _ => b 2 t)
  (J3 : Slab B3 fun t _ => b 3 t)
  (J4 : Slab B4 fun t _ => b 4 t)
  (J5 : Slab B5 fun t _ => b 5 t)
  (J6 : Slab B6 fun t _ => b 6 t)
  (J7 : Slab B7 fun t _ => b 7 t)
include H0 H1 H2 H3 H4 H5 H6 H7 J0 J1 J2 J3 J4 J5 J6 J7

include Hvn in
theorem mix0 {z : S512x1024.Idx → EReal} {x5 x6 : S1x1024.Idx → EReal} (Hz : Rows (k0_pay36 (F := Ideal) z x5 x6) fun r c => Sgu.vn v lg lb r c) (t : Fin 128) (c : Fin 1024) :
    k0_pay47 (F := Ideal) (k0_pay38 z x5 x6 W0 B0) (k0_pay39 z x5 x6 W1 B1) (k0_pay40 z x5 x6 W2 B2) (k0_pay41 vn W3 B3) (k0_pay42 vn W4 B4) (k0_pay43 vn W5 B5) (k0_pay44 vn W6 B6) (k0_pay45 W7) (k0_pay46 vn) B7
      (ix2 t c) = ((mix v w b lg lb (t) c : ℝ) : EReal) := by
  pointwise [k0_pay47, k0_pay38, k0_pay39, k0_pay40, k0_pay41, k0_pay42, k0_pay43, k0_pay44, k0_pay45, k0_pay46, Hvn, Hz, H0, H1, H2, H3, H4, H5, H6, H7, J0, J1, J2, J3, J4, J5, J6, J7]
  have := c.isLt
  split_ifs <;> exact mix_branch0 _ _ _ t (by omega) (by omega)

include Hvn in
theorem mix1 (t : Fin 128) (c : Fin 1024) :
    k0_pay58 (F := Ideal) (k0_pay48 vn W0 B0) (k0_pay49 vn W1 B1) (k0_pay50 vn W2 B2) (k0_pay52 (k0_pay51 vn W3) B3) (k0_pay53 vn W4 B4) (k0_pay54 vn W5 B5) (k0_pay55 vn W6 B6) (k0_pay56 vn W7) (k0_pay57 B7)
      (ix2 t c) = ((mix v w b lg lb (128 + t) c : ℝ) : EReal) := by
  pointwise [k0_pay58, k0_pay48, k0_pay49, k0_pay50, k0_pay52, k0_pay51, k0_pay53, k0_pay54, k0_pay55, k0_pay56, k0_pay57, Hvn, H0, H1, H2, H3, H4, H5, H6, H7, J0, J1, J2, J3, J4, J5, J6, J7]
  have := c.isLt
  split_ifs <;> exact mix_branch 128 _ _ _ t rfl (by omega) (by omega)

include Hvn in
theorem mix2 (t : Fin 128) (c : Fin 1024) :
    k0_pay63 (F := Ideal) vn (k0_pay59 vn W0 B0) (k0_pay60 vn W1 B1) (k0_pay61 vn W2 B2) (k0_pay62 vn W3 B3) W4 B4 W5 B5 W6 B6 W7 B7
      (ix2 t c) = ((mix v w b lg lb (256 + t) c : ℝ) : EReal) := by
  pointwise [k0_pay63, k0_pay59, k0_pay60, k0_pay61, k0_pay62, Hvn, H0, H1, H2, H3, H4, H5, H6, H7, J0, J1, J2, J3, J4, J5, J6, J7]
  have := c.isLt
  split_ifs <;> exact mix_branch 256 _ _ _ t rfl (by omega) (by omega)

include Hvn in
/-- The gradient by the first half: the cotangent times the mix times the gelu's slope. -/
theorem du_rows {dgu d : S512x1024.Idx → EReal} {m0 m1 m2 : S128x1024.Idx → EReal} (Hg : Rows dgu fun r c => dgelu (u r c)) (Hd : Rows d dy)
    (M0 : ∀ (t : Fin 128) (c : Fin 1024), m0 (ix2 t c) = ((mix v w b lg lb t c : ℝ) : EReal))
    (M1 : ∀ (t : Fin 128) (c : Fin 1024), m1 (ix2 t c) = ((mix v w b lg lb (128 + t) c : ℝ) : EReal))
    (M2 : ∀ (t : Fin 128) (c : Fin 1024), m2 (ix2 t c) = ((mix v w b lg lb (256 + t) c : ℝ) : EReal)) :
    Rows (k0_pay70 (F := Ideal) dgu vn d m0 m1 m2 (k0_pay65 vn (k0_pay64 W0) B0) (k0_pay66 vn W1 B1) (k0_pay67 vn W2 B2) (k0_pay68 vn W3 B3) (k0_pay69 vn W4) B4 W5 B5 W6 B6 W7 B7) fun r c => du dy u v w b lg lb r c := fun r c => by
  pointwise [k0_pay70, k0_pay65, k0_pay64, k0_pay66, k0_pay67, k0_pay68, k0_pay69, Hvn, Hg, Hd, M0, M1, M2, H0, H1, H2, H3, H4, H5, H6, H7, J0, J1, J2, J3, J4, J5, J6, J7]
  have hc := c.isLt
  have hr := r.isLt
  refine du_of _ _ _ ?_
  by_cases h0 : r.val < 128
  · rw [dif_pos h0]
  rw [dif_neg h0]
  by_cases h1 : r.val - 128 < 128
  · rw [dif_pos h1]; exact mix_same _ _ _ (by omega)
  rw [dif_neg h1]
  by_cases h2 : r.val - 128 - 128 < 128
  · rw [dif_pos h2]; exact mix_same _ _ _ (by omega)
  rw [dif_neg h2]
  split_ifs <;> exact mix_branch' 384 _ _ _ _ _ rfl (by omega) (by omega) (by omega) (by omega)

end mix

end Cert.Sgu.Ker

end
-- ==== Proof.SguKer3.lean ====
/-
  WHAT ONE BLOCK OF THE KERNEL ADDS: the gradient by the second half, and the block's part of each of the gradients by the
  weights, as the functions of `SguReal` over the block's own 512 rows.
-/
module

public import proofs.«01_k».proof.Proof.SguKer2

@[expose] public section

set_option maxRecDepth 16384
set_option backward.proofsInPublic true

noncomputable section

namespace Cert.Sgu.Ker

open Cert.KernelIdeal Cert.KernelIdeal.Gen Idealize.ShloMosaic Cert.Sgu

variable {dm vn : S512x1024.Idx → EReal} {dy u v : ℕ → ℕ → ℝ} {w : ℕ → ℕ → ℕ → ℝ} {b : ℕ → ℕ → ℝ} {lg lb : ℕ → ℝ}

section rows

variable {r0 r1 r2 r3 : S128x1024.Idx → EReal}
  (D0 : ∀ (t : Fin 128) (c : Fin 1024), r0 (ix2 t c) = ((dvn dy u w t c : ℝ) : EReal))
  (D1 : ∀ (t : Fin 128) (c : Fin 1024), r1 (ix2 t c) = ((dvn dy u w (128 + t) c : ℝ) : EReal))
  (D2 : ∀ (t : Fin 128) (c : Fin 1024), r2 (ix2 t c) = ((dvn dy u w (256 + t) c : ℝ) : EReal))
  (D3 : ∀ (t : Fin 128) (c : Fin 1024), r3 (ix2 t c) = ((dvn dy u w (384 + t) c : ℝ) : EReal))

theorem dvn_same (a r c : ℕ) (h : a = r) : ((dvn dy u w a c : ℝ) : EReal) = ((dvn dy u w r c : ℝ) : EReal) := by rw [h]

include D0 D1 D2 D3

/-- The four blocks of rows under one another. -/
theorem dvn_rows : Rows (k0_pay182 (F := Ideal) r0 r1 r2 r3) fun r c => dvn dy u w r c := fun r c => by
  pointwise [k0_pay182, D0, D1, D2, D3]
  have hr := r.isLt
  by_cases h0 : r.val < 128
  · rw [dif_pos h0]
  rw [dif_neg h0]
  by_cases h1 : r.val - 128 < 128
  · rw [dif_pos h1]; exact dvn_same _ _ _ (by omega)
  rw [dif_neg h1]
  by_cases h2 : r.val - 128 - 128 < 128
  · rw [dif_pos h2]; exact dvn_same _ _ _ (by omega)
  rw [dif_neg h2]
  exact dvn_same _ _ _ (by omega)

theorem dlg_add {z : S512x1024.Idx → EReal} (Hz : Rows z fun r c => nh v r c) {x : S1x1024.Idx → EReal} {f : ℕ → ℝ}
    (Hx : ∀ (a : Fin 1) (c : Fin 1024), x (ix2 a c) = ((f c : ℝ) : EReal)) (a : Fin 1) (c : Fin 1024) :
    k0_pay183 (F := Ideal) z r0 r1 r2 r3 x (ix2 a c) = ((f c + ∑ r : Fin 512, dvn dy u w r c * nh v r c : ℝ) : EReal) := by
  pointwise [k0_pay183, dvn_rows D0 D1 D2 D3, Hz, Hx]

theorem dlb_add {x : S1x1024.Idx → EReal} {f : ℕ → ℝ}
    (Hx : ∀ (a : Fin 1) (c : Fin 1024), x (ix2 a c) = ((f c : ℝ) : EReal)) (a : Fin 1) (c : Fin 1024) :
    k0_pay184 (F := Ideal) r0 r1 r2 r3 x (ix2 a c) = ((f c + ∑ r : Fin 512, dvn dy u w r c : ℝ) : EReal) := by
  pointwise [k0_pay184, dvn_rows D0 D1 D2 D3, Hx]

/-- The gradient by the second half. -/
theorem dv_rows {z dgv : S512x1024.Idx → EReal} {rs : S512x1.Idx → EReal} {x5 : S1x1024.Idx → EReal}
    (Hg : Rows dgv fun r c => dgelu (v r c)) (Hr : ∀ (r : Fin 512) (a : Fin 1), rs (ix2 r a) = ((rstd (gv v r) : ℝ) : EReal))
    (Hz : Rows z fun r c => nh v r c)
    (Hx : ∀ (a : Fin 1) (c : Fin 1024), x5 (ix2 a c) = ((lg c : ℝ) : EReal)) :
    Rows (k0_pay186 (F := Ideal) dgv rs z (k0_pay35 x5) r0 r1 r2 r3) fun r c => dv dy u v w lg r c := fun r c => by
  pointwise [k0_pay186, k0_pay35, dvn_rows D0 D1 D2 D3, Hg, Hr, Hz, Hx]
  rfl

end rows

/-- The accumulated products, a block's four blocks of rows added. -/
theorem scr_sum {gu d : S512x1024.Idx → EReal} (Hg : Rows gu fun r c => gelu (u r c)) (Hd : Rows d dy)
    {x : S128x1024.Idx → EReal} {f : ℕ → ℕ → ℝ} (Hx : ∀ (t : Fin 128) (c : Fin 1024), x (ix2 t c) = ((f t c : ℝ) : EReal))
    (t : Fin 128) (c : Fin 1024) :
    k0_pay153 (F := Ideal) (k0_pay71 gu d) (k0_pay126 (k0_pay71 gu d) (k0_pay99 (k0_pay71 gu d) (k0_pay73 gu d x))) (ix2 t c)
      = ((f t c + ∑ q : Fin 4, dmix dy u (128 * q + t) c : ℝ) : EReal) := by
  pointwise [k0_pay153, k0_pay126, k0_pay99, k0_pay73, dmixf Hg Hd, Hx]
  congr 1
  simp only [Fin.sum_univ_four]
  simp
  ring

theorem scr_add {gu d : S512x1024.Idx → EReal} (Hg : Rows gu fun r c => gelu (u r c)) (Hd : Rows d dy)
    {x : S128x1024.Idx → EReal} {f : ℕ → ℕ → ℝ} (Hx : ∀ (t : Fin 128) (c : Fin 1024), x (ix2 t c) = ((f t c : ℝ) : EReal))
    (t : Fin 128) (c : Fin 1024) :
    k0_pay181 (F := Ideal) (k0_pay153 (k0_pay71 gu d) (k0_pay126 (k0_pay71 gu d) (k0_pay99 (k0_pay71 gu d) (k0_pay73 gu d x)))) (ix2 t c)
      = ((f t c + ∑ q : Fin 4, dmix dy u (128 * q + t) c : ℝ) : EReal) := by
  pointwise [k0_pay181, scr_sum Hg Hd Hx]

/-! ### The last point: the sums over the columns of a group, and the masked weights' gradient -/

theorem col0 {x : S128x1024.Idx → EReal} {f : ℕ → ℕ → ℝ} (Hx : ∀ (t : Fin 128) (c : Fin 1024), x (ix2 t c) = ((f t c : ℝ) : EReal)) (t : Fin 128) (a : Fin 1) :
    k0_pay4 (F := Ideal) x (ix2 t a) = ((∑ j : Fin 128, f t (j) : ℝ) : EReal) := by
  pointwise [k0_pay4, Hx]

theorem col1 {x : S128x1024.Idx → EReal} {f : ℕ → ℕ → ℝ} (Hx : ∀ (t : Fin 128) (c : Fin 1024), x (ix2 t c) = ((f t c : ℝ) : EReal)) (t : Fin 128) (a : Fin 1) :
    k0_pay6 (F := Ideal) x (ix2 t a) = ((∑ j : Fin 128, f t (128 + j) : ℝ) : EReal) := by
  pointwise [k0_pay6, Hx]

theorem col2 {x : S128x1024.Idx → EReal} {f : ℕ → ℕ → ℝ} (Hx : ∀ (t : Fin 128) (c : Fin 1024), x (ix2 t c) = ((f t c : ℝ) : EReal)) (t : Fin 128) (a : Fin 1) :
    k0_pay9 (F := Ideal) x (ix2 t a) = ((∑ j : Fin 128, f t (256 + j) : ℝ) : EReal) := by
  pointwise [k0_pay9, Hx]

theorem col3 {x : S128x1024.Idx → EReal} {f : ℕ → ℕ → ℝ} (Hx : ∀ (t : Fin 128) (c : Fin 1024), x (ix2 t c) = ((f t c : ℝ) : EReal)) (t : Fin 128) (a : Fin 1) :
    k0_pay11 (F := Ideal) x (ix2 t a) = ((∑ j : Fin 128, f t (384 + j) : ℝ) : EReal) := by
  pointwise [k0_pay11, Hx]

theorem col4 {x : S128x1024.Idx → EReal} {f : ℕ → ℕ → ℝ} (Hx : ∀ (t : Fin 128) (c : Fin 1024), x (ix2 t c) = ((f t c : ℝ) : EReal)) (t : Fin 128) (a : Fin 1) :
    k0_pay14 (F := Ideal) (k0_pay13 (F := Ideal) x) (ix2 t a) = ((∑ j : Fin 128, f t (512 + j) : ℝ) : EReal) := by
  pointwise [k0_pay14, k0_pay13, Hx]

theorem col5 {x : S128x1024.Idx → EReal} {f : ℕ → ℕ → ℝ} (Hx : ∀ (t : Fin 128) (c : Fin 1024), x (ix2 t c) = ((f t c : ℝ) : EReal)) (t : Fin 128) (a : Fin 1) :
    k0_pay16 (F := Ideal) x (ix2 t a) = ((∑ j : Fin 128, f t (640 + j) : ℝ) : EReal) := by
  pointwise [k0_pay16, Hx]

theorem col6 {x : S128x1024.Idx → EReal} {f : ℕ → ℕ → ℝ} (Hx : ∀ (t : Fin 128) (c : Fin 1024), x (ix2 t c) = ((f t c : ℝ) : EReal)) (t : Fin 128) (a : Fin 1) :
    k0_pay18 (F := Ideal) x (ix2 t a) = ((∑ j : Fin 128, f t (768 + j) : ℝ) : EReal) := by
  pointwise [k0_pay18, Hx]

theorem col7 {x : S128x1024.Idx → EReal} {f : ℕ → ℕ → ℝ} (Hx : ∀ (t : Fin 128) (c : Fin 1024), x (ix2 t c) = ((f t c : ℝ) : EReal)) (t : Fin 128) (a : Fin 1) :
    k0_pay2 (F := Ideal) x (ix2 t a) = ((∑ j : Fin 128, f t (896 + j) : ℝ) : EReal) := by
  pointwise [k0_pay2, Hx]

theorem mask0 {x : S1x128x128.Idx → EReal} {m : S128x128.Idx → EReal} {f : ℕ → ℕ → ℝ} (Hx : Slab x f)
    (Hm : ∀ (t s : Fin 128), m (ix2 t s) = ((msk t s : ℝ) : EReal)) : Slab (k0_pay3 (F := Ideal) x m) fun t s => f t s * msk t s := fun a t s => by
  pointwise [k0_pay3, Hx, Hm]

theorem mask1 {x : S1x128x128.Idx → EReal} {m : S128x128.Idx → EReal} {f : ℕ → ℕ → ℝ} (Hx : Slab x f)
    (Hm : ∀ (t s : Fin 128), m (ix2 t s) = ((msk t s : ℝ) : EReal)) : Slab (k0_pay5 (F := Ideal) x m) fun t s => f t s * msk t s := fun a t s => by
  pointwise [k0_pay5, Hx, Hm]

theorem mask2 {x : S1x128x128.Idx → EReal} {m : S128x128.Idx → EReal} {f : ℕ → ℕ → ℝ} (Hx : Slab x f)
    (Hm : ∀ (t s : Fin 128), m (ix2 t s) = ((msk t s : ℝ) : EReal)) : Slab (k0_pay8 (F := Ideal) (k0_pay7 (F := Ideal) x m)) fun t s => f t s * msk t s := fun a t s => by
  pointwise [k0_pay8, k0_pay7, Hx, Hm]

theorem mask3 {x : S1x128x128.Idx → EReal} {m : S128x128.Idx → EReal} {f : ℕ → ℕ → ℝ} (Hx : Slab x f)
    (Hm : ∀ (t s : Fin 128), m (ix2 t s) = ((msk t s : ℝ) : EReal)) : Slab (k0_pay10 (F := Ideal) x m) fun t s => f t s * msk t s := fun a t s => by
  pointwise [k0_pay10, Hx, Hm]

theorem mask4 {x : S1x128x128.Idx → EReal} {m : S128x128.Idx → EReal} {f : ℕ → ℕ → ℝ} (Hx : Slab x f)
    (Hm : ∀ (t s : Fin 128), m (ix2 t s) = ((msk t s : ℝ) : EReal)) : Slab (k0_pay12 (F := Ideal) x m) fun t s => f t s * msk t s := fun a t s => by
  pointwise [k0_pay12, Hx, Hm]

theorem mask5 {x : S1x128x128.Idx → EReal} {m : S128x128.Idx → EReal} {f : ℕ → ℕ → ℝ} (Hx : Slab x f)
    (Hm : ∀ (t s : Fin 128), m (ix2 t s) = ((msk t s : ℝ) : EReal)) : Slab (k0_pay15 (F := Ideal) x m) fun t s => f t s * msk t s := fun a t s => by
  pointwise [k0_pay15, Hx, Hm]

theorem mask6 {x : S1x128x128.Idx → EReal} {m : S128x128.Idx → EReal} {f : ℕ → ℕ → ℝ} (Hx : Slab x f)
    (Hm : ∀ (t s : Fin 128), m (ix2 t s) = ((msk t s : ℝ) : EReal)) : Slab (k0_pay17 (F := Ideal) x m) fun t s => f t s * msk t s := fun a t s => by
  pointwise [k0_pay17, Hx, Hm]

theorem mask7 {x : S1x128x128.Idx → EReal} {m : S128x128.Idx → EReal} {f : ℕ → ℕ → ℝ} (Hx : Slab x f)
    (Hm : ∀ (t s : Fin 128), m (ix2 t s) = ((msk t s : ℝ) : EReal)) : Slab (k0_pay1 (F := Ideal) (k0_pay19 (F := Ideal) x) m) fun t s => f t s * msk t s := fun a t s => by
  pointwise [k0_pay1, k0_pay19, Hx, Hm]

section tiles

variable (Hdm : Rows dm fun r c => dmix dy u r c) (Hvn : Rows vn fun r c => Sgu.vn v lg lb r c)
  {x : S1x128x128.Idx → EReal} {f : ℕ → ℕ → ℝ} (Hx : Slab x f)

include Hdm Hvn Hx

theorem tile0 : Slab (k0_pay158 (F := Ideal) (k0_pay154 (F := Ideal) dm) (k0_pay156 (F := Ideal) (k0_pay129 (F := Ideal) vn dm (k0_pay102 (F := Ideal) vn dm (k0_pay76 (F := Ideal) vn dm x)))) (k0_pay157 (F := Ideal) vn) (constant (F := Ideal) S128x128 .f32 0x00000000#32))
    fun t s => f t s + ∑ q : Fin 4, dwsAt dy u v lg lb q 0 t s := fun a t s => by
  pointwise [k0_pay158, k0_pay154, k0_pay156, k0_pay129, k0_pay102, k0_pay76, k0_pay157, k0_pay127, k0_pay100, k0_pay74, Hdm, Hvn, Hx]
  congr 1
  simp [Fin.sum_univ_four, dwsAt]
  try ring

theorem tile1 : Slab (k0_pay161 (F := Ideal) vn dm (k0_pay133 (F := Ideal) vn (k0_pay130 (F := Ideal) dm) (k0_pay106 (F := Ideal) (k0_pay105 (F := Ideal) vn dm (k0_pay79 (F := Ideal) vn dm x)))))
    fun t s => f t s + ∑ q : Fin 4, dwsAt dy u v lg lb q 1 t s := fun a t s => by
  pointwise [k0_pay161, k0_pay133, k0_pay130, k0_pay106, k0_pay105, k0_pay79, k0_pay159, k0_pay103, k0_pay77, Hdm, Hvn, Hx]
  congr 1
  simp [Fin.sum_univ_four, dwsAt]
  try ring

theorem tile2 : Slab (k0_pay164 (F := Ideal) vn dm (k0_pay136 (F := Ideal) vn dm (k0_pay109 (F := Ideal) vn dm (k0_pay82 (F := Ideal) vn (k0_pay80 (F := Ideal) dm) x))))
    fun t s => f t s + ∑ q : Fin 4, dwsAt dy u v lg lb q 2 t s := fun a t s => by
  pointwise [k0_pay164, k0_pay136, k0_pay109, k0_pay82, k0_pay80, k0_pay162, k0_pay134, k0_pay107, Hdm, Hvn, Hx]
  congr 1
  simp [Fin.sum_univ_four, dwsAt]
  try ring

theorem tile3 : Slab (k0_pay167 (F := Ideal) vn (k0_pay165 (F := Ideal) dm) (k0_pay140 (F := Ideal) (k0_pay139 (F := Ideal) vn dm (k0_pay112 (F := Ideal) vn dm (k0_pay85 (F := Ideal) vn dm x)))))
    fun t s => f t s + ∑ q : Fin 4, dwsAt dy u v lg lb q 3 t s := fun a t s => by
  pointwise [k0_pay167, k0_pay165, k0_pay140, k0_pay139, k0_pay112, k0_pay85, k0_pay137, k0_pay110, k0_pay83, Hdm, Hvn, Hx]
  congr 1
  simp [Fin.sum_univ_four, dwsAt]
  try ring

theorem tile4 : Slab (k0_pay170 (F := Ideal) vn dm (k0_pay143 (F := Ideal) vn dm (k0_pay115 (F := Ideal) vn (k0_pay113 (F := Ideal) dm) (k0_pay88 (F := Ideal) vn dm x))))
    fun t s => f t s + ∑ q : Fin 4, dwsAt dy u v lg lb q 4 t s := fun a t s => by
  pointwise [k0_pay170, k0_pay143, k0_pay115, k0_pay113, k0_pay88, k0_pay168, k0_pay141, k0_pay86, Hdm, Hvn, Hx]
  congr 1
  simp [Fin.sum_univ_four, dwsAt]
  try ring

theorem tile5 : Slab (k0_pay175 (F := Ideal) (k0_pay171 (F := Ideal) dm) (k0_pay173 (F := Ideal) (k0_pay146 (F := Ideal) vn dm (k0_pay118 (F := Ideal) vn dm (k0_pay91 (F := Ideal) vn dm x)))) (k0_pay174 (F := Ideal) vn) (constant (F := Ideal) S128x128 .f32 0x00000000#32))
    fun t s => f t s + ∑ q : Fin 4, dwsAt dy u v lg lb q 5 t s := fun a t s => by
  pointwise [k0_pay175, k0_pay171, k0_pay173, k0_pay146, k0_pay118, k0_pay91, k0_pay174, k0_pay144, k0_pay116, k0_pay89, Hdm, Hvn, Hx]
  congr 1
  simp [Fin.sum_univ_four, dwsAt]
  try ring

theorem tile6 : Slab (k0_pay177 (F := Ideal) vn dm (k0_pay149 (F := Ideal) vn (k0_pay147 (F := Ideal) dm) (k0_pay122 (F := Ideal) (k0_pay121 (F := Ideal) vn dm (k0_pay94 (F := Ideal) vn dm x)))))
    fun t s => f t s + ∑ q : Fin 4, dwsAt dy u v lg lb q 6 t s := fun a t s => by
  pointwise [k0_pay177, k0_pay149, k0_pay147, k0_pay122, k0_pay121, k0_pay94, k0_pay176, k0_pay119, k0_pay92, Hdm, Hvn, Hx]
  congr 1
  simp [Fin.sum_univ_four, dwsAt]
  try ring

theorem tile7 : Slab (k0_pay179 (F := Ideal) vn dm (k0_pay151 (F := Ideal) vn dm (k0_pay124 (F := Ideal) vn dm (k0_pay97 (F := Ideal) vn (k0_pay95 (F := Ideal) dm) x))))
    fun t s => f t s + ∑ q : Fin 4, dwsAt dy u v lg lb q 7 t s := fun a t s => by
  pointwise [k0_pay179, k0_pay151, k0_pay124, k0_pay97, k0_pay95, k0_pay178, k0_pay150, k0_pay123, Hdm, Hvn, Hx]
  congr 1
  simp [Fin.sum_univ_four, dwsAt]
  try ring

end tiles

end Cert.Sgu.Ker

end
-- ==== Proof.SguBlk.lean ====
/-
  WHAT A GRID POINT READS: the blocks of the arguments as real arrays over the block's own 512 rows, and the loads of their parts.
-/
module

public import proofs.«01_k».proof.Proof.SguKer3
public import proofs.«01_k».proof.Proof.Gen.KernelIdeal.Value
public import Idealize.ShloMosaic.Lib.Pipeline.ReadBack
public import Idealize.ShloMosaic.Lib.Pipeline.ValueKit

@[expose] public section

set_option maxRecDepth 16384
set_option backward.proofsInPublic true

noncomputable section

namespace Cert.Sgu.Ker

open Cert.KernelIdeal Cert.KernelIdeal.Gen Idealize.ShloMosaic Cert.Sgu

/-- The blocks a grid point reads, as casts of real arrays. -/
structure Blk (x0 : S512x1024.Idx → EReal) (x1 : S512x2560.Idx → EReal) (x2 x3 : S8x128x128.Idx → EReal) (x4 : S128x128.Idx → EReal)
    (x5 x6 : S1x1024.Idx → EReal) (dy u v : ℕ → ℕ → ℝ) (w : ℕ → ℕ → ℕ → ℝ) (b : ℕ → ℕ → ℝ) (lg lb : ℕ → ℝ) : Prop where
  dy : Rows x0 dy
  u : ∀ (r : Fin 512) (c : ℕ) (h : c < 1024), x1 (ix2 r ⟨c, by omega⟩) = ((u r c : ℝ) : EReal)
  v : ∀ (r : Fin 512) (c : ℕ) (h : c < 1024), x1 (ix2 r ⟨1024 + c, by omega⟩) = ((v r c : ℝ) : EReal)
  w : ∀ (g : Fin 8) (t s : Fin 128), x2 (ix3 g t s) = ((wm w g t s : ℝ) : EReal)
  b : ∀ (g : Fin 8) (t s : Fin 128), x3 (ix3 g t s) = ((b g t : ℝ) : EReal)
  m : ∀ (t s : Fin 128), x4 (ix2 t s) = ((msk t s : ℝ) : EReal)
  lg : ∀ (a : Fin 1) (c : Fin 1024), x5 (ix2 a c) = ((lg c : ℝ) : EReal)
  lb : ∀ (a : Fin 1) (c : Fin 1024), x6 (ix2 a c) = ((lb c : ℝ) : EReal)

variable (x0 : Vec Ideal S512x1024 .bf16) (x1 : Vec Ideal S512x2560 .bf16) (x2 : Vec Ideal S8x128x128 .bf16) (x3 : Vec Ideal S8x128x128 .f32)
  (x4 : Vec Ideal S128x128 .f32) (x5 x6 : Vec Ideal S1x1024 .f32)

/-! ### The parts of the blocks, by name -/

abbrev bU : FVec Ideal S512x1024 .bf16 := View.ld x1 (Rect.unit ![0, 0] ![512, 1024] inb_S512x2560_S512x1024_0_0)
abbrev bV : FVec Ideal S512x1024 .bf16 := View.ld x1 (Rect.unit ![0, 1024] ![512, 1024] inb_S512x2560_S512x1024_0_1024)
abbrev bW0 (x : Vec Ideal S8x128x128 .bf16) : FVec Ideal S1x128x128 .bf16 := View.ld x (Rect.unit ![0, 0, 0] ![1, 128, 128] inb_S8x128x128_S1x128x128_0_0_0)
abbrev bB0 (x : Vec Ideal S8x128x128 .f32) : FVec Ideal S1x128x128 .f32 := View.ld x (Rect.unit ![0, 0, 0] ![1, 128, 128] inb_S8x128x128_S1x128x128_0_0_0)
abbrev bW1 (x : Vec Ideal S8x128x128 .bf16) : FVec Ideal S1x128x128 .bf16 := View.ld x (Rect.unit ![1, 0, 0] ![1, 128, 128] inb_S8x128x128_S1x128x128_1_0_0)
abbrev bB1 (x : Vec Ideal S8x128x128 .f32) : FVec Ideal S1x128x128 .f32 := View.ld x (Rect.unit ![1, 0, 0] ![1, 128, 128] inb_S8x128x128_S1x128x128_1_0_0)
abbrev bW2 (x : Vec Ideal S8x128x128 .bf16) : FVec Ideal S1x128x128 .bf16 := View.ld x (Rect.unit ![2, 0, 0] ![1, 128, 128] inb_S8x128x128_S1x128x128_2_0_0)
abbrev bB2 (x : Vec Ideal S8x128x128 .f32) : FVec Ideal S1x128x128 .f32 := View.ld x (Rect.unit ![2, 0, 0] ![1, 128, 128] inb_S8x128x128_S1x128x128_2_0_0)
abbrev bW3 (x : Vec Ideal S8x128x128 .bf16) : FVec Ideal S1x128x128 .bf16 := View.ld x (Rect.unit ![3, 0, 0] ![1, 128, 128] inb_S8x128x128_S1x128x128_3_0_0)
abbrev bB3 (x : Vec Ideal S8x128x128 .f32) : FVec Ideal S1x128x128 .f32 := View.ld x (Rect.unit ![3, 0, 0] ![1, 128, 128] inb_S8x128x128_S1x128x128_3_0_0)
abbrev bW4 (x : Vec Ideal S8x128x128 .bf16) : FVec Ideal S1x128x128 .bf16 := View.ld x (Rect.unit ![4, 0, 0] ![1, 128, 128] inb_S8x128x128_S1x128x128_4_0_0)
abbrev bB4 (x : Vec Ideal S8x128x128 .f32) : FVec Ideal S1x128x128 .f32 := View.ld x (Rect.unit ![4, 0, 0] ![1, 128, 128] inb_S8x128x128_S1x128x128_4_0_0)
abbrev bW5 (x : Vec Ideal S8x128x128 .bf16) : FVec Ideal S1x128x128 .bf16 := View.ld x (Rect.unit ![5, 0, 0] ![1, 128, 128] inb_S8x128x128_S1x128x128_5_0_0)
abbrev bB5 (x : Vec Ideal S8x128x128 .f32) : FVec Ideal S1x128x128 .f32 := View.ld x (Rect.unit ![5, 0, 0] ![1, 128, 128] inb_S8x128x128_S1x128x128_5_0_0)
abbrev bW6 (x : Vec Ideal S8x128x128 .bf16) : FVec Ideal S1x128x128 .bf16 := View.ld x (Rect.unit ![6, 0, 0] ![1, 128, 128] inb_S8x128x128_S1x128x128_6_0_0)
abbrev bB6 (x : Vec Ideal S8x128x128 .f32) : FVec Ideal S1x128x128 .f32 := View.ld x (Rect.unit ![6, 0, 0] ![1, 128, 128] inb_S8x128x128_S1x128x128_6_0_0)
abbrev bW7 (x : Vec Ideal S8x128x128 .bf16) : FVec Ideal S1x128x128 .bf16 := View.ld x (Rect.unit ![7, 0, 0] ![1, 128, 128] inb_S8x128x128_S1x128x128_7_0_0)
abbrev bB7 (x : Vec Ideal S8x128x128 .f32) : FVec Ideal S1x128x128 .f32 := View.ld x (Rect.unit ![7, 0, 0] ![1, 128, 128] inb_S8x128x128_S1x128x128_7_0_0)
abbrev bDm : FVec Ideal S512x1024 .bf16 := k0_pay72 (F := Ideal) (k0_pay26 (bU x1)) (k0_pay37 x0)
abbrev bNh : FVec Ideal S512x1024 .f32 := k0_pay34 (F := Ideal) (bV x1) (k0_pay29 (bV x1))
abbrev bVn : FVec Ideal S512x1024 .bf16 := k0_pay36 (F := Ideal) (bNh x1) x5 x6

variable {x0 x1 x2 x3 x4 x5 x6}
variable {dy u v : ℕ → ℕ → ℝ} {w : ℕ → ℕ → ℕ → ℝ} {b : ℕ → ℕ → ℝ} {lg lb : ℕ → ℝ} (H : Blk x0 x1 x2 x3 x4 x5 x6 dy u v w b lg lb)

include H

theorem bU_rows : Rows (bU x1) u := fun r c => by
  refine (View.ld_unit_apply_of x1 _ _ _ _ (ix2 r ⟨c.val, by omega⟩) ?_).trans (H.u r c c.isLt)
  intro a; fin_cases a <;> simp [ix2]

theorem bV_rows : Rows (bV x1) v := fun r c => by
  refine (View.ld_unit_apply_of x1 _ _ _ _ (ix2 r ⟨1024 + c.val, by omega⟩) ?_).trans (H.v r c c.isLt)
  intro a; fin_cases a <;> simp [ix2]

theorem bW0_slab : Slab (bW0 x2) (wm w 0) := fun a t s => by
  refine (View.ld_unit_apply_of x2 _ _ _ _ (ix3 (0 : Fin 8) t s) ?_).trans (H.w 0 t s)
  intro b; fin_cases b <;> simp [ix3]

theorem bB0_slab : Slab (bB0 x3) (fun t _ => b 0 t) := fun a t s => by
  refine (View.ld_unit_apply_of x3 _ _ _ _ (ix3 (0 : Fin 8) t s) ?_).trans (H.b 0 t s)
  intro b; fin_cases b <;> simp [ix3]

theorem bW1_slab : Slab (bW1 x2) (wm w 1) := fun a t s => by
  refine (View.ld_unit_apply_of x2 _ _ _ _ (ix3 (1 : Fin 8) t s) ?_).trans (H.w 1 t s)
  intro b; fin_cases b <;> simp [ix3]

theorem bB1_slab : Slab (bB1 x3) (fun t _ => b 1 t) := fun a t s => by
  refine (View.ld_unit_apply_of x3 _ _ _ _ (ix3 (1 : Fin 8) t s) ?_).trans (H.b 1 t s)
  intro b; fin_cases b <;> simp [ix3]

theorem bW2_slab : Slab (bW2 x2) (wm w 2) := fun a t s => by
  refine (View.ld_unit_apply_of x2 _ _ _ _ (ix3 (2 : Fin 8) t s) ?_).trans (H.w 2 t s)
  intro b; fin_cases b <;> simp [ix3]

theorem bB2_slab : Slab (bB2 x3) (fun t _ => b 2 t) := fun a t s => by
  refine (View.ld_unit_apply_of x3 _ _ _ _ (ix3 (2 : Fin 8) t s) ?_).trans (H.b 2 t s)
  intro b; fin_cases b <;> simp [ix3]

theorem bW3_slab : Slab (bW3 x2) (wm w 3) := fun a t s => by
  refine (View.ld_unit_apply_of x2 _ _ _ _ (ix3 (3 : Fin 8) t s) ?_).trans (H.w 3 t s)
  intro b; fin_cases b <;> simp [ix3]

theorem bB3_slab : Slab (bB3 x3) (fun t _ => b 3 t) := fun a t s => by
  refine (View.ld_unit_apply_of x3 _ _ _ _ (ix3 (3 : Fin 8) t s) ?_).trans (H.b 3 t s)
  intro b; fin_cases b <;> simp [ix3]

theorem bW4_slab : Slab (bW4 x2) (wm w 4) := fun a t s => by
  refine (View.ld_unit_apply_of x2 _ _ _ _ (ix3 (4 : Fin 8) t s) ?_).trans (H.w 4 t s)
  intro b; fin_cases b <;> simp [ix3]

theorem bB4_slab : Slab (bB4 x3) (fun t _ => b 4 t) := fun a t s => by
  refine (View.ld_unit_apply_of x3 _ _ _ _ (ix3 (4 : Fin 8) t s) ?_).trans (H.b 4 t s)
  intro b; fin_cases b <;> simp [ix3]

theorem bW5_slab : Slab (bW5 x2) (wm w 5) := fun a t s => by
  refine (View.ld_unit_apply_of x2 _ _ _ _ (ix3 (5 : Fin 8) t s) ?_).trans (H.w 5 t s)
  intro b; fin_cases b <;> simp [ix3]

theorem bB5_slab : Slab (bB5 x3) (fun t _ => b 5 t) := fun a t s => by
  refine (View.ld_unit_apply_of x3 _ _ _ _ (ix3 (5 : Fin 8) t s) ?_).trans (H.b 5 t s)
  intro b; fin_cases b <;> simp [ix3]

theorem bW6_slab : Slab (bW6 x2) (wm w 6) := fun a t s => by
  refine (View.ld_unit_apply_of x2 _ _ _ _ (ix3 (6 : Fin 8) t s) ?_).trans (H.w 6 t s)
  intro b; fin_cases b <;> simp [ix3]

theorem bB6_slab : Slab (bB6 x3) (fun t _ => b 6 t) := fun a t s => by
  refine (View.ld_unit_apply_of x3 _ _ _ _ (ix3 (6 : Fin 8) t s) ?_).trans (H.b 6 t s)
  intro b; fin_cases b <;> simp [ix3]

theorem bW7_slab : Slab (bW7 x2) (wm w 7) := fun a t s => by
  refine (View.ld_unit_apply_of x2 _ _ _ _ (ix3 (7 : Fin 8) t s) ?_).trans (H.w 7 t s)
  intro b; fin_cases b <;> simp [ix3]

theorem bB7_slab : Slab (bB7 x3) (fun t _ => b 7 t) := fun a t s => by
  refine (View.ld_unit_apply_of x3 _ _ _ _ (ix3 (7 : Fin 8) t s) ?_).trans (H.b 7 t s)
  intro b; fin_cases b <;> simp [ix3]

theorem bDm_rows : Rows (bDm x0 x1) fun r c => dmix dy u r c := dmixb (gu (bU_rows H)) (dyf H.dy)
theorem bNh_rows : Rows (bNh x1) fun r c => nh v r c := nhat (bV_rows H)
theorem bVn_rows : Rows (bVn x1 x5 x6) fun r c => Sgu.vn v lg lb r c := vnorm (bNh_rows H) H.lg H.lb

end Cert.Sgu.Ker

end
-- ==== Proof.SguPts.lean ====
/-
  WHAT A GRID POINT COMPUTES: the four blocks of rows, and the two halves of the block of the first result.
-/
module

public import proofs.«01_k».proof.Proof.SguBlk

@[expose] public section

set_option maxRecDepth 16384
set_option backward.proofsInPublic true

noncomputable section

namespace Cert.Sgu.Ker

open Cert.KernelIdeal Cert.KernelIdeal.Gen Idealize.ShloMosaic Cert.Sgu

variable (x0 : Vec Ideal S512x1024 .bf16) (x1 : Vec Ideal S512x2560 .bf16) (x2 : Vec Ideal S8x128x128 .bf16) (x3 : Vec Ideal S8x128x128 .f32)
  (x4 : Vec Ideal S128x128 .f32) (x5 x6 : Vec Ideal S1x1024 .f32)

abbrev bR0 : FVec Ideal S128x1024 .f32 := k0_pay98 (F := Ideal) (k0_pay75 (bDm x0 x1) (bW0 x2)) (k0_pay78 (bDm x0 x1) (bW1 x2)) (k0_pay81 (bDm x0 x1) (bW2 x2)) (k0_pay84 (bDm x0 x1) (bW3 x2)) (k0_pay87 (bDm x0 x1) (bW4 x2)) (k0_pay90 (bDm x0 x1) (bW5 x2)) (k0_pay93 (bDm x0 x1) (bW6 x2)) (k0_pay96 (bDm x0 x1) (bW7 x2))
abbrev bR1 : FVec Ideal S128x1024 .f32 := k0_pay125 (F := Ideal) (bDm x0 x1) (k0_pay101 (bDm x0 x1) (bW0 x2)) (k0_pay104 (bDm x0 x1) (bW1 x2)) (k0_pay108 (bDm x0 x1) (bW2 x2)) (k0_pay111 (bDm x0 x1) (bW3 x2)) (k0_pay114 (bDm x0 x1) (bW4 x2)) (k0_pay117 (bDm x0 x1) (bW5 x2)) (k0_pay120 (bDm x0 x1) (bW6 x2)) (bW7 x2)
abbrev bR2 : FVec Ideal S128x1024 .f32 := k0_pay152 (F := Ideal) (bDm x0 x1) (k0_pay128 (bDm x0 x1) (bW0 x2)) (k0_pay132 (k0_pay130 (bDm x0 x1)) (k0_pay131 (bW1 x2))) (k0_pay135 (bDm x0 x1) (bW2 x2)) (k0_pay138 (bDm x0 x1) (bW3 x2)) (k0_pay142 (bDm x0 x1) (bW4 x2)) (k0_pay145 (bDm x0 x1) (bW5 x2)) (k0_pay147 (bDm x0 x1)) (k0_pay148 (bW6 x2)) (bW7 x2)
abbrev bR3 : FVec Ideal S128x1024 .f32 := k0_pay180 (F := Ideal) (bDm x0 x1) (k0_pay155 (bDm x0 x1) (bW0 x2)) (k0_pay160 (bDm x0 x1) (bW1 x2)) (k0_pay163 (bDm x0 x1) (bW2 x2)) (k0_pay166 (k0_pay165 (bDm x0 x1)) (bW3 x2)) (k0_pay169 (bDm x0 x1) (bW4 x2)) (k0_pay172 (bDm x0 x1) (bW5 x2)) (bW6 x2) (bW7 x2)
abbrev bM0 : FVec Ideal S128x1024 .f32 := k0_pay47 (F := Ideal) (k0_pay38 (bNh x1) x5 x6 (bW0 x2) (bB0 x3)) (k0_pay39 (bNh x1) x5 x6 (bW1 x2) (bB1 x3)) (k0_pay40 (bNh x1) x5 x6 (bW2 x2) (bB2 x3)) (k0_pay41 (bVn x1 x5 x6) (bW3 x2) (bB3 x3)) (k0_pay42 (bVn x1 x5 x6) (bW4 x2) (bB4 x3)) (k0_pay43 (bVn x1 x5 x6) (bW5 x2) (bB5 x3)) (k0_pay44 (bVn x1 x5 x6) (bW6 x2) (bB6 x3)) (k0_pay45 (bW7 x2)) (k0_pay46 (bVn x1 x5 x6)) (bB7 x3)
abbrev bM1 : FVec Ideal S128x1024 .f32 := k0_pay58 (F := Ideal) (k0_pay48 (bVn x1 x5 x6) (bW0 x2) (bB0 x3)) (k0_pay49 (bVn x1 x5 x6) (bW1 x2) (bB1 x3)) (k0_pay50 (bVn x1 x5 x6) (bW2 x2) (bB2 x3)) (k0_pay52 (k0_pay51 (bVn x1 x5 x6) (bW3 x2)) (bB3 x3)) (k0_pay53 (bVn x1 x5 x6) (bW4 x2) (bB4 x3)) (k0_pay54 (bVn x1 x5 x6) (bW5 x2) (bB5 x3)) (k0_pay55 (bVn x1 x5 x6) (bW6 x2) (bB6 x3)) (k0_pay56 (bVn x1 x5 x6) (bW7 x2)) (k0_pay57 (bB7 x3))
abbrev bM2 : FVec Ideal S128x1024 .f32 := k0_pay63 (F := Ideal) (bVn x1 x5 x6) (k0_pay59 (bVn x1 x5 x6) (bW0 x2) (bB0 x3)) (k0_pay60 (bVn x1 x5 x6) (bW1 x2) (bB1 x3)) (k0_pay61 (bVn x1 x5 x6) (bW2 x2) (bB2 x3)) (k0_pay62 (bVn x1 x5 x6) (bW3 x2) (bB3 x3)) (bW4 x2) (bB4 x3) (bW5 x2) (bB5 x3) (bW6 x2) (bB6 x3) (bW7 x2) (bB7 x3)
abbrev bDu : FVec Ideal S512x1024 .f32 := k0_pay70 (F := Ideal) (k0_pay27 (bU x1)) (bVn x1 x5 x6) (k0_pay37 x0) (bM0 x1 x2 x3 x5 x6) (bM1 x1 x2 x3 x5 x6) (bM2 x1 x2 x3 x5 x6) (k0_pay65 (bVn x1 x5 x6) (k0_pay64 (bW0 x2)) (bB0 x3)) (k0_pay66 (bVn x1 x5 x6) (bW1 x2) (bB1 x3)) (k0_pay67 (bVn x1 x5 x6) (bW2 x2) (bB2 x3)) (k0_pay68 (bVn x1 x5 x6) (bW3 x2) (bB3 x3)) (k0_pay69 (bVn x1 x5 x6) (bW4 x2)) (bB4 x3) (bW5 x2) (bB5 x3) (bW6 x2) (bB6 x3) (bW7 x2) (bB7 x3)
abbrev bDv : FVec Ideal S512x1024 .bf16 := k0_pay186 (F := Ideal) (k0_pay31 (bV x1) (k0_pay28 (bV x1)) (k0_pay29 (bV x1))) (k0_pay33 (bV x1) (k0_pay29 (bV x1))) (bNh x1) (k0_pay35 x5) (bR0 x0 x1 x2) (bR1 x0 x1 x2) (bR2 x0 x1 x2) (bR3 x0 x1 x2)

variable {x0 x1 x2 x3 x4 x5 x6}
variable {dy u v : ℕ → ℕ → ℝ} {w : ℕ → ℕ → ℕ → ℝ} {b : ℕ → ℕ → ℝ} {lg lb : ℕ → ℝ} (H : Blk x0 x1 x2 x3 x4 x5 x6 dy u v w b lg lb)

include H

theorem bR0_rows (t : Fin 128) (c : Fin 1024) : bR0 x0 x1 x2 (ix2 t c) = ((dvn dy u w (t) c : ℝ) : EReal) :=
  dvn0 (bDm_rows H) (bW0_slab H) (bW1_slab H) (bW2_slab H) (bW3_slab H) (bW4_slab H) (bW5_slab H) (bW6_slab H) (bW7_slab H) t c

theorem bR1_rows (t : Fin 128) (c : Fin 1024) : bR1 x0 x1 x2 (ix2 t c) = ((dvn dy u w (128 + t) c : ℝ) : EReal) :=
  dvn1 (bDm_rows H) (bW0_slab H) (bW1_slab H) (bW2_slab H) (bW3_slab H) (bW4_slab H) (bW5_slab H) (bW6_slab H) (bW7_slab H) t c

theorem bR2_rows (t : Fin 128) (c : Fin 1024) : bR2 x0 x1 x2 (ix2 t c) = ((dvn dy u w (256 + t) c : ℝ) : EReal) :=
  dvn2 (bDm_rows H) (bW0_slab H) (bW1_slab H) (bW2_slab H) (bW3_slab H) (bW4_slab H) (bW5_slab H) (bW6_slab H) (bW7_slab H) t c

theorem bR3_rows (t : Fin 128) (c : Fin 1024) : bR3 x0 x1 x2 (ix2 t c) = ((dvn dy u w (384 + t) c : ℝ) : EReal) :=
  dvn3 (bDm_rows H) (bW0_slab H) (bW1_slab H) (bW2_slab H) (bW3_slab H) (bW4_slab H) (bW5_slab H) (bW6_slab H) (bW7_slab H) t c

theorem bM0_rows (t : Fin 128) (c : Fin 1024) : bM0 x1 x2 x3 x5 x6 (ix2 t c) = ((mix v w b lg lb (t) c : ℝ) : EReal) :=
  mix0 (bVn_rows H) (bW0_slab H) (bW1_slab H) (bW2_slab H) (bW3_slab H) (bW4_slab H) (bW5_slab H) (bW6_slab H) (bW7_slab H) (bB0_slab H) (bB1_slab H) (bB2_slab H) (bB3_slab H) (bB4_slab H) (bB5_slab H) (bB6_slab H) (bB7_slab H) (bVn_rows H) t c

theorem bM1_rows (t : Fin 128) (c : Fin 1024) : bM1 x1 x2 x3 x5 x6 (ix2 t c) = ((mix v w b lg lb (128 + t) c : ℝ) : EReal) :=
  mix1 (bVn_rows H) (bW0_slab H) (bW1_slab H) (bW2_slab H) (bW3_slab H) (bW4_slab H) (bW5_slab H) (bW6_slab H) (bW7_slab H) (bB0_slab H) (bB1_slab H) (bB2_slab H) (bB3_slab H) (bB4_slab H) (bB5_slab H) (bB6_slab H) (bB7_slab H) t c

theorem bM2_rows (t : Fin 128) (c : Fin 1024) : bM2 x1 x2 x3 x5 x6 (ix2 t c) = ((mix v w b lg lb (256 + t) c : ℝ) : EReal) :=
  mix2 (bVn_rows H) (bW0_slab H) (bW1_slab H) (bW2_slab H) (bW3_slab H) (bW4_slab H) (bW5_slab H) (bW6_slab H) (bW7_slab H) (bB0_slab H) (bB1_slab H) (bB2_slab H) (bB3_slab H) (bB4_slab H) (bB5_slab H) (bB6_slab H) (bB7_slab H) t c

theorem bDu_rows : Rows (bDu x0 x1 x2 x3 x5 x6) fun r c => du dy u v w b lg lb r c :=
  du_rows (bVn_rows H) (bW0_slab H) (bW1_slab H) (bW2_slab H) (bW3_slab H) (bW4_slab H) (bW5_slab H) (bW6_slab H) (bW7_slab H) (bB0_slab H) (bB1_slab H) (bB2_slab H) (bB3_slab H) (bB4_slab H) (bB5_slab H) (bB6_slab H) (bB7_slab H) (dgu (bU_rows H)) (dyf H.dy) (bM0_rows H) (bM1_rows H) (bM2_rows H)

theorem bDv_rows : Rows (bDv x0 x1 x2 x5) fun r c => dv dy u v w lg r c :=
  dv_rows (bR0_rows H) (bR1_rows H) (bR2_rows H) (bR3_rows H) (dgv (bV_rows H)) (pay33 (bV_rows H)) (bNh_rows H) H.lg

theorem bDu16_rows : Rows (k0_pay185 (bDu x0 x1 x2 x3 x5 x6)) fun r c => du dy u v w b lg lb r c := fun r c => by
  pointwise [k0_pay185, bDu_rows H r c]

/-- The block of the first result: the gradient by the first half beside the gradient by the second. -/
theorem canon7 (y : S512x2048.Idx) :
    View.canon (Val := Elt Ideal) (e := .bf16) [⟨Rect.unit ![0, 1024] ![512, 1024] inb_S512x2048_S512x1024_0_1024, bDv x0 x1 x2 x5⟩,
      ⟨Rect.unit ![0, 0] ![512, 1024] inb_S512x2048_S512x1024_0_0, k0_pay185 (bDu x0 x1 x2 x3 x5 x6)⟩] y
      = ((if (y 1).val < 1024 then du dy u v w b lg lb (y 0).val (y 1).val else dv dy u v w lg (y 0).val ((y 1).val - 1024) : ℝ) : EReal) := by
  canon_tiles x h
  · rw [if_neg (by omega), show (y 1).val - 1024 = (x 1).val by omega, h0]
    have e := bDv_rows H (x 0) (x 1)
    rw [ix2_eta] at e
    exact e
  · rw [if_pos (by omega), h1, h0]
    have e := bDu16_rows H (x 0) (x 1)
    rw [ix2_eta] at e
    exact e

end Cert.Sgu.Ker

end
-- ==== Proof.SguOut7.lean ====
/-
  THE FIRST RESULT'S BLOCK AT A GRID POINT: in each of the three cases it is the two halves beside one another.
-/
module

public import proofs.«01_k».proof.Proof.SguPts

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem out0_A_7_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32)
    (H : Blk x0 x1 x2 x3 x4 x5 x6 dy u v w b lg lb) (y : S512x2048.Idx) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y
      = ((if (y 1).val < 1024 then du dy u v w b lg lb (y 0).val (y 1).val else dv dy u v w lg (y 0).val ((y 1).val - 1024) : ℝ) : EReal) := by
  frame_out
  exact canon7 H y

theorem out0_B_7_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) (y : S512x2048.Idx) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 y
      = ((if (y 1).val < 1024 then du dy u v w b lg lb (y 0).val (y 1).val else dv dy u v w lg (y 0).val ((y 1).val - 1024) : ℝ) : EReal) := by
  frame_out
  exact canon7 H y

theorem out0_C_7_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) (y : S512x2048.Idx) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 y
      = ((if (y 1).val < 1024 then du dy u v w b lg lb (y 0).val (y 1).val else dv dy u v w lg (y 0).val ((y 1).val - 1024) : ℝ) : EReal) := by
  frame_out
  exact canon7 H y

end Cert.Sgu.Ker

end
-- ==== Proof.SguOutS.lean ====
/-
  THE THREE SUMS OVER ROWS AT A GRID POINT: what the point adds to the gradients by the scale and the shift, and to the products summed for the bias.
-/
module

public import proofs.«01_k».proof.Proof.SguPts

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem out0_A_10_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32)
    (H : Blk x0 x1 x2 x3 x4 x5 x6 dy u v w b lg lb) (a : Fin 1) (k : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 a k)
      = ((∑ r : Fin 512, dvn dy u w r k * nh v r k : ℝ) : EReal) := by
  frame_out
  refine (dlg_add (bR0_rows H) (bR1_rows H) (bR2_rows H) (bR3_rows H) (bNh_rows H) (f := fun _ => 0) (fun a k => ?_) a k).trans (by rw [zero_add])
  pointwise [k0_pay20, k0_pay21, k0_pay22, k0_pay23]
  exact EReal.coe_zero.symm

theorem out0_A_11_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32)
    (H : Blk x0 x1 x2 x3 x4 x5 x6 dy u v w b lg lb) (a : Fin 1) (k : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 a k)
      = ((∑ r : Fin 512, dvn dy u w r k : ℝ) : EReal) := by
  frame_out
  refine (dlb_add (bR0_rows H) (bR1_rows H) (bR2_rows H) (bR3_rows H) (f := fun _ => 0) (fun a k => ?_) a k).trans (by rw [zero_add])
  pointwise [k0_pay20, k0_pay21, k0_pay22, k0_pay23]
  exact EReal.coe_zero.symm

theorem sout0_A_0_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32)
    (H : Blk x0 x1 x2 x3 x4 x5 x6 dy u v w b lg lb) (t : Fin 128) (k : Fin 1024) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 t k)
      = ((∑ q : Fin 4, dmix dy u (128 * q + t) k : ℝ) : EReal) := by
  frame_out
  refine (scr_add (gu (bU_rows H)) (dyf H.dy) (f := fun _ _ => 0) (fun t k => ?_) t k).trans (by rw [zero_add])
  pointwise [k0_pay20, k0_pay21, k0_pay22, k0_pay23]
  exact EReal.coe_zero.symm

theorem out0_B_10_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℝ} (hf : ∀ (a : Fin 1) (k : Fin 1024), xo10 (ix2 a k) = ((f k : ℝ) : EReal)) (a : Fin 1) (k : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 a k)
      = ((f k + ∑ r : Fin 512, dvn dy u w r k * nh v r k : ℝ) : EReal) := by
  frame_out
  exact dlg_add (bR0_rows H) (bR1_rows H) (bR2_rows H) (bR3_rows H) (bNh_rows H) hf a k

theorem out0_B_11_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℝ} (hf : ∀ (a : Fin 1) (k : Fin 1024), xo11 (ix2 a k) = ((f k : ℝ) : EReal)) (a : Fin 1) (k : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 a k)
      = ((f k + ∑ r : Fin 512, dvn dy u w r k : ℝ) : EReal) := by
  frame_out
  exact dlb_add (bR0_rows H) (bR1_rows H) (bR2_rows H) (bR3_rows H) hf a k

theorem sout0_B_0_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℕ → ℝ} (hf : ∀ (t : Fin 128) (k : Fin 1024), xs0 (ix2 t k) = ((f t k : ℝ) : EReal)) (t : Fin 128) (k : Fin 1024) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 t k)
      = ((f t k + ∑ q : Fin 4, dmix dy u (128 * q + t) k : ℝ) : EReal) := by
  frame_out
  try simp only [read_unread_whole]
  exact scr_add (gu (bU_rows H)) (dyf H.dy) hf t k

theorem out0_C_10_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℝ} (hf : ∀ (a : Fin 1) (k : Fin 1024), xo10 (ix2 a k) = ((f k : ℝ) : EReal)) (a : Fin 1) (k : Fin 1024) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 a k)
      = ((f k + ∑ r : Fin 512, dvn dy u w r k * nh v r k : ℝ) : EReal) := by
  frame_out
  exact dlg_add (bR0_rows H) (bR1_rows H) (bR2_rows H) (bR3_rows H) (bNh_rows H) hf a k

theorem out0_C_11_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℝ} (hf : ∀ (a : Fin 1) (k : Fin 1024), xo11 (ix2 a k) = ((f k : ℝ) : EReal)) (a : Fin 1) (k : Fin 1024) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 a k)
      = ((f k + ∑ r : Fin 512, dvn dy u w r k : ℝ) : EReal) := by
  frame_out
  exact dlb_add (bR0_rows H) (bR1_rows H) (bR2_rows H) (bR3_rows H) hf a k

theorem sout0_C_0_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℕ → ℝ} (hf : ∀ (t : Fin 128) (k : Fin 1024), xs0 (ix2 t k) = ((f t k : ℝ) : EReal)) (t : Fin 128) (k : Fin 1024) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 (ix2 t k)
      = ((f t k + ∑ q : Fin 4, dmix dy u (128 * q + t) k : ℝ) : EReal) := by
  frame_out
  try simp only [read_unread_whole]
  exact scr_add (gu (bU_rows H)) (dyf H.dy) hf t k

end Cert.Sgu.Ker

end
-- ==== Proof.SguTile.lean ====
/-
  THE GRADIENT BY THE WEIGHTS AT A GRID POINT: each of the eight slabs is stored four times over; the last eight stores are what stays.
-/
module

public import proofs.«01_k».proof.Proof.SguPts

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable (x0 : Vec Ideal S512x1024 .bf16) (x1 : Vec Ideal S512x2560 .bf16) (x5 x6 : Vec Ideal S1x1024 .f32)

variable {dy u v : ℕ → ℕ → ℝ} {w : ℕ → ℕ → ℕ → ℝ} {b : ℕ → ℕ → ℝ} {lg lb : ℕ → ℝ}

abbrev bT0 (X : Vec Ideal S1x128x128 .f32) : FVec Ideal S1x128x128 .f32 := (k0_pay158 (F := Ideal) (k0_pay154 (F := Ideal) (bDm x0 x1)) (k0_pay156 (F := Ideal) (k0_pay129 (F := Ideal) (bVn x1 x5 x6) (bDm x0 x1) (k0_pay102 (F := Ideal) (bVn x1 x5 x6) (bDm x0 x1) (k0_pay76 (F := Ideal) (bVn x1 x5 x6) (bDm x0 x1) X)))) (k0_pay157 (F := Ideal) (bVn x1 x5 x6)) (constant (F := Ideal) S128x128 .f32 0x00000000#32))
abbrev bT1 (X : Vec Ideal S1x128x128 .f32) : FVec Ideal S1x128x128 .f32 := (k0_pay161 (F := Ideal) (bVn x1 x5 x6) (bDm x0 x1) (k0_pay133 (F := Ideal) (bVn x1 x5 x6) (k0_pay130 (F := Ideal) (bDm x0 x1)) (k0_pay106 (F := Ideal) (k0_pay105 (F := Ideal) (bVn x1 x5 x6) (bDm x0 x1) (k0_pay79 (F := Ideal) (bVn x1 x5 x6) (bDm x0 x1) X)))))
abbrev bT2 (X : Vec Ideal S1x128x128 .f32) : FVec Ideal S1x128x128 .f32 := (k0_pay164 (F := Ideal) (bVn x1 x5 x6) (bDm x0 x1) (k0_pay136 (F := Ideal) (bVn x1 x5 x6) (bDm x0 x1) (k0_pay109 (F := Ideal) (bVn x1 x5 x6) (bDm x0 x1) (k0_pay82 (F := Ideal) (bVn x1 x5 x6) (k0_pay80 (F := Ideal) (bDm x0 x1)) X))))
abbrev bT3 (X : Vec Ideal S1x128x128 .f32) : FVec Ideal S1x128x128 .f32 := (k0_pay167 (F := Ideal) (bVn x1 x5 x6) (k0_pay165 (F := Ideal) (bDm x0 x1)) (k0_pay140 (F := Ideal) (k0_pay139 (F := Ideal) (bVn x1 x5 x6) (bDm x0 x1) (k0_pay112 (F := Ideal) (bVn x1 x5 x6) (bDm x0 x1) (k0_pay85 (F := Ideal) (bVn x1 x5 x6) (bDm x0 x1) X)))))
abbrev bT4 (X : Vec Ideal S1x128x128 .f32) : FVec Ideal S1x128x128 .f32 := (k0_pay170 (F := Ideal) (bVn x1 x5 x6) (bDm x0 x1) (k0_pay143 (F := Ideal) (bVn x1 x5 x6) (bDm x0 x1) (k0_pay115 (F := Ideal) (bVn x1 x5 x6) (k0_pay113 (F := Ideal) (bDm x0 x1)) (k0_pay88 (F := Ideal) (bVn x1 x5 x6) (bDm x0 x1) X))))
abbrev bT5 (X : Vec Ideal S1x128x128 .f32) : FVec Ideal S1x128x128 .f32 := (k0_pay175 (F := Ideal) (k0_pay171 (F := Ideal) (bDm x0 x1)) (k0_pay173 (F := Ideal) (k0_pay146 (F := Ideal) (bVn x1 x5 x6) (bDm x0 x1) (k0_pay118 (F := Ideal) (bVn x1 x5 x6) (bDm x0 x1) (k0_pay91 (F := Ideal) (bVn x1 x5 x6) (bDm x0 x1) X)))) (k0_pay174 (F := Ideal) (bVn x1 x5 x6)) (constant (F := Ideal) S128x128 .f32 0x00000000#32))
abbrev bT6 (X : Vec Ideal S1x128x128 .f32) : FVec Ideal S1x128x128 .f32 := (k0_pay177 (F := Ideal) (bVn x1 x5 x6) (bDm x0 x1) (k0_pay149 (F := Ideal) (bVn x1 x5 x6) (k0_pay147 (F := Ideal) (bDm x0 x1)) (k0_pay122 (F := Ideal) (k0_pay121 (F := Ideal) (bVn x1 x5 x6) (bDm x0 x1) (k0_pay94 (F := Ideal) (bVn x1 x5 x6) (bDm x0 x1) X)))))
abbrev bT7 (X : Vec Ideal S1x128x128 .f32) : FVec Ideal S1x128x128 .f32 := (k0_pay179 (F := Ideal) (bVn x1 x5 x6) (bDm x0 x1) (k0_pay151 (F := Ideal) (bVn x1 x5 x6) (bDm x0 x1) (k0_pay124 (F := Ideal) (bVn x1 x5 x6) (bDm x0 x1) (k0_pay97 (F := Ideal) (bVn x1 x5 x6) (k0_pay95 (F := Ideal) (bDm x0 x1)) X))))

variable {x0 x1 x5 x6}

theorem bT0_slab {x2 x3 x4} (H : Blk x0 x1 x2 x3 x4 x5 x6 dy u v w b lg lb) {X : S1x128x128.Idx → EReal} {f : ℕ → ℕ → ℝ} (hX : Slab X f) :
    Slab (bT0 x0 x1 x5 x6 X) fun t s => f t s + ∑ q : Fin 4, dwsAt dy u v lg lb q 0 t s := tile0 (bDm_rows H) (bVn_rows H) hX

theorem bT1_slab {x2 x3 x4} (H : Blk x0 x1 x2 x3 x4 x5 x6 dy u v w b lg lb) {X : S1x128x128.Idx → EReal} {f : ℕ → ℕ → ℝ} (hX : Slab X f) :
    Slab (bT1 x0 x1 x5 x6 X) fun t s => f t s + ∑ q : Fin 4, dwsAt dy u v lg lb q 1 t s := tile1 (bDm_rows H) (bVn_rows H) hX

theorem bT2_slab {x2 x3 x4} (H : Blk x0 x1 x2 x3 x4 x5 x6 dy u v w b lg lb) {X : S1x128x128.Idx → EReal} {f : ℕ → ℕ → ℝ} (hX : Slab X f) :
    Slab (bT2 x0 x1 x5 x6 X) fun t s => f t s + ∑ q : Fin 4, dwsAt dy u v lg lb q 2 t s := tile2 (bDm_rows H) (bVn_rows H) hX

theorem bT3_slab {x2 x3 x4} (H : Blk x0 x1 x2 x3 x4 x5 x6 dy u v w b lg lb) {X : S1x128x128.Idx → EReal} {f : ℕ → ℕ → ℝ} (hX : Slab X f) :
    Slab (bT3 x0 x1 x5 x6 X) fun t s => f t s + ∑ q : Fin 4, dwsAt dy u v lg lb q 3 t s := tile3 (bDm_rows H) (bVn_rows H) hX

theorem bT4_slab {x2 x3 x4} (H : Blk x0 x1 x2 x3 x4 x5 x6 dy u v w b lg lb) {X : S1x128x128.Idx → EReal} {f : ℕ → ℕ → ℝ} (hX : Slab X f) :
    Slab (bT4 x0 x1 x5 x6 X) fun t s => f t s + ∑ q : Fin 4, dwsAt dy u v lg lb q 4 t s := tile4 (bDm_rows H) (bVn_rows H) hX

theorem bT5_slab {x2 x3 x4} (H : Blk x0 x1 x2 x3 x4 x5 x6 dy u v w b lg lb) {X : S1x128x128.Idx → EReal} {f : ℕ → ℕ → ℝ} (hX : Slab X f) :
    Slab (bT5 x0 x1 x5 x6 X) fun t s => f t s + ∑ q : Fin 4, dwsAt dy u v lg lb q 5 t s := tile5 (bDm_rows H) (bVn_rows H) hX

theorem bT6_slab {x2 x3 x4} (H : Blk x0 x1 x2 x3 x4 x5 x6 dy u v w b lg lb) {X : S1x128x128.Idx → EReal} {f : ℕ → ℕ → ℝ} (hX : Slab X f) :
    Slab (bT6 x0 x1 x5 x6 X) fun t s => f t s + ∑ q : Fin 4, dwsAt dy u v lg lb q 6 t s := tile6 (bDm_rows H) (bVn_rows H) hX

theorem bT7_slab {x2 x3 x4} (H : Blk x0 x1 x2 x3 x4 x5 x6 dy u v w b lg lb) {X : S1x128x128.Idx → EReal} {f : ℕ → ℕ → ℝ} (hX : Slab X f) :
    Slab (bT7 x0 x1 x5 x6 X) fun t s => f t s + ∑ q : Fin 4, dwsAt dy u v lg lb q 7 t s := tile7 (bDm_rows H) (bVn_rows H) hX

theorem old0 {x : Vec Ideal S8x128x128 .f32} {f : ℕ → ℕ → ℕ → ℝ} (hf : ∀ (g : Fin 8) (t s : Fin 128), x (ix3 g t s) = ((f g t s : ℝ) : EReal)) :
    Slab (bB0 x) (f 0) := fun a t s => by
  refine (View.ld_unit_apply_of x _ _ _ _ (ix3 (0 : Fin 8) t s) ?_).trans (hf 0 t s)
  intro b; fin_cases b <;> simp [ix3]

theorem old1 {x : Vec Ideal S8x128x128 .f32} {f : ℕ → ℕ → ℕ → ℝ} (hf : ∀ (g : Fin 8) (t s : Fin 128), x (ix3 g t s) = ((f g t s : ℝ) : EReal)) :
    Slab (bB1 x) (f 1) := fun a t s => by
  refine (View.ld_unit_apply_of x _ _ _ _ (ix3 (1 : Fin 8) t s) ?_).trans (hf 1 t s)
  intro b; fin_cases b <;> simp [ix3]

theorem old2 {x : Vec Ideal S8x128x128 .f32} {f : ℕ → ℕ → ℕ → ℝ} (hf : ∀ (g : Fin 8) (t s : Fin 128), x (ix3 g t s) = ((f g t s : ℝ) : EReal)) :
    Slab (bB2 x) (f 2) := fun a t s => by
  refine (View.ld_unit_apply_of x _ _ _ _ (ix3 (2 : Fin 8) t s) ?_).trans (hf 2 t s)
  intro b; fin_cases b <;> simp [ix3]

theorem old3 {x : Vec Ideal S8x128x128 .f32} {f : ℕ → ℕ → ℕ → ℝ} (hf : ∀ (g : Fin 8) (t s : Fin 128), x (ix3 g t s) = ((f g t s : ℝ) : EReal)) :
    Slab (bB3 x) (f 3) := fun a t s => by
  refine (View.ld_unit_apply_of x _ _ _ _ (ix3 (3 : Fin 8) t s) ?_).trans (hf 3 t s)
  intro b; fin_cases b <;> simp [ix3]

theorem old4 {x : Vec Ideal S8x128x128 .f32} {f : ℕ → ℕ → ℕ → ℝ} (hf : ∀ (g : Fin 8) (t s : Fin 128), x (ix3 g t s) = ((f g t s : ℝ) : EReal)) :
    Slab (bB4 x) (f 4) := fun a t s => by
  refine (View.ld_unit_apply_of x _ _ _ _ (ix3 (4 : Fin 8) t s) ?_).trans (hf 4 t s)
  intro b; fin_cases b <;> simp [ix3]

theorem old5 {x : Vec Ideal S8x128x128 .f32} {f : ℕ → ℕ → ℕ → ℝ} (hf : ∀ (g : Fin 8) (t s : Fin 128), x (ix3 g t s) = ((f g t s : ℝ) : EReal)) :
    Slab (bB5 x) (f 5) := fun a t s => by
  refine (View.ld_unit_apply_of x _ _ _ _ (ix3 (5 : Fin 8) t s) ?_).trans (hf 5 t s)
  intro b; fin_cases b <;> simp [ix3]

theorem old6 {x : Vec Ideal S8x128x128 .f32} {f : ℕ → ℕ → ℕ → ℝ} (hf : ∀ (g : Fin 8) (t s : Fin 128), x (ix3 g t s) = ((f g t s : ℝ) : EReal)) :
    Slab (bB6 x) (f 6) := fun a t s => by
  refine (View.ld_unit_apply_of x _ _ _ _ (ix3 (6 : Fin 8) t s) ?_).trans (hf 6 t s)
  intro b; fin_cases b <;> simp [ix3]

theorem old7 {x : Vec Ideal S8x128x128 .f32} {f : ℕ → ℕ → ℕ → ℝ} (hf : ∀ (g : Fin 8) (t s : Fin 128), x (ix3 g t s) = ((f g t s : ℝ) : EReal)) :
    Slab (bB7 x) (f 7) := fun a t s => by
  refine (View.ld_unit_apply_of x _ _ _ _ (ix3 (7 : Fin 8) t s) ?_).trans (hf 7 t s)
  intro b; fin_cases b <;> simp [ix3]

theorem place (n : ℕ) (inb : ∀ a, (![n, 0, 0] : Fin 3 → ℕ) a + (![1, 128, 128] : Fin 3 → ℕ) a ≤ S8x128x128.size a) {P : Vec Ideal S1x128x128 .f32} {F : ℕ → ℕ → ℕ → ℝ} (h : Slab P (F n))
    (x : (Rect.unit (s := S8x128x128) ![n, 0, 0] ![1, 128, 128] inb).shape.Idx) :
    P x = ((F (((Rect.unit (s := S8x128x128) ![n, 0, 0] ![1, 128, 128] inb).emb x) 0).val (((Rect.unit (s := S8x128x128) ![n, 0, 0] ![1, 128, 128] inb).emb x) 1).val
      (((Rect.unit (s := S8x128x128) ![n, 0, 0] ![1, 128, 128] inb).emb x) 2).val : ℝ) : EReal) := by
  have k (a) : (((Rect.unit (s := S8x128x128) ![n, 0, 0] ![1, 128, 128] inb).emb x) a).val = (![n, 0, 0] : Fin 3 → ℕ) a + x a := Rect.idx_unit_val _ _ _ x a
  have e := h (x 0) (x 1) (x 2)
  rw [ix3_eta] at e
  refine e.trans ?_
  have k0 := k 0
  have k1 := k 1
  have k2 := k 2
  have x0 : (x 0).val = 0 := Nat.lt_one_iff.mp (x 0).isLt
  simp only [x0, Matrix.cons_val_zero, Matrix.cons_val_one, Matrix.cons_val, Nat.add_zero, Nat.zero_add] at k0 k1 k2
  rw [k0, k1, k2]

/-- The eight newest stores are the eight slabs: what is under them does not show. -/
theorem canon8 {P0 P1 P2 P3 P4 P5 P6 P7 : Vec Ideal S1x128x128 .f32} {F : ℕ → ℕ → ℕ → ℝ}
    (h0 : Slab P0 (F 0)) (h1 : Slab P1 (F 1)) (h2 : Slab P2 (F 2)) (h3 : Slab P3 (F 3)) (h4 : Slab P4 (F 4)) (h5 : Slab P5 (F 5)) (h6 : Slab P6 (F 6)) (h7 : Slab P7 (F 7)) (L' : List (View.Piece (Elt Ideal) S8x128x128 .f32)) (y : S8x128x128.Idx) :
    View.canon (Val := Elt Ideal) (e := .f32) (⟨Rect.unit ![7, 0, 0] ![1, 128, 128] inb_S8x128x128_S1x128x128_7_0_0, P7⟩ :: ⟨Rect.unit ![6, 0, 0] ![1, 128, 128] inb_S8x128x128_S1x128x128_6_0_0, P6⟩ :: ⟨Rect.unit ![5, 0, 0] ![1, 128, 128] inb_S8x128x128_S1x128x128_5_0_0, P5⟩ :: ⟨Rect.unit ![4, 0, 0] ![1, 128, 128] inb_S8x128x128_S1x128x128_4_0_0, P4⟩ :: ⟨Rect.unit ![3, 0, 0] ![1, 128, 128] inb_S8x128x128_S1x128x128_3_0_0, P3⟩ :: ⟨Rect.unit ![2, 0, 0] ![1, 128, 128] inb_S8x128x128_S1x128x128_2_0_0, P2⟩ :: ⟨Rect.unit ![1, 0, 0] ![1, 128, 128] inb_S8x128x128_S1x128x128_1_0_0, P1⟩ :: ⟨Rect.unit ![0, 0, 0] ![1, 128, 128] inb_S8x128x128_S1x128x128_0_0_0, P0⟩ :: L') y
      = ((F (y 0).val (y 1).val (y 2).val : ℝ) : EReal) := by
  refine View.canon_append_of_piecesOf (fun y => ((F (y 0).val (y 1).val (y 2).val : ℝ) : EReal)) L'
    [⟨Rect.unit ![7, 0, 0] ![1, 128, 128] inb_S8x128x128_S1x128x128_7_0_0, P7⟩, ⟨Rect.unit ![6, 0, 0] ![1, 128, 128] inb_S8x128x128_S1x128x128_6_0_0, P6⟩, ⟨Rect.unit ![5, 0, 0] ![1, 128, 128] inb_S8x128x128_S1x128x128_5_0_0, P5⟩, ⟨Rect.unit ![4, 0, 0] ![1, 128, 128] inb_S8x128x128_S1x128x128_4_0_0, P4⟩, ⟨Rect.unit ![3, 0, 0] ![1, 128, 128] inb_S8x128x128_S1x128x128_3_0_0, P3⟩, ⟨Rect.unit ![2, 0, 0] ![1, 128, 128] inb_S8x128x128_S1x128x128_2_0_0, P2⟩, ⟨Rect.unit ![1, 0, 0] ![1, 128, 128] inb_S8x128x128_S1x128x128_1_0_0, P1⟩, ⟨Rect.unit ![0, 0, 0] ![1, 128, 128] inb_S8x128x128_S1x128x128_0_0_0, P0⟩] ⟨?_, ?_, ?_, ?_, ?_, ?_, ?_, ?_, trivial⟩ y ?_
  · exact place 7 inb_S8x128x128_S1x128x128_7_0_0 h7
  · exact place 6 inb_S8x128x128_S1x128x128_6_0_0 h6
  · exact place 5 inb_S8x128x128_S1x128x128_5_0_0 h5
  · exact place 4 inb_S8x128x128_S1x128x128_4_0_0 h4
  · exact place 3 inb_S8x128x128_S1x128x128_3_0_0 h3
  · exact place 2 inb_S8x128x128_S1x128x128_2_0_0 h2
  · exact place 1 inb_S8x128x128_S1x128x128_1_0_0 h1
  · exact place 0 inb_S8x128x128_S1x128x128_0_0_0 h0
  · exact View.cover_of_tiledL _ ![1, 128, 128] rfl y

end Cert.Sgu.Ker

end
-- ==== Proof.SguOut8A.lean ====
/-
  THE GRADIENT BY THE WEIGHTS AT A GRID POINT, opened.
-/
module

public import proofs.«01_k».proof.Proof.SguTile

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem z20 (g : Fin 8) (t s : Fin 128) : k0_pay20 (F := Ideal) (ix3 g t s) = (((fun _ _ _ => 0 : ℕ → ℕ → ℕ → ℝ) g t s : ℝ) : EReal) := by
  pointwise [k0_pay20]
  exact EReal.coe_zero.symm

theorem out0_A_8_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32)
    (H : Blk x0 x1 x2 x3 x4 x5 x6 dy u v w b lg lb) (y : S8x128x128.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y
      = ((∑ q : Fin 4, dwsAt dy u v lg lb q (y 0).val (y 1).val (y 2).val : ℝ) : EReal) := by
  frame_open
  simp (disch := decide) only [↓ View.readCov_skip, ↓ View.readCov_cons_toLoadRect, ↓ View.readCov_fill]
  frame_out
  refine (canon8 (F := fun g t s => 0 + ∑ q : Fin 4, dwsAt dy u v lg lb q g t s) (bT0_slab H (old0 (f := fun _ _ _ => 0) z20)) (bT1_slab H (old1 (f := fun _ _ _ => 0) z20)) (bT2_slab H (old2 (f := fun _ _ _ => 0) z20)) (bT3_slab H (old3 (f := fun _ _ _ => 0) z20)) (bT4_slab H (old4 (f := fun _ _ _ => 0) z20)) (bT5_slab H (old5 (f := fun _ _ _ => 0) z20)) (bT6_slab H (old6 (f := fun _ _ _ => 0) z20)) (bT7_slab H (old7 (f := fun _ _ _ => 0) z20)) _ y).trans (by rw [zero_add])

end Cert.Sgu.Ker

end
-- ==== Proof.SguOut8B.lean ====
/-
  THE GRADIENT BY THE WEIGHTS AT A GRID POINT, opened.
-/
module

public import proofs.«01_k».proof.Proof.SguTile

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem out0_B_8_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : ¬cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℕ → ℕ → ℝ} (hf : ∀ (g : Fin 8) (t s : Fin 128), xo8 (ix3 g t s) = ((f g t s : ℝ) : EReal)) (y : S8x128x128.Idx) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 y
      = ((f (y 0).val (y 1).val (y 2).val + ∑ q : Fin 4, dwsAt dy u v lg lb q (y 0).val (y 1).val (y 2).val : ℝ) : EReal) := by
  frame_open
  simp (disch := decide) only [↓ View.readCov_skip, ↓ View.readCov_cons_toLoadRect, ↓ View.readCov_fill]
  frame_out
  exact canon8 (F := fun g t s => f g t s + ∑ q : Fin 4, dwsAt dy u v lg lb q g t s) (bT0_slab H (old0 hf)) (bT1_slab H (old1 hf)) (bT2_slab H (old2 hf)) (bT3_slab H (old3 hf)) (bT4_slab H (old4 hf)) (bT5_slab H (old5 hf)) (bT6_slab H (old6 hf)) (bT7_slab H (old7 hf)) _ y

end Cert.Sgu.Ker

end
-- ==== Proof.SguOut8C.lean ====
/-
  THE GRADIENT BY THE WEIGHTS AT A GRID POINT, opened.
-/
module

public import proofs.«01_k».proof.Proof.SguTile

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem out0_C_8_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℕ → ℕ → ℝ} (hf : ∀ (g : Fin 8) (t s : Fin 128), xo8 (ix3 g t s) = ((f g t s : ℝ) : EReal)) (y : S8x128x128.Idx) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 y
      = (((f (y 0).val (y 1).val (y 2).val + ∑ q : Fin 4, dwsAt dy u v lg lb q (y 0).val (y 1).val (y 2).val) * msk (y 1).val (y 2).val : ℝ) : EReal) := by
  frame_open
  simp (disch := decide) only [↓ View.readCov_skip, ↓ View.readCov_cons_toLoadRect, ↓ View.readCov_fill]
  frame_out
  refine canon8 (F := fun g t s => (f g t s + ∑ q : Fin 4, dwsAt dy u v lg lb q g t s) * msk t s) (mask0 (bT0_slab H (old0 hf)) H.m) (mask1 (bT1_slab H (old1 hf)) H.m) (mask2 (bT2_slab H (old2 hf)) H.m) (mask3 (bT3_slab H (old3 hf)) H.m) (mask4 (bT4_slab H (old4 hf)) H.m) (mask5 (bT5_slab H (old5 hf)) H.m) (mask6 (bT6_slab H (old6 hf)) H.m) (mask7 (bT7_slab H (old7 hf)) H.m) _ y

end Cert.Sgu.Ker

end
-- ==== Proof.SguOut9.lean ====
/-
  THE GRADIENT BY THE WEIGHTS AT A GRID POINT, opened.
-/
module

public import proofs.«01_k».proof.Proof.SguTile

@[expose] public section

set_option maxRecDepth 16384
set_option maxHeartbeats 800000
set_option backward.proofsInPublic true

noncomputable section

namespace Cert.Sgu.Ker

open Cert.KernelIdeal Cert.KernelIdeal.Gen Idealize.ShloMosaic Cert.Sgu

variable {dy u v : ℕ → ℕ → ℝ} {w : ℕ → ℕ → ℕ → ℝ} {b : ℕ → ℕ → ℝ} {lg lb : ℕ → ℝ}

theorem out0_C_9_at (c : Dev nD) (i : grid0.Coords) (arg1 : Memref sig .tc .vmem S512x1024 .bf16) (harg1 : arg1.IsWhole) (arg2 : Memref sig .tc .vmem S512x2560 .bf16) (harg2 : arg2.IsWhole) (arg3 : Memref sig .tc .vmem S8x128x128 .bf16) (harg3 : arg3.IsWhole) (arg4 : Memref sig .tc .vmem S8x128x128 .f32) (harg4 : arg4.IsWhole) (arg5 : Memref sig .tc .vmem S128x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x2048 .bf16) (harg8 : arg8.IsWhole) (arg9 : Memref sig .tc .vmem S8x128x128 .f32) (harg9 : arg9.IsWhole) (arg10 : Memref sig .tc .vmem S128x8 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole) (hc0 : ¬cond0_0 i) (hc1 : cond0_1 i) (x0 : Vec Ideal S512x1024 .bf16) (x1 : Vec Ideal S512x2560 .bf16) (x2 : Vec Ideal S8x128x128 .bf16) (x3 : Vec Ideal S8x128x128 .f32) (x4 : Vec Ideal S128x128 .f32) (x5 : Vec Ideal S1x1024 .f32) (x6 : Vec Ideal S1x1024 .f32) (xo8 : Vec Ideal S8x128x128 .f32) (xo10 : Vec Ideal S1x1024 .f32) (xo11 : Vec Ideal S1x1024 .f32) (xs0 : Vec Ideal S128x1024 .f32)
    (H : Blk x0 x1 x2 x3 x4 x5 x6 dy u v w b lg lb) {f : ℕ → ℕ → ℝ} (hf : ∀ (t : Fin 128) (k : Fin 1024), xs0 (ix2 t k) = ((f t k : ℝ) : EReal)) (y : S128x8.Idx) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo10 xo11 xs0 y
      = ((∑ j : Fin 128, (f (y 0).val (128 * (y 1).val + j) + ∑ q : Fin 4, dmix dy u (128 * q + (y 0).val) (128 * (y 1).val + j)) : ℝ) : EReal) := by
  frame_open
  simp (disch := decide) only [↓ View.readCov_skip, ↓ View.readCov_cons_toLoadRect, ↓ View.readCov_fill]
  frame_out
  have e := scr_sum (gu (bU_rows H)) (dyf H.dy) hf
  canon_tiles x h
  · have e2 := col7 (f := fun t k => f t k + ∑ q : Fin 4, dmix dy u (128 * q + t) k) e (x 0) (x 1)
    rw [ix2_eta] at e2
    rw [h0, show (y 1).val = 7 by omega]
    exact e2
  · have e2 := col6 (f := fun t k => f t k + ∑ q : Fin 4, dmix dy u (128 * q + t) k) e (x 0) (x 1)
    rw [ix2_eta] at e2
    rw [h0, show (y 1).val = 6 by omega]
    exact e2
  · have e2 := col5 (f := fun t k => f t k + ∑ q : Fin 4, dmix dy u (128 * q + t) k) e (x 0) (x 1)
    rw [ix2_eta] at e2
    rw [h0, show (y 1).val = 5 by omega]
    exact e2
  · have e2 := col4 (f := fun t k => f t k + ∑ q : Fin 4, dmix dy u (128 * q + t) k) e (x 0) (x 1)
    rw [ix2_eta] at e2
    rw [h0, show (y 1).val = 4 by omega]
    exact e2
  · have e2 := col3 (f := fun t k => f t k + ∑ q : Fin 4, dmix dy u (128 * q + t) k) e (x 0) (x 1)
    rw [ix2_eta] at e2
    rw [h0, show (y 1).val = 3 by omega]
    exact e2
  · have e2 := col2 (f := fun t k => f t k + ∑ q : Fin 4, dmix dy u (128 * q + t) k) e (x 0) (x 1)
    rw [ix2_eta] at e2
    rw [h0, show (y 1).val = 2 by omega]
    exact e2
  · have e2 := col1 (f := fun t k => f t k + ∑ q : Fin 4, dmix dy u (128 * q + t) k) e (x 0) (x 1)
    rw [ix2_eta] at e2
    rw [h0, show (y 1).val = 1 by omega]
    exact e2
  · have e2 := col0 (f := fun t k => f t k + ∑ q : Fin 4, dmix dy u (128 * q + t) k) e (x 0) (x 1)
    rw [ix2_eta] at e2
    rw [h0, show (y 1).val = 0 by omega]
    simp only [Nat.mul_zero, Nat.zero_add]
    exact e2

end Cert.Sgu.Ker

end
-- ==== Proof.SguStep.lean ====
/-
  ONE STEP OF THE SWEEP: what each component of the carried state is after a grid point, over what the point before left.
-/
module

public import proofs.«01_k».proof.Proof.SguOut7
public import proofs.«01_k».proof.Proof.SguOutS
public import proofs.«01_k».proof.Proof.SguOut8A
public import proofs.«01_k».proof.Proof.SguOut8B
public import proofs.«01_k».proof.Proof.SguOut8C
public import proofs.«01_k».proof.Proof.SguOut9

@[expose] public section

set_option maxRecDepth 16384
set_option backward.proofsInPublic true

noncomputable section

namespace Cert.Sgu.Ker

open Cert.KernelIdeal Cert.KernelIdeal.Gen Cert.KernelIdeal.Value Idealize.ShloMosaic Cert.Sgu

variable {dy u v : ℕ → ℕ → ℝ} {w : ℕ → ℕ → ℕ → ℝ} {b : ℕ → ℕ → ℝ} {lg lb : ℕ → ℝ}
variable {m : (ℓ : Loc nD τ sig) → Buf (Elt Ideal) ℓ} {c : Dev nD} (t : Fin cfg0.N)
  (H : Blk (iblk m c 0 t) (X0_1 m c t) (iblk m c 2 t) (iblk m c 3 t) (iblk m c 4 t) (iblk m c 5 t) (iblk m c 6 t) dy u v w b lg lb)
  (acc : Vec Ideal S512x2048 .bf16 × Vec Ideal S8x128x128 .f32 × Vec Ideal S128x8 .f32 × Vec Ideal S1x1024 .f32 × Vec Ideal S1x1024 .f32 × Vec Ideal S128x1024 .f32)

include H

theorem stA_7 (h0 : t.val % 8 = 0) (h1 : ¬t.val % 8 = 7)  (y : S512x2048.Idx) :
    (stAt0 m c t.val t.isLt acc).1 y = ((if (y 1).val < 1024 then du dy u v w b lg lb (y 0).val (y 1).val else dv dy u v w lg (y 0).val ((y 1).val - 1024) : ℝ) : EReal) := by
  have e : (stAt0 m c t.val t.isLt acc).1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) := by rw [stAt0_A m c t acc h0 h1]
  rw [e]
  exact out0_A_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) H  y

theorem stA_8 (h0 : t.val % 8 = 0) (h1 : ¬t.val % 8 = 7)  (g : Fin 8) (r s : Fin 128) :
    (stAt0 m c t.val t.isLt acc).2.1 (ix3 g r s) = ((∑ q : Fin 4, dwsAt dy u v lg lb q g r s : ℝ) : EReal) := by
  have e : (stAt0 m c t.val t.isLt acc).2.1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) := by rw [stAt0_A m c t acc h0 h1]
  rw [e]
  exact out0_A_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) H  (ix3 g r s)

theorem stA_10 (h0 : t.val % 8 = 0) (h1 : ¬t.val % 8 = 7)  (a : Fin 1) (k : Fin 1024) :
    (stAt0 m c t.val t.isLt acc).2.2.2.1 (ix2 a k) = ((∑ r : Fin 512, dvn dy u w r k * nh v r k : ℝ) : EReal) := by
  have e : (stAt0 m c t.val t.isLt acc).2.2.2.1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) := by rw [stAt0_A m c t acc h0 h1]
  rw [e]
  exact out0_A_10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) H  a k

theorem stA_11 (h0 : t.val % 8 = 0) (h1 : ¬t.val % 8 = 7)  (a : Fin 1) (k : Fin 1024) :
    (stAt0 m c t.val t.isLt acc).2.2.2.2.1 (ix2 a k) = ((∑ r : Fin 512, dvn dy u w r k : ℝ) : EReal) := by
  have e : (stAt0 m c t.val t.isLt acc).2.2.2.2.1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) := by rw [stAt0_A m c t acc h0 h1]
  rw [e]
  exact out0_A_11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) H  a k

theorem stA_0 (h0 : t.val % 8 = 0) (h1 : ¬t.val % 8 = 7)  (r : Fin 128) (k : Fin 1024) :
    (stAt0 m c t.val t.isLt acc).2.2.2.2.2 (ix2 r k) = ((∑ q : Fin 4, dmix dy u (128 * q + r) k : ℝ) : EReal) := by
  have e : (stAt0 m c t.val t.isLt acc).2.2.2.2.2 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) := by rw [stAt0_A m c t acc h0 h1]
  rw [e]
  exact sout0_A_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (iblk m c 0 t) (X0_1 m c t) (iblk m c 2 t) (iblk m c 3 t) (iblk m c 4 t) (iblk m c 5 t) (iblk m c 6 t) H  r k

theorem stB_7 (h0 : ¬t.val % 8 = 0) (h1 : ¬t.val % 8 = 7)  (y : S512x2048.Idx) :
    (stAt0 m c t.val t.isLt acc).1 y = ((if (y 1).val < 1024 then du dy u v w b lg lb (y 0).val (y 1).val else dv dy u v w lg (y 0).val ((y 1).val - 1024) : ℝ) : EReal) := by
  have e : (stAt0 m c t.val t.isLt acc).1 = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_B m c t acc h0 h1]
  rw [e]
  exact out0_B_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 H  y

theorem stB_8 (h0 : ¬t.val % 8 = 0) (h1 : ¬t.val % 8 = 7) {f : ℕ → ℕ → ℕ → ℝ} (hf : ∀ (g : Fin 8) (t s : Fin 128), acc.2.1 (ix3 g t s) = ((f g t s : ℝ) : EReal)) (g : Fin 8) (r s : Fin 128) :
    (stAt0 m c t.val t.isLt acc).2.1 (ix3 g r s) = ((f g r s + ∑ q : Fin 4, dwsAt dy u v lg lb q g r s : ℝ) : EReal) := by
  have e : (stAt0 m c t.val t.isLt acc).2.1 = out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_B m c t acc h0 h1]
  rw [e]
  exact out0_B_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf (ix3 g r s)

theorem stB_10 (h0 : ¬t.val % 8 = 0) (h1 : ¬t.val % 8 = 7) {f : ℕ → ℝ} (hf : ∀ (a : Fin 1) (k : Fin 1024), acc.2.2.2.1 (ix2 a k) = ((f k : ℝ) : EReal)) (a : Fin 1) (k : Fin 1024) :
    (stAt0 m c t.val t.isLt acc).2.2.2.1 (ix2 a k) = ((f k + ∑ r : Fin 512, dvn dy u w r k * nh v r k : ℝ) : EReal) := by
  have e : (stAt0 m c t.val t.isLt acc).2.2.2.1 = out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_B m c t acc h0 h1]
  rw [e]
  exact out0_B_10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf a k

theorem stB_11 (h0 : ¬t.val % 8 = 0) (h1 : ¬t.val % 8 = 7) {f : ℕ → ℝ} (hf : ∀ (a : Fin 1) (k : Fin 1024), acc.2.2.2.2.1 (ix2 a k) = ((f k : ℝ) : EReal)) (a : Fin 1) (k : Fin 1024) :
    (stAt0 m c t.val t.isLt acc).2.2.2.2.1 (ix2 a k) = ((f k + ∑ r : Fin 512, dvn dy u w r k : ℝ) : EReal) := by
  have e : (stAt0 m c t.val t.isLt acc).2.2.2.2.1 = out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_B m c t acc h0 h1]
  rw [e]
  exact out0_B_11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf a k

theorem stB_0 (h0 : ¬t.val % 8 = 0) (h1 : ¬t.val % 8 = 7) {f : ℕ → ℕ → ℝ} (hf : ∀ (r : Fin 128) (k : Fin 1024), acc.2.2.2.2.2 (ix2 r k) = ((f r k : ℝ) : EReal)) (r : Fin 128) (k : Fin 1024) :
    (stAt0 m c t.val t.isLt acc).2.2.2.2.2 (ix2 r k) = ((f r k + ∑ q : Fin 4, dmix dy u (128 * q + r) k : ℝ) : EReal) := by
  have e : (stAt0 m c t.val t.isLt acc).2.2.2.2.2 = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_B m c t acc h0 h1]
  rw [e]
  exact sout0_B_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf r k

theorem stC_7 (h0 : ¬t.val % 8 = 0) (h1 : t.val % 8 = 7)  (y : S512x2048.Idx) :
    (stAt0 m c t.val t.isLt acc).1 y = ((if (y 1).val < 1024 then du dy u v w b lg lb (y 0).val (y 1).val else dv dy u v w lg (y 0).val ((y 1).val - 1024) : ℝ) : EReal) := by
  have e : (stAt0 m c t.val t.isLt acc).1 = out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact out0_C_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H  y

theorem stC_8 (h0 : ¬t.val % 8 = 0) (h1 : t.val % 8 = 7) {f : ℕ → ℕ → ℕ → ℝ} (hf : ∀ (g : Fin 8) (t s : Fin 128), acc.2.1 (ix3 g t s) = ((f g t s : ℝ) : EReal)) (g : Fin 8) (r s : Fin 128) :
    (stAt0 m c t.val t.isLt acc).2.1 (ix3 g r s) = (((f g r s + ∑ q : Fin 4, dwsAt dy u v lg lb q g r s) * msk r s : ℝ) : EReal) := by
  have e : (stAt0 m c t.val t.isLt acc).2.1 = out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact out0_C_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf (ix3 g r s)

theorem stC_9 (h0 : ¬t.val % 8 = 0) (h1 : t.val % 8 = 7) {f : ℕ → ℕ → ℝ} (hf : ∀ (r : Fin 128) (k : Fin 1024), acc.2.2.2.2.2 (ix2 r k) = ((f r k : ℝ) : EReal)) (r : Fin 128) (g : Fin 8) :
    (stAt0 m c t.val t.isLt acc).2.2.1 (ix2 r g) = ((∑ j : Fin 128, (f r (128 * g + j) + ∑ q : Fin 4, dmix dy u (128 * q + r) (128 * g + j)) : ℝ) : EReal) := by
  have e : (stAt0 m c t.val t.isLt acc).2.2.1 = out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact out0_C_9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf (ix2 r g)

theorem stC_10 (h0 : ¬t.val % 8 = 0) (h1 : t.val % 8 = 7) {f : ℕ → ℝ} (hf : ∀ (a : Fin 1) (k : Fin 1024), acc.2.2.2.1 (ix2 a k) = ((f k : ℝ) : EReal)) (a : Fin 1) (k : Fin 1024) :
    (stAt0 m c t.val t.isLt acc).2.2.2.1 (ix2 a k) = ((f k + ∑ r : Fin 512, dvn dy u w r k * nh v r k : ℝ) : EReal) := by
  have e : (stAt0 m c t.val t.isLt acc).2.2.2.1 = out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact out0_C_10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf a k

theorem stC_11 (h0 : ¬t.val % 8 = 0) (h1 : t.val % 8 = 7) {f : ℕ → ℝ} (hf : ∀ (a : Fin 1) (k : Fin 1024), acc.2.2.2.2.1 (ix2 a k) = ((f k : ℝ) : EReal)) (a : Fin 1) (k : Fin 1024) :
    (stAt0 m c t.val t.isLt acc).2.2.2.2.1 (ix2 a k) = ((f k + ∑ r : Fin 512, dvn dy u w r k : ℝ) : EReal) := by
  have e : (stAt0 m c t.val t.isLt acc).2.2.2.2.1 = out0_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact out0_C_11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf a k

theorem stC_0 (h0 : ¬t.val % 8 = 0) (h1 : t.val % 8 = 7) {f : ℕ → ℕ → ℝ} (hf : ∀ (r : Fin 128) (k : Fin 1024), acc.2.2.2.2.2 (ix2 r k) = ((f r k : ℝ) : EReal)) (r : Fin 128) (k : Fin 1024) :
    (stAt0 m c t.val t.isLt acc).2.2.2.2.2 (ix2 r k) = ((f r k + ∑ q : Fin 4, dmix dy u (128 * q + r) k : ℝ) : EReal) := by
  have e : (stAt0 m c t.val t.isLt acc).2.2.2.2.2 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 := by rw [stAt0_C m c t acc h0 h1]
  rw [e]
  exact sout0_C_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (iblk m c 0 t) (X0_1 m c t) (iblk m c 2 t) (iblk m c 3 t) (iblk m c 4 t) (iblk m c 5 t) (iblk m c 6 t) acc.2.1 acc.2.2.2.1 acc.2.2.2.2.1 acc.2.2.2.2.2 H (f := f) hf r k

end Cert.Sgu.Ker

end
-- ==== Proof.SguFold.lean ====
/-
  THE SWEEP OVER THE EIGHT GRID POINTS: what the point `p` reads are rows `512 p … 512 p + 511` of the arrays, and the four
  results that are summed hold, after point `p`, the sums over the blocks up to `p`.
-/
module

public import proofs.«01_k».proof.Proof.SguStep

@[expose] public section

set_option maxRecDepth 16384
set_option backward.proofsInPublic true

noncomputable section

namespace Cert.Sgu.Ker

open Cert.KernelIdeal Cert.KernelIdeal.Gen Cert.KernelIdeal.Value Idealize.ShloMosaic Cert.Sgu

section shift

variable (dy u v : ℕ → ℕ → ℝ) (w : ℕ → ℕ → ℕ → ℝ) (b : ℕ → ℕ → ℝ) (lg lb : ℕ → ℝ)

/-- The rows from `512 p` on. -/
def sh (p : ℕ) (x : ℕ → ℕ → ℝ) : ℕ → ℕ → ℝ := fun r c => x (512 * p + r) c

theorem dmix_sh (p r c : ℕ) : dmix (sh p dy) (sh p u) r c = dmix dy u (512 * p + r) c := rfl
theorem nh_sh (p r c : ℕ) : nh (sh p v) r c = nh v (512 * p + r) c := rfl
theorem vn_sh (p r c : ℕ) : Sgu.vn (sh p v) lg lb r c = Sgu.vn v lg lb (512 * p + r) c := rfl

theorem mix_sh (p r c : ℕ) : mix (sh p v) w b lg lb r c = mix v w b lg lb (512 * p + r) c := by
  unfold mix
  rw [show (512 * p + r) % 128 = r % 128 by omega]
  congr 1
  refine Finset.sum_congr rfl fun s _ => ?_
  rw [vn_sh, show 512 * p + (128 * (r / 128) + s) = 128 * ((512 * p + r) / 128) + s by omega]

theorem dvn_sh (p r c : ℕ) : dvn (sh p dy) (sh p u) w r c = dvn dy u w (512 * p + r) c := by
  unfold dvn
  rw [show (512 * p + r) % 128 = r % 128 by omega]
  refine Finset.sum_congr rfl fun s _ => ?_
  rw [dmix_sh, show 512 * p + (128 * (r / 128) + s) = 128 * ((512 * p + r) / 128) + s by omega]

theorem du_sh (p r c : ℕ) : du (sh p dy) (sh p u) (sh p v) w b lg lb r c = du dy u v w b lg lb (512 * p + r) c := by
  unfold du; rw [mix_sh]; rfl

theorem dv_sh (p r c : ℕ) : dv (sh p dy) (sh p u) (sh p v) w lg r c = dv dy u v w lg (512 * p + r) c := by
  unfold dv
  simp only [dvn_sh]
  rfl

theorem dwsAt_sh (p q g t s : ℕ) : dwsAt (sh p dy) (sh p u) (sh p v) lg lb q g t s = dwsAt dy u v lg lb (4 * p + q) g t s := by
  unfold dwsAt
  simp only [dmix_sh, vn_sh, show ∀ k, 512 * p + (128 * q + k) = 128 * (4 * p + q) + k from fun k => by omega]

end shift

variable {dy u v : ℕ → ℕ → ℝ} {w : ℕ → ℕ → ℕ → ℝ} {b : ℕ → ℕ → ℝ} {lg lb : ℕ → ℝ}
variable {m : (ℓ : Loc nD τ sig) → Buf (Elt Ideal) ℓ} {c : Dev nD}
  (HB : ∀ t : Fin cfg0.N, Blk (iblk m c 0 t) (X0_1 m c t) (iblk m c 2 t) (iblk m c 3 t) (iblk m c 4 t) (iblk m c 5 t) (iblk m c 6 t)
    (sh t.val dy) (sh t.val u) (sh t.val v) w b lg lb)

/-- Every point's state is a step over some state. -/
theorem step (m : (ℓ : Loc nD τ sig) → Buf (Elt Ideal) ℓ) (c : Dev nD) (t : Fin cfg0.N) : ∃ acc, outsAt0 m c t.val t.isLt = stAt0 m c t.val t.isLt acc := by
  obtain ⟨n, hn⟩ := t
  cases n with
  | zero => exact ⟨_, outsAt0_zero m c hn⟩
  | succ n => exact ⟨_, outsAt0_succ m c n hn⟩

include HB

/-- The first result's block after its point. -/
theorem out7 (t : Fin cfg0.N) (y : S512x2048.Idx) : (outsAt0 m c t.val t.isLt).1 y
    = ((if (y 1).val < 1024 then du dy u v w b lg lb (512 * t.val + (y 0).val) (y 1).val
        else dv dy u v w lg (512 * t.val + (y 0).val) ((y 1).val - 1024) : ℝ) : EReal) := by
  have hs : ∀ r k : ℕ, (if k < 1024 then du (sh t.val dy) (sh t.val u) (sh t.val v) w b lg lb r k else dv (sh t.val dy) (sh t.val u) (sh t.val v) w lg r (k - 1024))
      = if k < 1024 then du dy u v w b lg lb (512 * t.val + r) k else dv dy u v w lg (512 * t.val + r) (k - 1024) :=
    fun r k => by rw [du_sh, dv_sh]
  rw [← hs]
  obtain ⟨acc, e⟩ := step m c t
  rw [e]
  by_cases h0 : t.val % 8 = 0
  · exact stA_7 t (HB t) acc h0 (by omega) y
  · by_cases h1 : t.val % 8 = 7
    · exact stC_7 t (HB t) acc h0 h1 y
    · exact stB_7 t (HB t) acc h0 h1 y

/-- What the four carried arrays hold after point `n` (the weights' gradient before the last point's mask). -/
theorem carried (n : ℕ) (hn : n < cfg0.N) :
    (n < 7 → ∀ (g : Fin 8) (t s : Fin 128), (outsAt0 m c n hn).2.1 (ix3 g t s)
      = ((∑ p ∈ Finset.range (n + 1), ∑ q : Fin 4, dwsAt dy u v lg lb (4 * p + q) g t s : ℝ) : EReal))
    ∧ (∀ (a : Fin 1) (k : Fin 1024), (outsAt0 m c n hn).2.2.2.1 (ix2 a k)
      = ((∑ p ∈ Finset.range (n + 1), ∑ r : Fin 512, dvn dy u w (512 * p + r) k * nh v (512 * p + r) k : ℝ) : EReal))
    ∧ (∀ (a : Fin 1) (k : Fin 1024), (outsAt0 m c n hn).2.2.2.2.1 (ix2 a k)
      = ((∑ p ∈ Finset.range (n + 1), ∑ r : Fin 512, dvn dy u w (512 * p + r) k : ℝ) : EReal))
    ∧ (∀ (t : Fin 128) (k : Fin 1024), (outsAt0 m c n hn).2.2.2.2.2 (ix2 t k)
      = ((∑ p ∈ Finset.range (n + 1), ∑ q : Fin 4, dmix dy u (512 * p + (128 * q + t)) k : ℝ) : EReal)) := by
  have hN : cfg0.N = 8 := N_0
  induction n with
  | zero =>
    rw [outsAt0_zero m c hn]
    refine ⟨fun _ g t s => ?_, fun a k => ?_, fun a k => ?_, fun t k => ?_⟩
    · refine Eq.trans (stA_8 ⟨0, hn⟩ (HB ⟨0, hn⟩) junk0 (by rfl) (by simp) g t s) ?_
      simp only [dwsAt_sh, Finset.sum_range_one, Nat.zero_add]
    · refine Eq.trans (stA_10 ⟨0, hn⟩ (HB ⟨0, hn⟩) junk0 (by rfl) (by simp) a k) ?_
      simp only [dvn_sh, nh_sh, Finset.sum_range_one, Nat.zero_add]
    · refine Eq.trans (stA_11 ⟨0, hn⟩ (HB ⟨0, hn⟩) junk0 (by rfl) (by simp) a k) ?_
      simp only [dvn_sh, Finset.sum_range_one, Nat.zero_add]
    · refine Eq.trans (stA_0 ⟨0, hn⟩ (HB ⟨0, hn⟩) junk0 (by rfl) (by simp) t k) ?_
      simp only [dmix_sh, Finset.sum_range_one, Nat.zero_add]
  | succ n ih =>
    obtain ⟨i8, i10, i11, is⟩ := ih (by omega)
    have i8 := i8 (by omega)
    have h0 : ¬(n + 1) % 8 = 0 := by omega
    by_cases h1 : (n + 1) % 8 = 7
    · rw [outsAt0_succ]
      refine ⟨fun h => absurd h (by omega), fun a k => ?_, fun a k => ?_, fun t k => ?_⟩
      · refine Eq.trans (stC_10 ⟨n + 1, hn⟩ (HB ⟨n + 1, hn⟩) (outsAt0 m c n (Nat.lt_of_succ_lt hn)) h0 h1 (f := fun k => ∑ p ∈ Finset.range (n + 1), ∑ r : Fin 512, dvn dy u w (512 * p + r) k * nh v (512 * p + r) k) i10 a k) ?_
        simp only [dvn_sh, nh_sh, Finset.sum_range_succ _ (n + 1)]
      · refine Eq.trans (stC_11 ⟨n + 1, hn⟩ (HB ⟨n + 1, hn⟩) (outsAt0 m c n (Nat.lt_of_succ_lt hn)) h0 h1 (f := fun k => ∑ p ∈ Finset.range (n + 1), ∑ r : Fin 512, dvn dy u w (512 * p + r) k) i11 a k) ?_
        simp only [dvn_sh, Finset.sum_range_succ _ (n + 1)]
      · refine Eq.trans (stC_0 ⟨n + 1, hn⟩ (HB ⟨n + 1, hn⟩) (outsAt0 m c n (Nat.lt_of_succ_lt hn)) h0 h1 (f := fun t k => ∑ p ∈ Finset.range (n + 1), ∑ q : Fin 4, dmix dy u (512 * p + (128 * q + t)) k) is t k) ?_
        simp only [dmix_sh, Finset.sum_range_succ _ (n + 1)]
    · rw [outsAt0_succ]
      refine ⟨fun h g t s => ?_, fun a k => ?_, fun a k => ?_, fun t k => ?_⟩
      · refine Eq.trans (stB_8 ⟨n + 1, hn⟩ (HB ⟨n + 1, hn⟩) (outsAt0 m c n (Nat.lt_of_succ_lt hn)) h0 h1 (f := fun g t s => ∑ p ∈ Finset.range (n + 1), ∑ q : Fin 4, dwsAt dy u v lg lb (4 * p + q) g t s) i8 g t s) ?_
        simp only [dwsAt_sh, Finset.sum_range_succ _ (n + 1)]
      · refine Eq.trans (stB_10 ⟨n + 1, hn⟩ (HB ⟨n + 1, hn⟩) (outsAt0 m c n (Nat.lt_of_succ_lt hn)) h0 h1 (f := fun k => ∑ p ∈ Finset.range (n + 1), ∑ r : Fin 512, dvn dy u w (512 * p + r) k * nh v (512 * p + r) k) i10 a k) ?_
        simp only [dvn_sh, nh_sh, Finset.sum_range_succ _ (n + 1)]
      · refine Eq.trans (stB_11 ⟨n + 1, hn⟩ (HB ⟨n + 1, hn⟩) (outsAt0 m c n (Nat.lt_of_succ_lt hn)) h0 h1 (f := fun k => ∑ p ∈ Finset.range (n + 1), ∑ r : Fin 512, dvn dy u w (512 * p + r) k) i11 a k) ?_
        simp only [dvn_sh, Finset.sum_range_succ _ (n + 1)]
      · refine Eq.trans (stB_0 ⟨n + 1, hn⟩ (HB ⟨n + 1, hn⟩) (outsAt0 m c n (Nat.lt_of_succ_lt hn)) h0 h1 (f := fun t k => ∑ p ∈ Finset.range (n + 1), ∑ q : Fin 4, dmix dy u (512 * p + (128 * q + t)) k) is t k) ?_
        simp only [dmix_sh, Finset.sum_range_succ _ (n + 1)]

/-! ### After the last point -/

omit HB in
/-- A sum over the eight points and the block's own index is one sum. -/
theorem sum_blocks (n K : ℕ) (hK : K = 8) (F : ℕ → ℝ) : ∑ p ∈ Finset.range K, ∑ q : Fin n, F (n * p + q) = ∑ i : Fin (8 * n), F i := by
  subst hK
  rw [Fin.sum_univ_eq_sum_range F, ← Finset.sum_range_range_mul_add]
  refine Finset.sum_congr rfl fun p _ => ?_
  rw [Fin.sum_univ_eq_sum_range (fun q => F (n * p + q)), Nat.mul_comm]

theorem out8 (n : ℕ) (h : n = 6) (hn : n + 1 < cfg0.N) (g : Fin 8) (t s : Fin 128) :
    (outsAt0 m c (n + 1) hn).2.1 (ix3 g t s) = ((dws dy u v lg lb g t s : ℝ) : EReal) := by
  have hN : cfg0.N = 8 := N_0
  have i8 := (carried HB n (by omega)).1 (by omega)
  rw [outsAt0_succ]
  have h0 : ¬(n + 1) % 8 = 0 := by omega
  have h1 : (n + 1) % 8 = 7 := by omega
  refine Eq.trans (stC_8 ⟨n + 1, hn⟩ (HB ⟨n + 1, hn⟩) (outsAt0 m c n (Nat.lt_of_succ_lt hn)) h0 h1
    (f := fun g t s => ∑ p ∈ Finset.range (n + 1), ∑ q : Fin 4, dwsAt dy u v lg lb (4 * p + q) g t s) i8 g t s) ?_
  have e := sum_blocks 4 (n + 1 + 1) (by omega) fun q => dwsAt dy u v lg lb q g t s
  rw [Finset.sum_range_succ] at e
  simp only [dwsAt_sh]
  rw [e]
  rfl

theorem out10 (n : ℕ) (h : n = 6) (hn : n + 1 < cfg0.N) (a : Fin 1) (k : Fin 1024) :
    (outsAt0 m c (n + 1) hn).2.2.2.1 (ix2 a k) = ((dlg dy u v w k : ℝ) : EReal) := by
  rw [(carried HB (n + 1) hn).2.1 a k, sum_blocks 512 (n + 1 + 1) (by omega) fun r => dvn dy u w r k * nh v r k]
  rfl

theorem out11 (n : ℕ) (h : n = 6) (hn : n + 1 < cfg0.N) (a : Fin 1) (k : Fin 1024) :
    (outsAt0 m c (n + 1) hn).2.2.2.2.1 (ix2 a k) = ((dlb dy u w k : ℝ) : EReal) := by
  rw [(carried HB (n + 1) hn).2.2.1 a k, sum_blocks 512 (n + 1 + 1) (by omega) fun r => dvn dy u w r k]
  rfl

theorem out9 (n : ℕ) (h : n = 6) (hn : n + 1 < cfg0.N) (t : Fin 128) (g : Fin 8) :
    (outsAt0 m c (n + 1) hn).2.2.1 (ix2 t g) = ((dbs dy u t g : ℝ) : EReal) := by
  have hN : cfg0.N = 8 := N_0
  have is := (carried HB n (by omega)).2.2.2
  rw [outsAt0_succ]
  have h0 : ¬(n + 1) % 8 = 0 := by omega
  have h1 : (n + 1) % 8 = 7 := by omega
  refine Eq.trans (stC_9 ⟨n + 1, hn⟩ (HB ⟨n + 1, hn⟩) (outsAt0 m c n (Nat.lt_of_succ_lt hn)) h0 h1
    (f := fun t k => ∑ p ∈ Finset.range (n + 1), ∑ q : Fin 4, dmix dy u (512 * p + (128 * q + t)) k) is t g) ?_
  congr 1
  unfold dbs
  rw [Finset.sum_comm]
  refine Finset.sum_congr rfl fun j _ => ?_
  have e := sum_blocks 4 (n + 1 + 1) (by omega) fun q => dmix dy u (128 * q + t) (128 * g + j)
  rw [Finset.sum_range_succ] at e
  refine Eq.trans ?_ e
  simp only [dmix_sh, show ∀ p q : ℕ, 128 * (4 * p + q) + t.val = 512 * p + (128 * q + t.val) from fun p q => by omega]

end Cert.Sgu.Ker

end
-- ==== Proof.SguRef1.lean ====
/-
  THE REFERENCE'S STAGES AT REAL ARGUMENTS, first part: the gelu and the normalised rows of the second half, and the mask.
-/
module

public import proofs.«01_k».proof.Proof.SguReal
public import proofs.«01_k».proof.Proof.Gen.ReferenceIdeal.Read

@[expose] public section

set_option maxRecDepth 16384
set_option backward.proofsInPublic true

noncomputable section

namespace Cert.Sgu.Ref

open Cert.ReferenceIdeal Cert.ReferenceIdeal.Gen Cert.ReferenceIdeal.Read Idealize.ShloMosaic Cert.Sgu

variable {x1 : S4096x6656.Idx → EReal} {v : ℕ → ℕ → ℝ}
  (hv : ∀ (r : Fin 4096) (c : Fin 1024), x1 (ix2 r ⟨3584 + c.val, by omega⟩) = ((v r c : ℝ) : EReal))
include hv

theorem v39 (a : Fin 1) (r : Fin 4096) (c : Fin 1024) : val_main_v39 (F := Ideal) x1 (ix3 a r c) = ((th (v r c) : ℝ) : EReal) := by
  pointwise [val_main_v39, val_main_v38, val_main_v37, val_main_cst_8, val_main_v36, val_main_v35, val_main_v34, val_main_cst_7,
    val_main_v30, val_main_v29, val_main_v7, val_main_v6, val_main_v5, hv, th, ga, gc]

theorem v49 (a : Fin 1) (r : Fin 4096) (c : Fin 1024) : val_main_v49 (F := Ideal) x1 (ix3 a r c) = ((gv v r c : ℝ) : EReal) := by
  pointwise [val_main_v49, val_main_v48, val_main_v47, val_main_cst_12, val_main_v46, val_main_v45, val_main_cst_11, v39 hv,
    val_main_v7, val_main_v6, val_main_v5, hv, gv, gelu]
  congr 1; ring

theorem v55 (a : Fin 1) (r : Fin 4096) (c : Fin 1024) : val_main_v55 (F := Ideal) x1 (ix3 a r c) = ((cen (gv v r) c : ℝ) : EReal) := by
  pointwise [val_main_v55, val_main_v54, val_main_v53, val_main_v52, val_main_cst_14, val_main_v51, val_main_v50, val_main_cst_13, v49 hv]
  rfl

theorem v62 (a : Fin 1) (r : Fin 4096) (c : Fin 1) : val_main_v62 (F := Ideal) x1 (ix3 a r c) = ((var (gv v r) + eps : ℝ) : EReal) := by
  pointwise [val_main_v62, val_main_v61, val_main_cst_17, val_main_v60, val_main_v59, val_main_cst_16, val_main_v58, val_main_v57, val_main_cst_15, val_main_v56, v55 hv]
  rfl

theorem v63 (a : Fin 1) (r : Fin 4096) (c : Fin 1) : val_main_v63 (F := Ideal) x1 (ix3 a r c) = ((rstd (gv v r) : ℝ) : EReal) := by
  pointwise [val_main_v63, v62 hv]
  exact Lift.rsqrt (var_pos _)

theorem v66 (a : Fin 1) (r : Fin 4096) (c : Fin 1) : val_main_v66 (F := Ideal) x1 (ix3 a r c)
    = ((-(1 / 2) * (rstd (gv v r) / (var (gv v r) + eps)) : ℝ) : EReal) := by
  pointwise [val_main_v66, val_main_v65, val_main_cst_18, val_main_v64, v63 hv, v62 hv]
  rw [Lift.div (var_pos _).ne']; pointwise

theorem v68 (a : Fin 1) (r : Fin 4096) (c : Fin 1024) : val_main_v68 (F := Ideal) x1 (ix3 a r c) = ((nh v r c : ℝ) : EReal) := by
  pointwise [val_main_v68, val_main_v67, v55 hv, v63 hv]
  rfl

omit hv in
/-- The chunk of 64 rows that a row of a block lies in. -/
theorem v77 : ∀ t : Fin 128, val_main_v77 (F := Ideal) (ix1 t) = BitVec.ofNat 32 (t.val / 64) := by decide +kernel

omit hv in
theorem sge_chunks : ∀ t s : Fin 128, IntOp.cmpi .sge (BitVec.ofNat 32 (t.val / 64)) (BitVec.ofNat 32 (s.val / 64))
    = BitVec.ofNat 1 (if s.val / 64 ≤ t.val / 64 then 1 else 0) := by decide +kernel

omit hv in
/-- The mask: one where the second row's chunk is no later than the first's. -/
theorem v83 (t s : Fin 128) : val_main_v83 (F := Ideal) (ix2 t s) = ((msk t s : ℝ) : EReal) := by
  pointwise [val_main_v83, val_main_v82, val_main_v81, val_main_v80, val_main_v79, val_main_v78, v77]
  rw [sge_chunks]
  unfold msk
  split
  · show ((((1 : ℕ) : ℝ)) : EReal) = _
    norm_num
  · show ((((0 : ℕ) : ℝ)) : EReal) = _
    norm_num
end Cert.Sgu.Ref

end
-- ==== Proof.Axes.lean ====
/-
  SUMS OVER SEVERAL AXES READ AT AN INDEX, for the axis sets the reference's gradient sums over: the first and a later axis
  of an array of rank 3, and the block and column axes of an array of rank 5. Each says that the source indices that drop to
  the result index are the canonical ones with its coordinates on the kept axes.
-/
module

public import Idealize.ShloMosaic.Lib.Pointwise

@[expose] public section

namespace Cert.Axes

open Idealize.ShloMosaic

variable {n0 n1 n2 n3 n4 : Nat}

@[pointwise] theorem sum_r3_a01 (h : (⟨3, ![n0, n1, n2]⟩ : Shape).ReducesTo [0, 1] ⟨1, ![n2]⟩) (v : (⟨3, ![n0, n1, n2]⟩ : Shape).Idx → EReal)
    (init : EReal) (c : Fin n2) :
    Ideal.hostReduceAdd h v init (ix1 c) = init + ∑ a : Fin n0, ∑ b : Fin n1, v (ix3 a b c) := by
  refine congrArg (init + ·) ((Finset.sum_filter_eq_sum_of_fiber _ (fun k : Fin n0 × Fin n1 => ix3 k.1 k.2 c)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]

@[pointwise] theorem sum_r3_a02 (h : (⟨3, ![n0, n1, n2]⟩ : Shape).ReducesTo [0, 2] ⟨1, ![n1]⟩) (v : (⟨3, ![n0, n1, n2]⟩ : Shape).Idx → EReal)
    (init : EReal) (c : Fin n1) :
    Ideal.hostReduceAdd h v init (ix1 c) = init + ∑ a : Fin n0, ∑ b : Fin n2, v (ix3 a c b) := by
  refine congrArg (init + ·) ((Finset.sum_filter_eq_sum_of_fiber _ (fun k : Fin n0 × Fin n2 => ix3 k.1 c k.2)
    (fun _ _ e => Prod.ext (congrFun e 0) (congrFun e 2)) (fun i => ⟨fun e => ⟨(i 0, i 2), ?_⟩, ?_⟩) v).trans ?_)
  · funext a; apply Fin.ext
    match a with
    | ⟨0, _⟩ => rfl
    | ⟨1, _⟩ => exact (congrArg Fin.val (congrFun e 0)).symm
    | ⟨2, _⟩ => rfl
  · rintro ⟨k, rfl⟩
    funext b; apply Fin.ext
    match b with
    | ⟨0, _⟩ => rfl
  · simp only [Fintype.sum_prod_type]

@[pointwise] theorem sum_r5_a14 (h : (⟨5, ![n0, n1, n2, n3, n4]⟩ : Shape).ReducesTo [1, 4] ⟨3, ![n0, n2, n3]⟩)
    (v : (⟨5, ![n0, n1, n2, n3, n4]⟩ : Shape).Idx → EReal) (init : EReal) (a : Fin n0) (t : Fin n2) (g : Fin n3) :
    Ideal.hostReduceAdd h v init (ix3 a t g) = init + ∑ q : Fin n1, ∑ j : Fin n4, v (ix5 a q t g j) := by
  refine congrArg (init + ·) ((Finset.sum_filter_eq_sum_of_fiber _ (fun k : Fin n1 × Fin n4 => ix5 a k.1 t g k.2)
    (fun _ _ e => Prod.ext (congrFun e 1) (congrFun e 4)) (fun i => ⟨fun e => ⟨(i 1, i 4), ?_⟩, ?_⟩) v).trans ?_)
  · funext b; apply Fin.ext
    match b with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl
  · simp only [Fintype.sum_prod_type]

@[pointwise] theorem sum_r5_a014 (h : (⟨5, ![n0, n1, n2, n3, n4]⟩ : Shape).ReducesTo [0, 1, 4] ⟨2, ![n2, n3]⟩)
    (v : (⟨5, ![n0, n1, n2, n3, n4]⟩ : Shape).Idx → EReal) (init : EReal) (t : Fin n2) (g : Fin n3) :
    Ideal.hostReduceAdd h v init (ix2 t g) = init + ∑ a : Fin n0, ∑ q : Fin n1, ∑ j : Fin n4, v (ix5 a q t g j) := by
  refine congrArg (init + ·) ((Finset.sum_filter_eq_sum_of_fiber _ (fun k : Fin n0 × Fin n1 × Fin n4 => ix5 k.1 k.2.1 t g k.2.2)
    (fun _ _ e => Prod.ext (congrFun e 0) (Prod.ext (congrFun e 1) (congrFun e 4))) (fun i => ⟨fun e => ⟨(i 0, i 1, i 4), ?_⟩, ?_⟩) v).trans ?_)
  · funext b; apply Fin.ext
    match b with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b; apply Fin.ext
    match b with
    | ⟨0, _⟩ => rfl
    | ⟨1, _⟩ => rfl
  · simp only [Fintype.sum_prod_type]

end Cert.Axes

end
-- ==== Proof.SguRef2.lean ====
/-
  THE REFERENCE'S STAGES AT REAL ARGUMENTS, second part: the gelu of the first half, the scaled and shifted rows, the masked
  weights, the mix and its gradients. Each stage, read at an index, is the cast of a function of `SguReal`.
-/
module

public import proofs.«01_k».proof.Proof.SguRef1
public import proofs.«01_k».proof.Proof.Axes

@[expose] public section

set_option maxRecDepth 16384
set_option backward.proofsInPublic true

noncomputable section

namespace Cert.Sgu.Ref

open Cert.ReferenceIdeal Cert.ReferenceIdeal.Gen Cert.ReferenceIdeal.Read Idealize.ShloMosaic Cert.Sgu

/-- The index a contraction over three axes of lengths 1, 32 and 128 takes. -/
def contr3 : Fin 1 × Fin 32 × Fin 128 ≃ dot_S8x1x32x128x128_S1x32x128x8x128_S8x128x128_123_014_4_2_0_3.contr.Idx where
  toFun k p := match p with
    | ⟨0, _⟩ => k.1
    | ⟨1, _⟩ => k.2.1
    | ⟨2, _⟩ => k.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl

/-- The contraction over the batch, the blocks and the columns of a group, at an index. -/
theorem dot3 (l : S8x1x32x128x128.Idx → EReal) (r : S1x32x128x8x128.Idx → EReal) (g : Fin 8) (t s : Fin 128) :
    Ideal.matmul dot_S8x1x32x128x128_S1x32x128x8x128_S8x128x128_123_014_4_2_0_3 l r (fun _ => 0) (ix3 g t s)
      = ∑ a : Fin 1, ∑ q : Fin 32, ∑ j : Fin 128, l (ix5 g a q j t) * r (ix5 a q s g j) := by
  unfold Ideal.matmul
  rw [zero_add, ← Fintype.sum_equiv contr3 (fun k => l (ix5 g k.1 k.2.1 k.2.2 t) * r (ix5 k.1 k.2.1 s g k.2.2)) _ fun k => ?_]
  · simp only [Fintype.sum_prod_type]
  · congr 2
    · funext p
      match p with
      | ⟨0, _⟩ => rfl
      | ⟨1, _⟩ => rfl
      | ⟨2, _⟩ => rfl
      | ⟨3, _⟩ => rfl
      | ⟨4, _⟩ => rfl
    · funext p
      match p with
      | ⟨0, _⟩ => rfl
      | ⟨1, _⟩ => rfl
      | ⟨2, _⟩ => rfl
      | ⟨3, _⟩ => rfl
      | ⟨4, _⟩ => rfl

/-- The arguments are the casts of the real arrays. -/
structure Reads (x0 : S4096x1024.Idx → EReal) (x1 : S4096x6656.Idx → EReal) (x2 : S8x128x128.Idx → EReal) (x3 : S8x128.Idx → EReal)
    (x4 x5 : S1024.Idx → EReal) (dy u v : ℕ → ℕ → ℝ) (w : ℕ → ℕ → ℕ → ℝ) (b : ℕ → ℕ → ℝ) (lg lb : ℕ → ℝ) : Prop where
  dy : ∀ (r : Fin 4096) (c : Fin 1024), x0 (ix2 r c) = ((dy r c : ℝ) : EReal)
  u : ∀ (r : Fin 4096) (c : Fin 1024), x1 (ix2 r ⟨2560 + c.val, by omega⟩) = ((u r c : ℝ) : EReal)
  v : ∀ (r : Fin 4096) (c : Fin 1024), x1 (ix2 r ⟨3584 + c.val, by omega⟩) = ((v r c : ℝ) : EReal)
  w : ∀ (g : Fin 8) (t s : Fin 128), x2 (ix3 g t s) = ((w g t s : ℝ) : EReal)
  b : ∀ (g : Fin 8) (t : Fin 128), x3 (ix2 g t) = ((b g t : ℝ) : EReal)
  lg : ∀ c : Fin 1024, x4 (ix1 c) = ((lg c : ℝ) : EReal)
  lb : ∀ c : Fin 1024, x5 (ix1 c) = ((lb c : ℝ) : EReal)

variable {x0 : S4096x1024.Idx → EReal} {x1 : S4096x6656.Idx → EReal} {x2 : S8x128x128.Idx → EReal} {x3 : S8x128.Idx → EReal}
  {x4 x5 : S1024.Idx → EReal} {dy u v : ℕ → ℕ → ℝ} {w : ℕ → ℕ → ℕ → ℝ} {b : ℕ → ℕ → ℝ} {lg lb : ℕ → ℝ}
  (H : Reads x0 x1 x2 x3 x4 x5 dy u v w b lg lb)
include H

theorem v4 (a : Fin 1) (r : Fin 4096) (c : Fin 1024) : val_main_v4 (F := Ideal) x1 (ix3 a r c) = ((u r c : ℝ) : EReal) := by
  pointwise [val_main_v4, val_main_v3, val_main_v2, H.u]

theorem v7 (a : Fin 1) (r : Fin 4096) (c : Fin 1024) : val_main_v7 (F := Ideal) x1 (ix3 a r c) = ((v r c : ℝ) : EReal) := by
  pointwise [val_main_v7, val_main_v6, val_main_v5, H.v]

theorem v18 (a : Fin 1) (r : Fin 4096) (c : Fin 1024) : val_main_v18 (F := Ideal) x1 (ix3 a r c) = ((th (u r c) : ℝ) : EReal) := by
  pointwise [val_main_v18, val_main_v17, val_main_v16, val_main_cst_1, val_main_v15, val_main_v14, val_main_v13, val_main_cst_0,
    val_main_v9, val_main_v8, v4 H, th, ga, gc]

theorem v23 (a : Fin 1) (r : Fin 4096) (c : Fin 1024) : val_main_v23 (F := Ideal) x1 (ix3 a r c) = (((1 + th (u r c)) * (1 - th (u r c)) : ℝ) : EReal) := by
  pointwise [val_main_v23, val_main_v22, val_main_v21, val_main_v20, val_main_v19, val_main_cst_2, val_main_cst_3, v18 H]

theorem v44 (a : Fin 1) (r : Fin 4096) (c : Fin 1024) : val_main_v44 (F := Ideal) x1 (ix3 a r c) = (((1 + th (v r c)) * (1 - th (v r c)) : ℝ) : EReal) := by
  pointwise [val_main_v44, val_main_v43, val_main_v42, val_main_v41, val_main_v40, val_main_cst_9, val_main_cst_10, v39 H.v]

theorem v27 (a : Fin 1) (r : Fin 4096) (c : Fin 1024) : val_main_v27 (F := Ideal) x1 (ix3 a r c) = ((1 / 2 * (1 + th (u r c)) : ℝ) : EReal) := by
  pointwise [val_main_v27, val_main_v26, val_main_v25, val_main_v24, val_main_cst_4, val_main_cst_5, v18 H]

theorem v48 (a : Fin 1) (r : Fin 4096) (c : Fin 1024) : val_main_v48 (F := Ideal) x1 (ix3 a r c) = ((1 / 2 * (1 + th (v r c)) : ℝ) : EReal) := by
  pointwise [val_main_v48, val_main_v47, val_main_v46, val_main_v45, val_main_cst_11, val_main_cst_12, v39 H.v]

theorem v28 (a : Fin 1) (r : Fin 4096) (c : Fin 1024) : val_main_v28 (F := Ideal) x1 (ix3 a r c) = ((gelu (u r c) : ℝ) : EReal) := by
  pointwise [val_main_v28, v27 H, v4 H, gelu]
  congr 1; ring

theorem v86 (g : Fin 8) (t s : Fin 128) : val_main_v86 (F := Ideal) x2 (ix3 g t s) = ((wm w g t s : ℝ) : EReal) := by
  pointwise [val_main_v86, val_main_v85, val_main_v84, v83, H.w]
  rfl

theorem v74 (a : Fin 1) (r : Fin 4096) (c : Fin 1024) : val_main_v74 (F := Ideal) x1 x4 x5 (ix3 a r c) = ((vn v lg lb r c : ℝ) : EReal) := by
  pointwise [val_main_v74, val_main_v73, val_main_v72, val_main_v71, val_main_v70, val_main_v69, H.lg, H.lb, v68 H.v]
  rfl

theorem v75 (a : Fin 1) (q : Fin 32) (t : Fin 128) (g : Fin 8) (j : Fin 128) :
    val_main_v75 (F := Ideal) x1 x4 x5 (ix5 a q t g j) = ((vn v lg lb (128 * q + t) (128 * g + j) : ℝ) : EReal) := by
  pointwise [val_main_v75, v74 H]
  rw [Nat.mul_comm q.val, Nat.mul_comm g.val]

theorem v92 (a : Fin 1) (q : Fin 32) (t : Fin 128) (g : Fin 8) (j : Fin 128) :
    val_main_v92 (F := Ideal) x1 x2 x3 x4 x5 (ix5 a q t g j) = ((mix v w b lg lb (128 * q + t) (128 * g + j) : ℝ) : EReal) := by
  rw [mix_at _ _ _ _ _ _ _ _ _ t.isLt j.isLt]
  pointwise [val_main_v92, val_main_v91, val_main_v90, val_main_v89, val_main_v88, val_main_v87, v75 H, v86 H, H.b]
  congr 2
  exact Finset.sum_congr rfl fun i _ => mul_comm _ _

omit H in
/-- A row number is its block's number and its place in the block; a column number its group's and its place in the group. -/
theorem row_split (r : ℕ) : 128 * (r / 128) + r % 128 = r := by omega

theorem v93 (a : Fin 1) (r : Fin 4096) (c : Fin 1024) :
    val_main_v93 (F := Ideal) x1 x2 x3 x4 x5 (ix3 a r c) = ((mix v w b lg lb r c : ℝ) : EReal) := by
  pointwise [val_main_v93, v92 H]
  rw [row_split, row_split]

theorem v95 (a : Fin 1) (r : Fin 4096) (c : Fin 1024) : val_main_v95 (F := Ideal) x0 x1 (ix3 a r c) = ((dmix dy u r c : ℝ) : EReal) := by
  pointwise [val_main_v95, val_main_v1, val_main_v0, v28 H, H.dy, dmix]
  rw [mul_comm]

theorem v96 (a : Fin 1) (r : Fin 4096) (c : Fin 1024) :
    val_main_v96 (F := Ideal) x0 x1 x2 x3 x4 x5 (ix3 a r c) = ((dy r c * mix v w b lg lb r c : ℝ) : EReal) := by
  pointwise [val_main_v96, val_main_v1, val_main_v0, v93 H, H.dy]

theorem v97 (a : Fin 1) (q : Fin 32) (t : Fin 128) (g : Fin 8) (j : Fin 128) :
    val_main_v97 (F := Ideal) x0 x1 (ix5 a q t g j) = ((dmix dy u (128 * q + t) (128 * g + j) : ℝ) : EReal) := by
  pointwise [val_main_v97, v95 H]
  rw [Nat.mul_comm q.val, Nat.mul_comm g.val]

theorem v170 (t : Fin 128) (g : Fin 8) : val_main_v170 (F := Ideal) x0 x1 (ix2 t g) = ((dbs dy u t g : ℝ) : EReal) := by
  pointwise [val_main_v170, val_main_v101, val_main_v100, val_main_cst_20, val_main_v99, val_main_v98, val_main_cst_19, v97 H]
  simp only [dbs, Finset.univ_unique, Finset.sum_singleton]

theorem v103 (g : Fin 8) (t s : Fin 128) : val_main_v103 (F := Ideal) x0 x1 x4 x5 (ix3 g t s)
    = ((∑ q : Fin 32, dwsAt dy u v lg lb q g t s : ℝ) : EReal) := by
  pointwise [val_main_v103]
  rw [dot3]
  pointwise [val_main_v102, v97 H, v75 H]
  simp only [dwsAt, Finset.univ_unique, Finset.sum_singleton]

theorem v107 (g : Fin 8) (t s : Fin 128) : val_main_v107 (F := Ideal) x0 x1 x4 x5 (ix3 g t s) = ((dws dy u v lg lb g t s : ℝ) : EReal) := by
  pointwise [val_main_v107, val_main_v106, val_main_v84, v83, v103 H]
  rfl

theorem v105 (a : Fin 1) (q : Fin 32) (t : Fin 128) (g : Fin 8) (j : Fin 128) :
    val_main_v105 (F := Ideal) x0 x1 x2 (ix5 a q t g j) = ((dvn dy u w (128 * q + t) (128 * g + j) : ℝ) : EReal) := by
  rw [dvn_at _ _ _ _ _ _ _ t.isLt j.isLt]
  pointwise [val_main_v105, val_main_v104, val_main_v102, v97 H, v86 H]
  congr 1
  exact Finset.sum_congr rfl fun i _ => mul_comm _ _

theorem v108 (a : Fin 1) (r : Fin 4096) (c : Fin 1024) :
    val_main_v108 (F := Ideal) x0 x1 x2 (ix3 a r c) = ((dvn dy u w r c : ℝ) : EReal) := by
  pointwise [val_main_v108, v105 H]
  rw [row_split, row_split]

theorem v172 (a : Fin 1) (c : Fin 1024) : val_main_v172 (F := Ideal) x0 x1 x2 (ix2 a c) = ((dlb dy u w c : ℝ) : EReal) := by
  pointwise [val_main_v172, val_main_v111, val_main_cst_22, val_main_v110, val_main_v109, val_main_cst_21, v108 H]
  simp only [dlb, Finset.univ_unique, Finset.sum_singleton]

theorem v171 (a : Fin 1) (c : Fin 1024) : val_main_v171 (F := Ideal) x0 x1 x2 (ix2 a c) = ((dlg dy u v w c : ℝ) : EReal) := by
  pointwise [val_main_v171, val_main_v117, val_main_cst_24, val_main_v114, val_main_v113, val_main_v112, val_main_cst_23, v108 H, v68 H.v]
  simp only [dlg, Finset.univ_unique, Finset.sum_singleton, mul_comm]

theorem v116 (a : Fin 1) (r : Fin 4096) (c : Fin 1024) :
    val_main_v116 (F := Ideal) x0 x1 x2 x4 (ix3 a r c) = ((dvn dy u w r c * lg c : ℝ) : EReal) := by
  pointwise [val_main_v116, val_main_v115, val_main_v69, v108 H, H.lg]

theorem v128 (a : Fin 1) (r : Fin 4096) (c : Fin 1024) : val_main_v128 (F := Ideal) x0 x1 x2 x4 (ix3 a r c)
    = (((∑ k : Fin 1024, cen (gv v r) k * (dvn dy u w r k * lg k)) * (-(1 / 2) * (rstd (gv v r) / (var (gv v r) + eps))) / 1024 : ℝ) : EReal) := by
  pointwise [val_main_v128, val_main_v127, val_main_v126, val_main_cst_27, val_main_v125, val_main_v124, val_main_cst_26, val_main_v123,
    val_main_v120, val_main_v119, val_main_cst_25, val_main_v118, v55 H.v, v66 H.v, v116 H]
  simp only [Finset.univ_unique, Finset.sum_singleton]

theorem v132 (a : Fin 1) (r : Fin 4096) (c : Fin 1024) : val_main_v132 (F := Ideal) x0 x1 x2 x4 (ix3 a r c)
    = ((dvn dy u w r c * lg c * rstd (gv v r)
        + cen (gv v r) c * ((∑ k : Fin 1024, cen (gv v r) k * (dvn dy u w r k * lg k)) * (-(1 / 2) * (rstd (gv v r) / (var (gv v r) + eps))) / 1024)
        + ((∑ k : Fin 1024, cen (gv v r) k * (dvn dy u w r k * lg k)) * (-(1 / 2) * (rstd (gv v r) / (var (gv v r) + eps))) / 1024)
          * cen (gv v r) c : ℝ) : EReal) := by
  pointwise [val_main_v132, val_main_v131, val_main_v130, val_main_v129, val_main_v122, val_main_v121, v55 H.v, v63 H.v, v116 H, v128 H]

theorem v141 (a : Fin 1) (r : Fin 4096) (c : Fin 1024) : val_main_v141 (F := Ideal) x0 x1 x2 x4 (ix3 a r c)
    = ((dnrm (gv v r) (fun k => dvn dy u w r k * lg k) c : ℝ) : EReal) := by
  rw [← dnrm_eq]
  pointwise [val_main_v141, val_main_v140, val_main_v139, val_main_v138, val_main_cst_30, val_main_v137, val_main_v136, val_main_cst_29, val_main_v135,
    val_main_v134, val_main_cst_28, val_main_v133, v132 H]
  simp only [Finset.univ_unique, Finset.sum_singleton]

theorem v153 (a : Fin 1) (r : Fin 4096) (c : Fin 1024) : val_main_v153 (F := Ideal) x0 x1 x2 x4 (ix3 a r c)
    = ((dv dy u v w lg r c : ℝ) : EReal) := by
  pointwise [val_main_v153, val_main_v152, val_main_v151, val_main_v150, val_main_cst_33, val_main_v149, val_main_v148, val_main_v147, val_main_cst_32,
    val_main_v146, val_main_v145, val_main_v144, val_main_cst_31, val_main_v143, val_main_v142, val_main_v33, val_main_v32, val_main_cst_6, val_main_v31,
    v7 H, v141 H, v44 H, v48 H]
  congr 1; unfold dv dgelu ga gc; ring

theorem v165 (a : Fin 1) (r : Fin 4096) (c : Fin 1024) : val_main_v165 (F := Ideal) x0 x1 x2 x3 x4 x5 (ix3 a r c)
    = ((du dy u v w b lg lb r c : ℝ) : EReal) := by
  pointwise [val_main_v165, val_main_v164, val_main_v163, val_main_v162, val_main_cst_36, val_main_v161, val_main_v160, val_main_v159, val_main_cst_35,
    val_main_v158, val_main_v157, val_main_v156, val_main_cst_34, val_main_v155, val_main_v154, val_main_v12, val_main_v11, val_main_cst, val_main_v10,
    v4 H, v96 H, v23 H, v27 H]
  congr 1; unfold du dgelu ga gc; ring

theorem v169 (r : Fin 4096) (c : Fin 2048) : val_main_v169 (F := Ideal) x0 x1 x2 x3 x4 x5 (ix2 r c)
    = (((if c.val < 1024 then du dy u v w b lg lb r c else dv dy u v w lg r (c - 1024)) : ℝ) : EReal) := by
  pointwise [val_main_v169, val_main_v168, val_main_v167, val_main_v166, v165 H, v153 H]
  split <;> rfl

end Cert.Sgu.Ref

end
-- ==== Proof.SguPre.lean ====
/-
  FINITE ARGUMENTS ARE CASTS OF REAL ARRAYS. The precondition says that every element's absolute value is below infinity; the
  real arrays are the elements' real parts, over pairs and triples of natural numbers.
-/
module

public import proofs.«01_k».proof.Proof.SguRef2
public import proofs.«01_k».proof.Proof.Gen.Pre_finite_arguments

@[expose] public section

set_option maxRecDepth 16384
set_option backward.proofsInPublic true

noncomputable section

namespace Cert.Sgu.Pre

open Cert.Pre_finite_arguments Cert.Pre_finite_arguments.Gen Idealize.ShloMosaic Cert.Sgu

/-- An extended real whose absolute value compares below infinity is the cast of its real part. -/
theorem real_of_lt (x : EReal) (h : Ideal.cmp .olt (max x (-x)) ⊤ = 1#1) : x = ((x.toReal : ℝ) : EReal) := by
  have h' : max x (-x) < ⊤ := by
    by_contra hn
    rw [show Ideal.cmp .olt (max x (-x)) ⊤ = 0#1 by simp [Ideal.cmp, hn]] at h
    exact absurd h (by decide)
  refine (EReal.coe_toReal ?_ ?_).symm
  · rintro rfl
    simp at h'
  · rintro rfl
    simp at h'

/-- The array of a function of two indices, extended by zero. -/
def ext2 {n k : ℕ} (x : Fin n → Fin k → ℝ) (r c : ℕ) : ℝ := if h : r < n ∧ c < k then x ⟨r, h.1⟩ ⟨c, h.2⟩ else 0
theorem ext2_apply {n k : ℕ} (x : Fin n → Fin k → ℝ) (r : Fin n) (c : Fin k) : ext2 x r c = x r c := dif_pos ⟨r.2, c.2⟩
/-- The array of a function of one index, extended by zero. -/
def ext1 {n : ℕ} (x : Fin n → ℝ) (r : ℕ) : ℝ := if h : r < n then x ⟨r, h⟩ else 0
theorem ext1_apply {n : ℕ} (x : Fin n → ℝ) (r : Fin n) : ext1 x r = x r := dif_pos r.2
/-- The array of a function of three indices, extended by zero. -/
def ext3 {l n k : ℕ} (x : Fin l → Fin n → Fin k → ℝ) (g r c : ℕ) : ℝ :=
  if h : g < l ∧ r < n ∧ c < k then x ⟨g, h.1⟩ ⟨r, h.2.1⟩ ⟨c, h.2.2⟩ else 0
theorem ext3_apply {l n k : ℕ} (x : Fin l → Fin n → Fin k → ℝ) (g : Fin l) (r : Fin n) (c : Fin k) : ext3 x g r c = x g r c :=
  dif_pos ⟨g.2, r.2, c.2⟩

variable {x0 : S4096x1024.Idx → EReal} {x1 : S4096x6656.Idx → EReal} {x2 : S8x128x128.Idx → EReal} {x3 : S8x128.Idx → EReal}
  {x4 x5 : S1024.Idx → EReal}

theorem fin0 (h : (fn (F := Ideal) x0 x1 x2 x3 x4 x5).1 = fun _ => 1#1) (r : Fin 4096) (c : Fin 1024) :
    x0 (ix2 r c) = (((x0 (ix2 r c)).toReal : ℝ) : EReal) := by
  refine real_of_lt _ ?_
  rw [← Lift.inf_bf16]
  exact congrFun h (ix2 r c)

theorem fin1 (h : (fn (F := Ideal) x0 x1 x2 x3 x4 x5).2.1 = fun _ => 1#1) (r : Fin 4096) (c : ℕ) (hc : c < 2048) :
    x1 (ix2 r ⟨2560 + c, by omega⟩) = (((x1 (ix2 r ⟨2560 + c, by omega⟩)).toReal : ℝ) : EReal) := by
  refine real_of_lt _ ?_
  rw [← Lift.inf_bf16]
  have e := congrFun h (ix2 r ⟨c, hc⟩)
  have i : (fun a => ⟨(![0, 2560] : Fin 2 → ℕ) a + ((ix2 r ⟨c, hc⟩ : S4096x2048.Idx) a).val, by
      fin_cases a
      · show 0 + r.val < 4096
        omega
      · show 2560 + c < 6656
        omega⟩ : S4096x6656.Idx) = ix2 r ⟨2560 + c, by omega⟩ := by
    funext a
    fin_cases a
    · exact Fin.ext (Nat.zero_add _)
    · rfl
  rw [← i]
  exact e

theorem fin2 (h : (fn (F := Ideal) x0 x1 x2 x3 x4 x5).2.2.1 = fun _ => 1#1) (g : Fin 8) (t s : Fin 128) :
    x2 (ix3 g t s) = (((x2 (ix3 g t s)).toReal : ℝ) : EReal) := by
  refine real_of_lt _ ?_
  rw [← Lift.inf_f32]
  exact congrFun h (ix3 g t s)

theorem fin3 (h : (fn (F := Ideal) x0 x1 x2 x3 x4 x5).2.2.2.1 = fun _ => 1#1) (g : Fin 8) (t : Fin 128) :
    x3 (ix2 g t) = (((x3 (ix2 g t)).toReal : ℝ) : EReal) := by
  refine real_of_lt _ ?_
  rw [← Lift.inf_f32]
  exact congrFun h (ix2 g t)

theorem fin4 (h : (fn (F := Ideal) x0 x1 x2 x3 x4 x5).2.2.2.2.1 = fun _ => 1#1) (c : Fin 1024) :
    x4 (ix1 c) = (((x4 (ix1 c)).toReal : ℝ) : EReal) := by
  refine real_of_lt _ ?_
  rw [← Lift.inf_f32]
  exact congrFun h (ix1 c)

theorem fin5 (h : (fn (F := Ideal) x0 x1 x2 x3 x4 x5).2.2.2.2.2 = fun _ => 1#1) (c : Fin 1024) :
    x5 (ix1 c) = (((x5 (ix1 c)).toReal : ℝ) : EReal) := by
  refine real_of_lt _ ?_
  rw [← Lift.inf_f32]
  exact congrFun h (ix1 c)

/-- Arguments that meet the precondition are the casts of real arrays. -/
theorem reads (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2.1 = (fun _ => 1#1) ∧ (fn (F := Ideal) x0 x1 x2 x3 x4 x5).2.2.2.1 = (fun _ => 1#1)
      ∧ (fn (F := Ideal) x0 x1 x2 x3 x4 x5).2.2.2.2.1 = (fun _ => 1#1) ∧ (fn (F := Ideal) x0 x1 x2 x3 x4 x5).2.2.2.2.2 = (fun _ => 1#1)) :
    Ref.Reads x0 x1 x2 x3 x4 x5 (ext2 fun r c => (x0 (ix2 r c)).toReal)
      (ext2 (n := 4096) (k := 1024) fun r c => (x1 (ix2 r ⟨2560 + c.val, by omega⟩)).toReal)
      (ext2 (n := 4096) (k := 1024) fun r c => (x1 (ix2 r ⟨3584 + c.val, by omega⟩)).toReal)
      (ext3 fun g t s => (x2 (ix3 g t s)).toReal) (ext2 fun g t => (x3 (ix2 g t)).toReal)
      (ext1 fun c => (x4 (ix1 c)).toReal) (ext1 fun c => (x5 (ix1 c)).toReal) where
  dy r c := by rw [ext2_apply]; exact fin0 h.1 r c
  u r c := by rw [ext2_apply]; exact fin1 h.2.1 r c (by omega)
  v r c := by
    rw [ext2_apply]
    have e := fin1 h.2.1 r (1024 + c.val) (by omega)
    simp only [show 2560 + (1024 + c.val) = 3584 + c.val by omega] at e
    exact e
  w g t s := by rw [ext3_apply]; exact fin2 h.2.2.1 g t s
  b g t := by rw [ext2_apply]; exact fin3 h.2.2.2.1 g t
  lg c := by rw [ext1_apply]; exact fin4 h.2.2.2.2.1 c
  lb c := by rw [ext1_apply]; exact fin5 h.2.2.2.2.2 c

end Cert.Sgu.Pre

end
-- ==== Proof.SguArgs.lean ====
/-
  WHAT A GRID POINT READS: from arguments that are casts of real arrays, point `t` reads rows `512 t …` of the first two
  arrays, the masked weights, the bias of each row of a block, the mask, and the scale and shift.
-/
module

public import proofs.«01_k».proof.Proof.SguFold
public import proofs.«01_k».proof.Proof.SguPre
public import Idealize.ShloMosaic.Lib.StableHlo.ReadAt

@[expose] public section

set_option maxRecDepth 16384
set_option backward.proofsInPublic true

noncomputable section

namespace Cert.Sgu.Ker

open Cert.KernelIdeal Cert.KernelIdeal.Gen Cert.KernelIdeal.Value Idealize.ShloMosaic Idealize.ShloMosaic.TcCoe Cert.Sgu

/-- The block index of each input window at point `t`. -/
theorem idx_in : ∀ t : Fin cfg0.N, win0_0.index t = ![t.val, 0] ∧ win0_1.index t = ![t.val, 1] ∧ win0_2.index t = ![0, 0, 0]
    ∧ win0_3.index t = ![0, 0, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

theorem blk0 (t : Fin cfg0.N) (r : Fin 512) (k : Fin 1024) :
    iblk m c 0 t (ix2 r k) = m ((c : Thread nD τ).loc main_arg0) (ix2 ⟨512 * t.val + r.val, by have := lt_of_lt_of_eq t.isLt N_0; omega⟩ k) := by
  blk_ext [iblk, V, (idx_in t).1]

theorem blk1 (t : Fin cfg0.N) (r : Fin 512) (k : Fin 2560) :
    X0_1 m c t (ix2 r k) = m ((c : Thread nD τ).loc main_arg1) (ix2 ⟨512 * t.val + r.val, by have := lt_of_lt_of_eq t.isLt N_0; omega⟩ ⟨2560 + k.val, by omega⟩) := by
  unfold X0_1 Pipeline.Window.fill
  rw [dif_pos (moved0_1 t _)]
  blk_ext [iblk, V, (idx_in t).2.1]

theorem blk5 (t : Fin cfg0.N) (a : Fin 1) (k : Fin 1024) :
    iblk m c 5 t (ix2 a k) = m ((c : Thread nD τ).loc main_arg4) (ix1 k) := by
  have e : ((win0_5.blk t).view.emb (ix2 a k) : S1x1024.Idx) = ix2 a k := by blk_ext [(idx_in t).2.2.2.2.2.1]
  show V m c main_v22 ((win0_5.blk t).view.emb (ix2 a k)) = _
  rw [e]
  unfold V
  simp only [hostOps0, hostOps0_1, hostOps0_2, hostOps0_3, hostOps0_4, List.flatten_cons, List.flatten_nil, List.append_nil, List.cons_append, List.nil_append]
  after_reads_at

theorem blk6 (t : Fin cfg0.N) (a : Fin 1) (k : Fin 1024) :
    iblk m c 6 t (ix2 a k) = m ((c : Thread nD τ).loc main_arg5) (ix1 k) := by
  have e : ((win0_6.blk t).view.emb (ix2 a k) : S1x1024.Idx) = ix2 a k := by blk_ext [(idx_in t).2.2.2.2.2.2]
  show V m c main_v23 ((win0_6.blk t).view.emb (ix2 a k)) = _
  rw [e]
  unfold V
  simp only [hostOps0, hostOps0_1, hostOps0_2, hostOps0_3, hostOps0_4, List.flatten_cons, List.flatten_nil, List.append_nil, List.cons_append, List.nil_append]
  after_reads_at

theorem blk3 (t : Fin cfg0.N) (g : Fin 8) (q s : Fin 128) :
    iblk m c 3 t (ix3 g q s) = m ((c : Thread nD τ).loc main_arg3) (ix2 g q) := by
  have e : ((win0_3.blk t).view.emb (ix3 g q s) : S8x128x128.Idx) = ix3 g q s := by blk_ext [(idx_in t).2.2.2.1]
  show V m c main_v13 ((win0_3.blk t).view.emb (ix3 g q s)) = _
  rw [e]
  unfold V
  simp only [hostOps0, hostOps0_1, hostOps0_2, hostOps0_3, hostOps0_4, List.flatten_cons, List.flatten_nil, List.append_nil, List.cons_append, List.nil_append]
  after_reads_at

theorem blk4 (t : Fin cfg0.N) (q s : Fin 128) :
    iblk m c 4 t (ix2 q s) = ((msk q s : ℝ) : EReal) := by
  have e : ((win0_4.blk t).view.emb (ix2 q s) : S128x128.Idx) = ix2 q s := by blk_ext [(idx_in t).2.2.2.2.1]
  show V m c main_v21 ((win0_4.blk t).view.emb (ix2 q s)) = _
  rw [e]
  unfold V
  simp only [hostOps0, hostOps0_1, hostOps0_2, hostOps0_3, hostOps0_4, List.flatten_cons, List.flatten_nil, List.append_nil, List.cons_append, List.nil_append]
  after_reads_at
  exact Ref.v83 q s

theorem blk2 (t : Fin cfg0.N) (g : Fin 8) (q s : Fin 128) (x : EReal) (hx : m ((c : Thread nD τ).loc main_arg2) (ix3 g q s) = x) :
    iblk m c 2 t (ix3 g q s) = x * ((msk q s : ℝ) : EReal) := by
  have e : ((win0_2.blk t).view.emb (ix3 g q s) : S8x128x128.Idx) = ix3 g q s := by blk_ext [(idx_in t).2.2.1]
  show V m c main_v11 ((win0_2.blk t).view.emb (ix3 g q s)) = _
  rw [e]
  unfold V
  simp only [hostOps0, hostOps0_1, hostOps0_2, hostOps0_3, hostOps0_4, List.flatten_cons, List.flatten_nil, List.append_nil, List.cons_append, List.nil_append]
  after_reads_at
  exact congrArg₂ (· * ·) hx (Ref.v83 q s)

variable {m c} {dy u v : ℕ → ℕ → ℝ} {w : ℕ → ℕ → ℕ → ℝ} {b : ℕ → ℕ → ℝ} {lg lb : ℕ → ℝ}
  (H : Ref.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) dy u v w b lg lb)
include H

/-- What point `t` reads, from arguments that are casts of real arrays. -/
theorem blk (t : Fin cfg0.N) : Blk (iblk m c 0 t) (X0_1 m c t) (iblk m c 2 t) (iblk m c 3 t) (iblk m c 4 t) (iblk m c 5 t) (iblk m c 6 t)
    (sh t.val dy) (sh t.val u) (sh t.val v) w b lg lb where
  dy r k := (blk0 m c t r k).trans (H.dy _ _)
  u r k h := (blk1 m c t r ⟨k, by omega⟩).trans (H.u _ ⟨k, h⟩)
  v r k h := by
    refine (blk1 m c t r ⟨1024 + k, by omega⟩).trans ?_
    refine Eq.trans ?_ (H.v ⟨512 * t.val + r.val, by have := lt_of_lt_of_eq t.isLt N_0; omega⟩ ⟨k, h⟩)
    congr 1
    exact congrArg (ix2 _) (Fin.ext (by show 2560 + (1024 + k) = 3584 + k; omega))
  w g q s := by
    refine (blk2 m c t g q s _ (H.w g q s)).trans ?_
    rw [← EReal.coe_mul]
    rfl
  b g q s := (blk3 m c t g q s).trans (H.b g q)
  m q s := blk4 m c t q s
  lg a k := (blk5 m c t a k).trans (H.lg k)
  lb a k := (blk6 m c t a k).trans (H.lb k)

end Cert.Sgu.Ker

end
-- ==== Proof.SguVal.lean ====
/-
  THE FIVE RESULTS of the kernel's run, at finite arguments, are the reference's.
-/
module

public import proofs.«01_k».proof.Proof.SguArgs

@[expose] public section

set_option maxRecDepth 16384
set_option backward.proofsInPublic true

noncomputable section

namespace Cert.Sgu.Ker

open Cert.KernelIdeal Cert.KernelIdeal.Gen Cert.KernelIdeal.Value Idealize.ShloMosaic Idealize.ShloMosaic.TcCoe Cert.Sgu

variable {m : (ℓ : Loc nD τ sig) → Buf (Elt Ideal) ℓ} {c : Dev nD} {dy u v : ℕ → ℕ → ℝ} {w : ℕ → ℕ → ℕ → ℝ} {b : ℕ → ℕ → ℝ} {lg lb : ℕ → ℝ}
  (H : Ref.Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) dy u v w b lg lb)
include H

theorem g8 : G8 m c = Cert.ReferenceIdeal.Read.val_main_v107 (F := Ideal) (m ((c : Thread nD τ).loc main_arg0)) (m ((c : Thread nD τ).loc main_arg1))
    (m ((c : Thread nD τ).loc main_arg4)) (m ((c : Thread nD τ).loc main_arg5)) := by
  rw [G8_last, ← outsAt0_sweep m c 7 (lt_of_lt_of_eq (by decide) N_0.symm)]
  funext y
  obtain ⟨g, t, s, rfl⟩ : ∃ g t s, y = ix3 (n0 := 8) (n1 := 128) (n2 := 128) g t s := ⟨y 0, y 1, y 2, (ix3_eta y).symm⟩
  exact (out8 (blk H) 6 rfl _ g t s).trans (Ref.v107 H g t s).symm

theorem g9 : G9 m c = Cert.ReferenceIdeal.Read.val_main_v170 (F := Ideal) (m ((c : Thread nD τ).loc main_arg0)) (m ((c : Thread nD τ).loc main_arg1)) := by
  rw [G9_last, ← outsAt0_sweep m c 7 (lt_of_lt_of_eq (by decide) N_0.symm)]
  funext y
  obtain ⟨t, g, rfl⟩ : ∃ t g, y = ix2 (n0 := 128) (n1 := 8) t g := ⟨y 0, y 1, (ix2_eta y).symm⟩
  exact (out9 (blk H) 6 rfl _ t g).trans (Ref.v170 H t g).symm

theorem g10 : G10 m c = Cert.ReferenceIdeal.Read.val_main_v171 (F := Ideal) (m ((c : Thread nD τ).loc main_arg0)) (m ((c : Thread nD τ).loc main_arg1))
    (m ((c : Thread nD τ).loc main_arg2)) := by
  rw [G10_last, ← outsAt0_sweep m c 7 (lt_of_lt_of_eq (by decide) N_0.symm)]
  funext y
  obtain ⟨a, k, rfl⟩ : ∃ a k, y = ix2 (n0 := 1) (n1 := 1024) a k := ⟨y 0, y 1, (ix2_eta y).symm⟩
  exact (out10 (blk H) 6 rfl _ a k).trans (Ref.v171 H a k).symm

theorem g11 : G11 m c = Cert.ReferenceIdeal.Read.val_main_v172 (F := Ideal) (m ((c : Thread nD τ).loc main_arg0)) (m ((c : Thread nD τ).loc main_arg1))
    (m ((c : Thread nD τ).loc main_arg2)) := by
  rw [G11_last, ← outsAt0_sweep m c 7 (lt_of_lt_of_eq (by decide) N_0.symm)]
  funext y
  obtain ⟨a, k, rfl⟩ : ∃ a k, y = ix2 (n0 := 1) (n1 := 1024) a k := ⟨y 0, y 1, (ix2_eta y).symm⟩
  exact (out11 (blk H) 6 rfl _ a k).trans (Ref.v172 H a k).symm

theorem g7 : G7 m c = Cert.ReferenceIdeal.Read.val_main_v169 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext y
  obtain ⟨r, k, rfl⟩ : ∃ r k, y = ix2 (n0 := 4096) (n1 := 2048) r k := ⟨y 0, y 1, (ix2_eta y).symm⟩
  have hp : pt7Of (ix2 r k) = r.val / 512 := by
    show 1 * (r.val / 512 - 0) + 1 * (k.val / 2048 - 0) = _
    omega
  have hN : cfg0.N = 8 := N_0
  unfold G7
  rw [dif_pos (by omega), ← outsAt0_sweep m c (pt7Of (ix2 r k)) (by omega)]
  refine (out7 (blk H) ⟨pt7Of (ix2 r k), by omega⟩ _).trans ?_
  refine Eq.trans ?_ (Ref.v169 H r k).symm
  have e0 : 512 * pt7Of (ix2 r k) + (loc7Of (ix2 r k) 0).val = r.val := by
    rw [hp]
    show 512 * (r.val / 512) + r.val % 512 = r.val
    omega
  have e1 : (loc7Of (ix2 r k) 1).val = k.val := Nat.mod_eq_of_lt k.isLt
  have key : ∀ a q : ℕ, a = r.val → q = k.val → (((if q < 1024 then du dy u v w b lg lb a q else dv dy u v w lg a (q - 1024) : ℝ)) : EReal)
      = ((if k.val < 1024 then du dy u v w b lg lb r k else dv dy u v w lg r (k - 1024) : ℝ) : EReal) := by
    rintro _ _ rfl rfl
    rfl
  exact key _ _ e0 e1

end Cert.Sgu.Ker

end
-- ==== Proof.Lift2.lean ====
/-
  FURTHER OPERATIONS ON CASTS: the positive part, a choice by a sign, and the literal two.
-/
module

public import proofs.«01_k».proof.Proof.Lift

@[expose] public section

noncomputable section

namespace Cert.Lift

open Idealize.ShloMosaic

@[pointwise] theorem max_zero (a : ℝ) : max (a : EReal) 0 = ((max a 0 : ℝ) : EReal) := (EReal.coe_strictMono.monotone.map_max (a := a) (b := 0)).symm
@[pointwise] theorem zero_max (a : ℝ) : max 0 (a : EReal) = ((max a 0 : ℝ) : EReal) := by rw [max_comm, max_zero]

@[pointwise] theorem two_f32 : Ideal.ofBits .f32 0x40000000#32 = ((2 : ℝ) : EReal) := by
  simp [Ideal.ofBits, Ideal.ieee, -EReal.coe_mul]; norm_num

end Cert.Lift

end
-- ==== Proof.Rms.lean ====
/-
  THE ROOT-MEAN-SQUARE NORM AND ITS GRADIENT OVER THE EXTENDED REALS. A row `x` of 1024 numbers is divided by the root of its mean
  square plus a small number and multiplied elementwise by a gain `g`. For a gradient `d` of the result, the gradient of the row
  is written in two ways: as the kernels compute it (the mean of `d g n` taken off `d g`), and as differentiating the forward lines
  one by one gives it. `dx_eq` says they agree, at infinities too: a row that holds one has the factor zero, and through a finite
  row every number is multiplied by reals alone.
-/
module

public import proofs.«01_k».proof.Proof.Lift2

@[expose] public section

noncomputable section

namespace Cert.Rms

open Idealize.ShloMosaic

/-- The small number under the root. -/
def eps : ℝ := 8796093 / 8796093022208

/-- The mean square of a row, plus the small number. -/
def ms (x : ℕ → EReal) : EReal := Ideal.div (∑ k : Fin 1024, x k * x k) ((1024 : ℝ) : EReal) + ((8796093 / 8796093022208 : ℝ) : EReal)

/-- The reciprocal root. -/
def rs (x : ℕ → EReal) : EReal := Ideal.rsqrt (ms x)

/-- The gradient of the row, with the mean taken off. -/
def dx (d g x : ℕ → EReal) (c : ℕ) : EReal :=
  rs x * (d c * g c - x c * rs x * Ideal.div (∑ k : Fin 1024, d k * g k * (x k * rs x)) ((1024 : ℝ) : EReal))

/-- The gradient by the mean square. -/
def dms (d g x : ℕ → EReal) : EReal :=
  Ideal.div ((∑ k : Fin 1024, x k * (d k * g k)) * (((-(1 / 2) : ℝ) : EReal) * Ideal.div (rs x) (ms x))) ((1024 : ℝ) : EReal)

/-! ### A finite row -/

theorem ms_pos (x : ℕ → ℝ) : 0 < (∑ k : Fin 1024, x k * x k) / 1024 + eps := by
  have h : 0 ≤ ∑ k : Fin 1024, x k * x k := Finset.sum_nonneg fun k _ => mul_self_nonneg _
  unfold eps
  positivity

theorem ms_real {x : ℕ → EReal} {y : ℕ → ℝ} (h : ∀ k : Fin 1024, x k = ((y k : ℝ) : EReal)) :
    ms x = (((∑ k : Fin 1024, y k * y k) / 1024 + eps : ℝ) : EReal) := by
  unfold ms
  pointwise [h]
  rfl

/-- The reciprocal root of a positive number, cubed, is the reciprocal root by the number. -/
theorem root_cube {m : ℝ} (h : 0 < m) : (Real.sqrt m)⁻¹ / m = (Real.sqrt m)⁻¹ * (Real.sqrt m)⁻¹ * (Real.sqrt m)⁻¹ := by
  have hs : Real.sqrt m ≠ 0 := (Real.sqrt_pos.2 h).ne'
  nth_rw 2 [← Real.mul_self_sqrt h.le]
  field_simp

/-- A product with a real number that is not negative goes into a sum. -/
theorem sum_mul_real {ι : Type*} (s : Finset ι) (f : ι → EReal) {a : ℝ} (h : 0 ≤ a) : ∑ k ∈ s, f k * (a : EReal) = (∑ k ∈ s, f k) * (a : EReal) := by
  classical
  induction s using Finset.induction_on with
  | empty => simp
  | insert k s hk ih =>
    rw [Finset.sum_insert hk, Finset.sum_insert hk, ih, EReal.right_distrib_of_nonneg_of_ne_top (EReal.coe_nonneg.2 h) (EReal.coe_ne_top a)]

/-- Twice a product with a real number. -/
theorem twice (t : ℝ) (s : EReal) : (t : EReal) * s + (t : EReal) * s = ((2 * t : ℝ) : EReal) * s := by
  rcases le_total 0 t with h | h
  · rw [← EReal.right_distrib_of_nonneg (EReal.coe_nonneg.2 h) (EReal.coe_nonneg.2 h), ← EReal.coe_add]
    congr 2; ring
  · have h' : 0 ≤ -t := neg_nonneg.2 h
    have e := EReal.right_distrib_of_nonneg (a := ((-t : ℝ) : EReal)) (b := ((-t : ℝ) : EReal)) (c := -s) (EReal.coe_nonneg.2 h') (EReal.coe_nonneg.2 h')
    have n : ∀ z : ℝ, ((-z : ℝ) : EReal) * -s = (z : EReal) * s := fun z => by rw [EReal.coe_neg, neg_mul_neg]
    rw [n, ← EReal.coe_add, show -t + -t = -(2 * t) by ring, n] at e
    exact e.symm

/-- The two groupings over a finite row: `u` the gradient by the gain at the place `x`, `s` the sum, `a` the factor, `b` a 1024th. -/
theorem grouping (u s : EReal) (x a b q : ℝ) (ha : 0 ≤ a) (hq : q = a * a * a) :
    u * (a : EReal) + (x : EReal) * (s * (((-(1 / 2) * q : ℝ) : EReal)) * (b : EReal)) + s * (((-(1 / 2) * q : ℝ) : EReal)) * (b : EReal) * (x : EReal)
      = (a : EReal) * (u - (x : EReal) * (a : EReal) * (s * (a : EReal) * (b : EReal))) := by
  have e1 : (x : EReal) * (s * (((-(1 / 2) * q : ℝ) : EReal)) * (b : EReal)) = ((x * (-(1 / 2) * q) * b : ℝ) : EReal) * s := by
    rw [EReal.coe_mul (x * _) b, EReal.coe_mul x]
    ac_rfl
  have e2 : s * (((-(1 / 2) * q : ℝ) : EReal)) * (b : EReal) * (x : EReal) = ((x * (-(1 / 2) * q) * b : ℝ) : EReal) * s := by
    rw [← e1]; ac_rfl
  have e3 : (a : EReal) * -((x : EReal) * (a : EReal) * (s * (a : EReal) * (b : EReal))) = ((2 * (x * (-(1 / 2) * q) * b) : ℝ) : EReal) * s := by
    rw [show (2 * (x * (-(1 / 2) * q) * b) : ℝ) = -(a * (x * a * (a * b))) by rw [hq]; ring, EReal.coe_neg, neg_mul, mul_neg]
    simp only [EReal.coe_mul]
    congr 1
    ac_rfl
  rw [e1, e2, add_assoc, twice, sub_eq_add_neg, EReal.left_distrib_of_nonneg_of_ne_top (EReal.coe_nonneg.2 ha) (EReal.coe_ne_top a), e3, mul_comm u]

/-! ### A row that holds an infinity -/

theorem sq_nonneg (x : EReal) : 0 ≤ x * x := by
  induction x using EReal.rec with
  | bot => simp
  | top => simp
  | coe x => rw [← EReal.coe_mul]; exact EReal.coe_nonneg.2 (mul_self_nonneg x)

theorem ms_top {x : ℕ → EReal} {k : Fin 1024} (h : x k * x k = ⊤) : ms x = ⊤ := by
  have e : ∑ k : Fin 1024, x k * x k = ⊤ :=
    top_le_iff.1 (h ▸ Finset.single_le_sum (f := fun k : Fin 1024 => x k * x k) (fun k _ => sq_nonneg (x k)) (Finset.mem_univ k))
  unfold ms
  rw [e, Ideal.div_coe (by norm_num), EReal.top_mul_coe_of_pos (by norm_num), EReal.top_add_coe]

theorem rs_top {x : ℕ → EReal} (h : ms x = ⊤) : rs x = 0 := by
  unfold rs
  rw [h, Ideal.rsqrt_top]

/-- The gradient of the row as the forward lines give it: through the factor, and twice through the square. -/
theorem dx_eq (d g x : ℕ → EReal) (c : Fin 1024) : d c * g c * rs x + x c * dms d g x + dms d g x * x c = dx d g x c := by
  by_cases h : ∃ k : Fin 1024, x k * x k = ⊤
  · obtain ⟨k, h⟩ := h
    have hm := ms_top h
    have hr := rs_top hm
    have hd : dms d g x = 0 := by
      unfold dms
      rw [hr, hm, show Ideal.div 0 ⊤ = 0 by simp [Ideal.div], mul_zero, mul_zero, Ideal.div_coe (by norm_num), zero_mul]
    unfold dx
    rw [hd, hr]
    simp only [mul_zero, zero_mul, add_zero]
  · have hx : ∀ k : Fin 1024, x k = (((x k).toReal : ℝ) : EReal) := fun k => by
      refine (EReal.coe_toReal ?_ ?_).symm
      · intro e; exact h ⟨k, by rw [e]; rfl⟩
      · intro e; exact h ⟨k, by rw [e]; rfl⟩
    have hp := ms_pos fun k => (x k).toReal
    have hm := ms_real (y := fun k => (x k).toReal) hx
    generalize (∑ k : Fin 1024, (x k).toReal * (x k).toReal) / 1024 + eps = m at hm hp
    have hr : rs x = (((Real.sqrt m)⁻¹ : ℝ) : EReal) := by
      unfold rs
      rw [hm]
      exact Lift.rsqrt hp
    have ha : 0 ≤ (Real.sqrt m)⁻¹ := inv_nonneg.2 (Real.sqrt_nonneg m)
    have e : ∑ k : Fin 1024, d k * g k * (x k * rs x) = (∑ k : Fin 1024, x k * (d k * g k)) * rs x := by
      rw [hr, ← sum_mul_real _ _ ha]
      exact Finset.sum_congr rfl fun k _ => by ac_rfl
    unfold dx dms
    rw [e, hr, hm, Lift.div hp.ne', Ideal.div_coe (by norm_num), Ideal.div_coe (by norm_num), ← EReal.coe_mul]
    generalize (∑ k : Fin 1024, x k * (d k * g k)) = S
    rw [hx c]
    exact grouping _ S _ _ _ _ ha (root_cube hp)

end Cert.Rms

end
-- ==== Proof.FfnFn.lean ====
/-
  THE GRADIENT THROUGH THE FEED-FORWARD SUBLAYER OVER THE EXTENDED REALS. Forward, a row `x` is normed and multiplied by `wu` to the
  preactivations `p`; their positive parts, squared, are multiplied by `wd` and added to `x`. `d` is the gradient of the
  result. `dp` is the gradient of the preactivations, `dh` that of the normed row, `dx1` that of the row, `dg` that of the
  gain of the norm.
-/
module

public import proofs.«01_k».proof.Proof.Rms

@[expose] public section

noncomputable section

namespace Cert.Ffn

open Idealize.ShloMosaic

section
variable (d p x : ℕ → ℕ → EReal) (g : ℕ → EReal) (wu wd : ℕ → ℕ → EReal)

/-- The normed row. -/
def nrm (r c : ℕ) : EReal := x r c * Rms.rs (x r)

/-- The preactivations. -/
def pre (r f : ℕ) : EReal := ∑ k : Fin 1024, nrm x r k * g k * wu k f

/-- The gradient of the squared positive part. -/
def df (r f : ℕ) : EReal := ∑ k : Fin 1024, d r k * wd f k

/-- The gradient of the preactivations. -/
def dp (r f : ℕ) : EReal := df d wd r f * (((2 : ℝ) : EReal) * max (p r f) 0)

/-- The gradient of the normed, scaled row. -/
def dh (r c : ℕ) : EReal := ∑ f : Fin 4096, dp d p wd r f * wu c f

/-- The gradient of the row. -/
def dx1 (r c : ℕ) : EReal := d r c + Rms.dx (dh d p wu wd r) g (x r) c

/-- The gradient of the gain. -/
def dg (c : ℕ) : EReal := ∑ r : Fin 4096, dh d p wu wd r c * nrm x r c

/-- Where the preactivation is not positive its gradient is zero, whichever way it is written. -/
theorem dp_select (r f : ℕ) : (if 0 < p r f then df d wd r f * (((2 : ℝ) : EReal) * max (p r f) 0) else 0) = dp d p wd r f := by
  unfold dp
  split
  · rfl
  · rename_i h
    rw [max_eq_right (not_lt.1 h)]; simp

/-- The sum over 4096 columns by quarters. -/
theorem sum_quarters (F : ℕ → EReal) : ∑ f : Fin 4096, F f
    = (∑ k : Fin 1024, F (0 + k)) + (∑ k : Fin 1024, F (1024 + k)) + (∑ k : Fin 1024, F (2048 + k)) + ∑ k : Fin 1024, F (3072 + k) := by
  have h : ∀ o n : ℕ, ∑ k : Fin n, F (o + k) = ∑ k ∈ Finset.range n, F (o + k) := fun o n => Fin.sum_univ_eq_sum_range (fun k => F (o + k)) n
  simp only [h]
  rw [Fin.sum_univ_eq_sum_range F, show (4096 : ℕ) = 1024 + 1024 + 1024 + 1024 from rfl, Finset.sum_range_add, Finset.sum_range_add, Finset.sum_range_add]
  simp only [Nat.zero_add]

end

end Cert.Ffn

end
-- ==== Proof.FfnKer.lean ====
/-
  THE KERNEL'S VALUES of one block of 512 rows of the feed-forward sublayer's gradient. Each payload, read
  at an index, is a function of `FfnFn`; the 4096 columns are taken by quarters.
-/
module

public import proofs.«01_k».proof.Proof.FfnFn
public import proofs.«01_k».proof.Proof.Gen.Kernel2Ideal.Skeleton

@[expose] public section

set_option maxRecDepth 16384
set_option backward.proofsInPublic true

noncomputable section

namespace Cert.Ffn.Ker

open Cert.Kernel2Ideal Cert.Kernel2Ideal.Gen Idealize.ShloMosaic Cert.Ffn

/-- A block of rows is a function of row and column. -/
abbrev Rows (x : S512x1024.Idx → EReal) (f : ℕ → ℕ → EReal) : Prop := ∀ (r : Fin 512) (c : Fin 1024), x (ix2 r c) = (f r c)
/-- A quarter of the second product's weights, from row `o` on. -/
abbrev DownQ (o : ℕ) (w : S1x1024x1024.Idx → EReal) (wd : ℕ → ℕ → EReal) : Prop :=
  ∀ (a : Fin 1) (f k : Fin 1024), w (ix3 a f k) = (wd (o + f) k)
/-- A quarter of the first product's weights, from column `o` on. -/
abbrev UpQ (o : ℕ) (w : S1x1x1024x1024.Idx → EReal) (wu : ℕ → ℕ → EReal) : Prop :=
  ∀ (a b : Fin 1) (c f : Fin 1024), w (ix4 a b c f) = (wu c (o + f))
/-- A quarter of the preactivations, from column `o` on. -/
abbrev PreQ (o : ℕ) (x : S512x1024.Idx → EReal) (p : ℕ → ℕ → EReal) : Prop := Rows x fun r f => p r (o + f)

section
variable {d p x : ℕ → ℕ → EReal} {g : ℕ → EReal} {wu wd : ℕ → ℕ → EReal}

theorem pay5 {v3 : S512x1024.Idx → EReal} (H : Rows v3 d) : Rows (k0_pay5 (F := Ideal) v3) d := fun r c => by
  pointwise [k0_pay5, H r c]

theorem pay6 {v3 v10 : S512x1024.Idx → EReal} {v7 : S1x1024x1024.Idx → EReal} (H : Rows v3 d) (Hw : DownQ 0 v7 wd) (Hp : PreQ 0 v10 p) :
    Rows (k0_pay6 (F := Ideal) v3 v7 v10) fun r f => dp d p wd r (0 + f) := fun r c => by
  pointwise [k0_pay6, pay5 H, Hw, Hp r c]
  rfl

theorem pay9 {v3 v27 : S512x1024.Idx → EReal} {v24 : S1x1024x1024.Idx → EReal} (H : Rows v3 d) (Hw : DownQ 1024 v24 wd) (Hp : PreQ 1024 v27 p) :
    Rows (k0_pay9 (F := Ideal) (k0_pay8 v3 v24) v27) fun r f => dp d p wd r (1024 + f) := fun r c => by
  pointwise [k0_pay9, k0_pay8, pay5 H, Hw, Hp r c]
  rfl

theorem pay10 {v4 v44 : S512x1024.Idx → EReal} {v41 : S1x1024x1024.Idx → EReal} (H : Rows v4 d) (Hw : DownQ 2048 v41 wd) (Hp : PreQ 2048 v44 p) :
    Rows (k0_pay10 (F := Ideal) v4 v41 v44) fun r f => dp d p wd r (2048 + f) := fun r c => by
  pointwise [k0_pay10, H, Hw, Hp r c]
  rfl

theorem pay12 {v4 v61 : S512x1024.Idx → EReal} {v58 : S1x1024x1024.Idx → EReal} (H : Rows v4 d) (Hw : DownQ 3072 v58 wd) (Hp : PreQ 3072 v61 p) :
    Rows (k0_pay12 (F := Ideal) v4 v58 v61) fun r f => dp d p wd r (3072 + f) := fun r c => by
  pointwise [k0_pay12, H, Hw, Hp r c]
  rfl

/-- The gradient of the normed, scaled row: the four quarters' products, added up. -/
theorem pay13 {v3 v10 v27 v44 v61 : S512x1024.Idx → EReal} {v7 v24 v41 v58 : S1x1024x1024.Idx → EReal} {v20 v37 v54 v71 : S1x1x1024x1024.Idx → EReal}
    (H : Rows v3 d) (h7 : DownQ 0 v7 wd) (h10 : PreQ 0 v10 p) (h20 : UpQ 0 v20 wu) (h24 : DownQ 1024 v24 wd) (h27 : PreQ 1024 v27 p)
    (h37 : UpQ 1024 v37 wu) (h41 : DownQ 2048 v41 wd) (h44 : PreQ 2048 v44 p) (h54 : UpQ 2048 v54 wu) (h58 : DownQ 3072 v58 wd)
    (h61 : PreQ 3072 v61 p) (h71 : UpQ 3072 v71 wu) :
    Rows (k0_pay13 (F := Ideal) (k0_pay5 v3) (k0_pay11 (k0_pay5 v3) (k0_pay7 v3 v7 v10 v20) (k0_pay8 v3 v24) v27 v37 v41 v44 v54) v58 v61 v71)
      (dh d p wu wd) := fun r c => by
  pointwise [k0_pay13, k0_pay11, k0_pay7, pay6 H h7 h10, pay9 H h24 h27, pay10 (pay5 H) h41 h44, pay12 (pay5 H) h58 h61, h20, h37, h54, h71]
  unfold dh
  rw [sum_quarters (fun f => dp d p wd r f * wu c f)]
  simp only [Nat.zero_add]

theorem pay14 {v75 : S512x1024.Idx → EReal} (H : Rows v75 x) (r : Fin 512) (a : Fin 1) :
    k0_pay14 (F := Ideal) v75 (ix2 r a) = (Rms.rs (x r)) := by
  pointwise [k0_pay14, H]
  rfl

theorem pay15 {v75 : S512x1024.Idx → EReal} (H : Rows v75 x) : Rows (k0_pay15 (F := Ideal) v75) (nrm x) := fun r c => by
  pointwise [k0_pay15, pay14 H, H r c]
  rfl

section tail
variable {v4 v57 v61 v75 v3 : S512x1024.Idx → EReal} {v58 : S1x1024x1024.Idx → EReal} {v71 : S1x1x1024x1024.Idx → EReal} {v76 : S1x1024.Idx → EReal} {h : ℕ → ℕ → EReal}
  (Hh : Rows (k0_pay13 (F := Ideal) v4 v57 v58 v61 v71) h) (Hx : Rows v75 x) (Hg : ∀ (a : Fin 1) (c : Fin 1024), v76 (ix2 a c) = (g c))
include Hh

theorem pay3 {v105 : S1x1024.Idx → EReal} {e : ℕ → EReal} (Hx : Rows v75 x) (He : ∀ (a : Fin 1) (c : Fin 1024), v105 (ix2 a c) = (e c)) (a : Fin 1) (c : Fin 1024) :
    k0_pay3 (F := Ideal) (k0_pay13 v4 v57 v58 v61 v71) (k0_pay15 v75) v105 (ix2 a c) = (e c + ∑ r : Fin 512, h r c * nrm x r c) := by
  pointwise [k0_pay3, Hh, pay15 Hx, He]

include Hg

theorem pay16 : Rows (k0_pay16 (F := Ideal) v4 v57 v58 v61 v71 v76) fun r c => h r c * g c := fun r c => by
  pointwise [k0_pay16, Hh r c, Hg]

include Hx

theorem pay1 (H3 : Rows v3 d) : Rows (k0_pay1 (F := Ideal) v3 (k0_pay14 v75) (k0_pay16 v4 v57 v58 v61 v71 v76) (k0_pay17 v4 v57 v58 v61 v71 v75 v76))
    fun r c => d r c + Rms.dx (h r) g (x r) c := fun r c => by
  pointwise [k0_pay1, k0_pay17, pay14 Hx, pay15 Hx, pay16 Hh Hg, H3 r c]
  rfl

theorem pay2 (H3 : Rows v3 d) : Rows (k0_pay2 (F := Ideal) v3 (k0_pay14 v75) (k0_pay16 v4 v57 v58 v61 v71 v76) (k0_pay17 v4 v57 v58 v61 v71 v75 v76))
    fun r c => d r c + Rms.dx (h r) g (x r) c := fun r c => by
  pointwise [k0_pay2, pay1 Hh Hx Hg H3]

end tail

end

end Cert.Ffn.Ker

end
-- ==== Proof.FfnBlk.lean ====
/-
  THE BLOCKS A GRID POINT READS, and the quarters of them the body loads.
-/
module

public import proofs.«01_k».proof.Proof.FfnKer
public import proofs.«01_k».proof.Proof.Gen.Kernel2Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.Ffn.Ker

open Cert.Kernel2Ideal Cert.Kernel2Ideal.Gen Idealize.ShloMosaic Cert.Ffn

/-- The blocks a grid point reads, as functions of two indices. -/
structure Blk (x0 : S512x1024.Idx → EReal) (x1 : S512x4096.Idx → EReal) (x2 : S512x1024.Idx → EReal) (x3 : S1x1024.Idx → EReal)
    (x4 : S1x4x1024x1024.Idx → EReal) (x5 : S1x4096x1024.Idx → EReal) (d p x : ℕ → ℕ → EReal) (g : ℕ → EReal) (wu wd : ℕ → ℕ → EReal) : Prop where
  d : Rows x0 d
  p : ∀ (r : Fin 512) (f : Fin 4096), x1 (ix2 r f) = (p r f)
  x : Rows x2 x
  g : ∀ (a : Fin 1) (c : Fin 1024), x3 (ix2 a c) = (g c)
  wu : ∀ (a : Fin 1) (q : Fin 4) (c f : Fin 1024), x4 (ix4 a q c f) = (wu c (1024 * q + f))
  wd : ∀ (a : Fin 1) (f : Fin 4096) (k : Fin 1024), x5 (ix3 a f k) = (wd f k)

variable (x0 : Vec Ideal S512x1024 .f32) (x1 : Vec Ideal S512x4096 .bf16) (x2 : Vec Ideal S512x1024 .f32) (x3 : Vec Ideal S1x1024 .f32)
  (x4 : Vec Ideal S1x4x1024x1024 .bf16) (x5 : Vec Ideal S1x4096x1024 .bf16)

/-! ### The parts of the blocks, by name -/

abbrev bP0 : FVec Ideal S512x1024 .bf16 := View.ld x1 (Rect.unit ![0, 0] ![512, 1024] inb_S512x4096_S512x1024_0_0)
abbrev bD0 : FVec Ideal S1x1024x1024 .bf16 := View.ld x5 (Rect.unit ![0, 0, 0] ![1, 1024, 1024] inb_S1x4096x1024_S1x1024x1024_0_0_0)
abbrev bU0 : FVec Ideal S1x1x1024x1024 .bf16 := View.ld x4 (Rect.unit ![0, 0, 0, 0] ![1, 1, 1024, 1024] inb_S1x4x1024x1024_S1x1x1024x1024_0_0_0_0)
abbrev bP1 : FVec Ideal S512x1024 .bf16 := View.ld x1 (Rect.unit ![0, 1024] ![512, 1024] inb_S512x4096_S512x1024_0_1024)
abbrev bD1 : FVec Ideal S1x1024x1024 .bf16 := View.ld x5 (Rect.unit ![0, 1024, 0] ![1, 1024, 1024] inb_S1x4096x1024_S1x1024x1024_0_1024_0)
abbrev bU1 : FVec Ideal S1x1x1024x1024 .bf16 := View.ld x4 (Rect.unit ![0, 1, 0, 0] ![1, 1, 1024, 1024] inb_S1x4x1024x1024_S1x1x1024x1024_0_1_0_0)
abbrev bP2 : FVec Ideal S512x1024 .bf16 := View.ld x1 (Rect.unit ![0, 2048] ![512, 1024] inb_S512x4096_S512x1024_0_2048)
abbrev bD2 : FVec Ideal S1x1024x1024 .bf16 := View.ld x5 (Rect.unit ![0, 2048, 0] ![1, 1024, 1024] inb_S1x4096x1024_S1x1024x1024_0_2048_0)
abbrev bU2 : FVec Ideal S1x1x1024x1024 .bf16 := View.ld x4 (Rect.unit ![0, 2, 0, 0] ![1, 1, 1024, 1024] inb_S1x4x1024x1024_S1x1x1024x1024_0_2_0_0)
abbrev bP3 : FVec Ideal S512x1024 .bf16 := View.ld x1 (Rect.unit ![0, 3072] ![512, 1024] inb_S512x4096_S512x1024_0_3072)
abbrev bD3 : FVec Ideal S1x1024x1024 .bf16 := View.ld x5 (Rect.unit ![0, 3072, 0] ![1, 1024, 1024] inb_S1x4096x1024_S1x1024x1024_0_3072_0)
abbrev bU3 : FVec Ideal S1x1x1024x1024 .bf16 := View.ld x4 (Rect.unit ![0, 3, 0, 0] ![1, 1, 1024, 1024] inb_S1x4x1024x1024_S1x1x1024x1024_0_3_0_0)
/-- The sum of the first three quarters' products. -/
abbrev bAcc : FVec Ideal S512x1024 .f32 := k0_pay11 (F := Ideal) (k0_pay5 x0) (k0_pay7 x0 (bD0 x5) (bP0 x1) (bU0 x4)) (k0_pay8 x0 (bD1 x5)) (bP1 x1) (bU1 x4) (bD2 x5) (bP2 x1) (bU2 x4)
/-- The gradient of the normed, scaled rows. -/
abbrev bDh : FVec Ideal S512x1024 .f32 := k0_pay13 (F := Ideal) (k0_pay5 x0) (bAcc x0 x1 x4 x5) (bD3 x5) (bP3 x1) (bU3 x4)

variable {x0 x1 x2 x3 x4 x5}
variable {d p x : ℕ → ℕ → EReal} {g : ℕ → EReal} {wu wd : ℕ → ℕ → EReal} (H : Blk x0 x1 x2 x3 x4 x5 d p x g wu wd)

include H

theorem bP0_at : PreQ 0 (bP0 x1) p := fun r f => by
  refine (View.ld_unit_apply_of x1 _ _ _ _ (ix2 r ⟨0 + f.val, by omega⟩) ?_).trans (H.p r ⟨0 + f.val, by omega⟩)
  intro a; fin_cases a <;> simp [ix2]

theorem bD0_at : DownQ 0 (bD0 x5) wd := fun a f k => by
  refine (View.ld_unit_apply_of x5 _ _ _ _ (ix3 a ⟨0 + f.val, by omega⟩ k) ?_).trans (H.wd a ⟨0 + f.val, by omega⟩ k)
  intro b; fin_cases b <;> simp [ix3]

theorem bU0_at : UpQ 0 (bU0 x4) wu := fun a b c f => by
  refine (View.ld_unit_apply_of x4 _ _ _ _ (ix4 a 0 c f) ?_).trans (H.wu a 0 c f)
  have hb : b.val = 0 := by omega
  intro e; fin_cases e <;> simp [ix4, hb]

theorem bP1_at : PreQ 1024 (bP1 x1) p := fun r f => by
  refine (View.ld_unit_apply_of x1 _ _ _ _ (ix2 r ⟨1024 + f.val, by omega⟩) ?_).trans (H.p r ⟨1024 + f.val, by omega⟩)
  intro a; fin_cases a <;> simp [ix2]

theorem bD1_at : DownQ 1024 (bD1 x5) wd := fun a f k => by
  refine (View.ld_unit_apply_of x5 _ _ _ _ (ix3 a ⟨1024 + f.val, by omega⟩ k) ?_).trans (H.wd a ⟨1024 + f.val, by omega⟩ k)
  intro b; fin_cases b <;> simp [ix3]

theorem bU1_at : UpQ 1024 (bU1 x4) wu := fun a b c f => by
  refine (View.ld_unit_apply_of x4 _ _ _ _ (ix4 a 1 c f) ?_).trans (H.wu a 1 c f)
  have hb : b.val = 0 := by omega
  intro e; fin_cases e <;> simp [ix4, hb]

theorem bP2_at : PreQ 2048 (bP2 x1) p := fun r f => by
  refine (View.ld_unit_apply_of x1 _ _ _ _ (ix2 r ⟨2048 + f.val, by omega⟩) ?_).trans (H.p r ⟨2048 + f.val, by omega⟩)
  intro a; fin_cases a <;> simp [ix2]

theorem bD2_at : DownQ 2048 (bD2 x5) wd := fun a f k => by
  refine (View.ld_unit_apply_of x5 _ _ _ _ (ix3 a ⟨2048 + f.val, by omega⟩ k) ?_).trans (H.wd a ⟨2048 + f.val, by omega⟩ k)
  intro b; fin_cases b <;> simp [ix3]

theorem bU2_at : UpQ 2048 (bU2 x4) wu := fun a b c f => by
  refine (View.ld_unit_apply_of x4 _ _ _ _ (ix4 a 2 c f) ?_).trans (H.wu a 2 c f)
  have hb : b.val = 0 := by omega
  intro e; fin_cases e <;> simp [ix4, hb]

theorem bP3_at : PreQ 3072 (bP3 x1) p := fun r f => by
  refine (View.ld_unit_apply_of x1 _ _ _ _ (ix2 r ⟨3072 + f.val, by omega⟩) ?_).trans (H.p r ⟨3072 + f.val, by omega⟩)
  intro a; fin_cases a <;> simp [ix2]

theorem bD3_at : DownQ 3072 (bD3 x5) wd := fun a f k => by
  refine (View.ld_unit_apply_of x5 _ _ _ _ (ix3 a ⟨3072 + f.val, by omega⟩ k) ?_).trans (H.wd a ⟨3072 + f.val, by omega⟩ k)
  intro b; fin_cases b <;> simp [ix3]

theorem bU3_at : UpQ 3072 (bU3 x4) wu := fun a b c f => by
  refine (View.ld_unit_apply_of x4 _ _ _ _ (ix4 a 3 c f) ?_).trans (H.wu a 3 c f)
  have hb : b.val = 0 := by omega
  intro e; fin_cases e <;> simp [ix4, hb]

theorem bDh_at : Rows (bDh x0 x1 x4 x5) (dh d p wu wd) :=
  pay13 H.d (bD0_at H) (bP0_at H) (bU0_at H) (bD1_at H) (bP1_at H) (bU1_at H) (bD2_at H) (bP2_at H) (bU2_at H) (bD3_at H) (bP3_at H) (bU3_at H)

end Cert.Ffn.Ker

end
-- ==== Proof.FfnOut.lean ====
/-
  WHAT A GRID POINT WRITES, opened: in each of the two cases the five results' blocks are the payloads at the point's blocks.
-/
module

public import proofs.«01_k».proof.Proof.FfnBlk

@[expose] public section

set_option maxRecDepth 16384
set_option maxHeartbeats 800000
set_option backward.proofsInPublic true

noncomputable section

namespace Cert.Ffn.Ker

open Cert.Kernel2Ideal Cert.Kernel2Ideal.Gen Idealize.ShloMosaic Cert.Ffn

variable {d p x : ℕ → ℕ → EReal} {g : ℕ → EReal} {wu wd : ℕ → ℕ → EReal}
/-- The block of the preactivations' gradient: the four quarters beside one another. -/
theorem canon7 {x0 : Vec Ideal S512x1024 .f32} {x1 : Vec Ideal S512x4096 .bf16} {x2 : Vec Ideal S512x1024 .f32} {x3 : Vec Ideal S1x1024 .f32}
    {x4 : Vec Ideal S1x4x1024x1024 .bf16} {x5 : Vec Ideal S1x4096x1024 .bf16} (H : Blk x0 x1 x2 x3 x4 x5 d p x g wu wd) (y : S512x4096.Idx) :
    View.canon (Val := Elt Ideal) (e := .bf16) [⟨Rect.unit ![0, 3072] ![512, 1024] inb_S512x4096_S512x1024_0_3072, k0_pay12 (k0_pay5 x0) (bD3 x5) (bP3 x1)⟩,
      ⟨Rect.unit ![0, 2048] ![512, 1024] inb_S512x4096_S512x1024_0_2048, k0_pay10 (k0_pay5 x0) (bD2 x5) (bP2 x1)⟩,
      ⟨Rect.unit ![0, 1024] ![512, 1024] inb_S512x4096_S512x1024_0_1024, k0_pay9 (k0_pay8 x0 (bD1 x5)) (bP1 x1)⟩,
      ⟨Rect.unit ![0, 0] ![512, 1024] inb_S512x4096_S512x1024_0_0, k0_pay6 x0 (bD0 x5) (bP0 x1)⟩] y
      = (dp d p wd (y 0).val (y 1).val) := by
  canon_tiles x h
  · have e := pay12 (pay5 H.d) (bD3_at H) (bP3_at H) (x 0) (x 1)
    rw [ix2_eta] at e
    rw [h0, show (y 1).val = 3072 + (x 1).val by omega]
    exact e
  · have e := pay10 (pay5 H.d) (bD2_at H) (bP2_at H) (x 0) (x 1)
    rw [ix2_eta] at e
    rw [h0, show (y 1).val = 2048 + (x 1).val by omega]
    exact e
  · have e := pay9 H.d (bD1_at H) (bP1_at H) (x 0) (x 1)
    rw [ix2_eta] at e
    rw [h0, show (y 1).val = 1024 + (x 1).val by omega]
    exact e
  · have e := pay6 H.d (bD0_at H) (bP0_at H) (x 0) (x 1)
    rw [ix2_eta] at e
    rw [h0, show (y 1).val = 0 + (x 1).val by omega]
    exact e

variable (c : Dev nD) (i : grid0.Coords) (arg1 : Memref sig .tc .vmem S512x1024 .f32) (harg1 : arg1.IsWhole) (arg2 : Memref sig .tc .vmem S512x4096 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x4x1024x1024 .bf16) (harg5 : arg5.IsWhole) (arg6 : Memref sig .tc .vmem S1x4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole)
  (x0 : Vec Ideal S512x1024 .f32) (x1 : Vec Ideal S512x4096 .bf16) (x2 : Vec Ideal S512x1024 .f32) (x3 : Vec Ideal S1x1024 .f32)
  (x4 : Vec Ideal S1x4x1024x1024 .bf16) (x5 : Vec Ideal S1x4096x1024 .bf16) (xo8 : Vec Ideal S1x1024 .f32)

theorem out0_A_6_at (hc0 : cond0_0 i) (H : Blk x0 x1 x2 x3 x4 x5 d p x g wu wd) (r : Fin 512) (k : Fin 1024) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 r k) = (dx1 d p x g wu wd r k) := by
  frame_out
  exact pay1 (bDh_at H) H.x H.g H.d r k

theorem out0_A_10_at (hc0 : cond0_0 i) (H : Blk x0 x1 x2 x3 x4 x5 d p x g wu wd) (r : Fin 512) (k : Fin 1024) :
    out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 r k) = (dx1 d p x g wu wd r k) := by
  frame_out
  exact pay2 (bDh_at H) H.x H.g H.d r k

theorem out0_A_9_at (hc0 : cond0_0 i) (H : Blk x0 x1 x2 x3 x4 x5 d p x g wu wd) (r : Fin 512) (k : Fin 1024) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 r k) = (d r k) := by
  frame_out
  exact pay5 H.d r k

theorem out0_A_7_at (hc0 : cond0_0 i) (H : Blk x0 x1 x2 x3 x4 x5 d p x g wu wd) (y : S512x4096.Idx) :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 y = (dp d p wd (y 0).val (y 1).val) := by
  frame_out
  exact canon7 H y

theorem out0_A_8_at (hc0 : cond0_0 i) (H : Blk x0 x1 x2 x3 x4 x5 d p x g wu wd) (a : Fin 1) (k : Fin 1024) :
    out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 (ix2 a k) = (∑ r : Fin 512, dh d p wu wd r k * nrm x r k) := by
  frame_open
  simp (disch := decide) only [↓ View.readCov_skip, ↓ View.readCov_cons_toLoadRect, ↓ View.readCov_fill]
  frame_out
  refine (pay3 (e := fun _ => 0) (bDh_at H) H.x (fun a c => by pointwise [k0_pay4]) a k).trans ?_
  simp only [zero_add]

theorem out0_B_6_at (hc0 : ¬cond0_0 i) (H : Blk x0 x1 x2 x3 x4 x5 d p x g wu wd) (r : Fin 512) (k : Fin 1024) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 (ix2 r k) = (dx1 d p x g wu wd r k) := by
  frame_out
  exact pay1 (bDh_at H) H.x H.g H.d r k

theorem out0_B_10_at (hc0 : ¬cond0_0 i) (H : Blk x0 x1 x2 x3 x4 x5 d p x g wu wd) (r : Fin 512) (k : Fin 1024) :
    out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 (ix2 r k) = (dx1 d p x g wu wd r k) := by
  frame_out
  exact pay2 (bDh_at H) H.x H.g H.d r k

theorem out0_B_9_at (hc0 : ¬cond0_0 i) (H : Blk x0 x1 x2 x3 x4 x5 d p x g wu wd) (r : Fin 512) (k : Fin 1024) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 (ix2 r k) = (d r k) := by
  frame_out
  exact pay5 H.d r k

theorem out0_B_7_at (hc0 : ¬cond0_0 i) (H : Blk x0 x1 x2 x3 x4 x5 d p x g wu wd) (y : S512x4096.Idx) :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 y = (dp d p wd (y 0).val (y 1).val) := by
  frame_out
  exact canon7 H y

theorem out0_B_8_at (hc0 : ¬cond0_0 i) (H : Blk x0 x1 x2 x3 x4 x5 d p x g wu wd) {e : ℕ → EReal} (He : ∀ (a : Fin 1) (c : Fin 1024), xo8 (ix2 a c) = (e c)) (a : Fin 1) (k : Fin 1024) :
    out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 xo8 (ix2 a k) = (e k + ∑ r : Fin 512, dh d p wu wd r k * nrm x r k) := by
  frame_out
  exact pay3 (bDh_at H) H.x He a k

end Cert.Ffn.Ker

end
-- ==== Proof.Blocks.lean ====
/-
  A SUM OVER ROWS, BLOCK BY BLOCK.
-/
module

public import proofs.«01_k».proof.Proof.Lift
public import Idealize.ShloMosaic.Lib.Pipeline.ValueKit

@[expose] public section

namespace Cert.Blocks

/-- The sum over `k` blocks of `n` rows is the sum over all rows. -/
theorem sum_blocks {N : ℕ} (k n : ℕ) (hN : N = k * n) (F : ℕ → EReal) :
    ∑ q ∈ Finset.range k, ∑ r : Fin n, F (n * q + r.val) = ∑ i : Fin N, F i.val := by
  subst hN
  rw [Fin.sum_univ_eq_sum_range F, ← Finset.sum_range_range_mul_add]
  refine Finset.sum_congr rfl fun q _ => ?_
  rw [Fin.sum_univ_eq_sum_range (fun r => F (n * q + r)), Nat.mul_comm]

end Cert.Blocks
-- ==== Proof.FfnFold.lean ====
/-
  THE SWEEP OVER THE EIGHT GRID POINTS: what point `t` reads are rows `512 t … 512 t + 511` of the arrays, and the gradient of
  the gain holds, after point `t`, the sum over the blocks up to `t`.
-/
module

public import proofs.«01_k».proof.Proof.FfnOut
public import proofs.«01_k».proof.Proof.Blocks

@[expose] public section

set_option maxRecDepth 16384
set_option maxHeartbeats 800000
set_option backward.proofsInPublic true

noncomputable section

namespace Cert.Ffn.Ker

open Cert.Kernel2Ideal Cert.Kernel2Ideal.Gen Cert.Kernel2Ideal.Value Idealize.ShloMosaic Idealize.ShloMosaic.TcCoe Cert.Ffn

/-- The rows from `512 q` on. -/
def sh (q : ℕ) (x : ℕ → ℕ → EReal) : ℕ → ℕ → EReal := fun r c => x (512 * q + r) c

section shift

variable (d p x : ℕ → ℕ → EReal) (g : ℕ → EReal) (wu wd : ℕ → ℕ → EReal)

theorem dp_sh (q r f : ℕ) : dp (sh q d) (sh q p) wd r f = dp d p wd (512 * q + r) f := rfl
theorem nrm_sh (q r k : ℕ) : nrm (sh q x) r k = nrm x (512 * q + r) k := rfl
theorem dh_sh (q r k : ℕ) : dh (sh q d) (sh q p) wu wd r k = dh d p wu wd (512 * q + r) k := rfl
theorem dx1_sh (q r k : ℕ) : dx1 (sh q d) (sh q p) (sh q x) g wu wd r k = dx1 d p x g wu wd (512 * q + r) k := rfl

end shift

variable {d p x : ℕ → ℕ → EReal} {g : ℕ → EReal} {wu wd : ℕ → ℕ → EReal}
variable {m : (ℓ : Loc nD τ sig) → Buf (Elt Ideal) ℓ} {c : Dev nD}
  (HB : ∀ t : Fin cfg0.N, Blk (iblk m c 0 t) (iblk m c 1 t) (iblk m c 2 t) (iblk m c 3 t) (iblk m c 4 t) (iblk m c 5 t)
    (sh t.val d) (sh t.val p) (sh t.val x) g wu wd)
include HB

theorem out6 (t : Fin cfg0.N) (r : Fin 512) (k : Fin 1024) : (outsAt0 m c t.val t.isLt).1 (ix2 r k) = (dx1 d p x g wu wd (512 * t.val + r) k) := by
  rw [← dx1_sh]
  by_cases h0 : t.val % 8 = 0
  · have e : (outsAt0 m c t.val t.isLt).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) := by rw [outsAt0_A m c t h0]
    rw [e]
    exact out0_A_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (HB t) r k
  · have e : (outsAt0 m c t.val t.isLt).1 = out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by rw [outsAt0_B m c t h0]
    rw [e]
    exact out0_B_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h)) (HB t) r k

theorem out9 (t : Fin cfg0.N) (r : Fin 512) (k : Fin 1024) : (outsAt0 m c t.val t.isLt).2.2.2.1 (ix2 r k) = (d (512 * t.val + r) k) := by
  rw [show d (512 * t.val + r) k = sh t.val d r k from rfl]
  by_cases h0 : t.val % 8 = 0
  · have e : (outsAt0 m c t.val t.isLt).2.2.2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) := by rw [outsAt0_A m c t h0]
    rw [e]
    exact out0_A_9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (HB t) r k
  · have e : (outsAt0 m c t.val t.isLt).2.2.2.1 = out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by rw [outsAt0_B m c t h0]
    rw [e]
    exact out0_B_9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h)) (HB t) r k

theorem out10 (t : Fin cfg0.N) (r : Fin 512) (k : Fin 1024) : (outsAt0 m c t.val t.isLt).2.2.2.2 (ix2 r k) = (dx1 d p x g wu wd (512 * t.val + r) k) := by
  rw [← dx1_sh]
  by_cases h0 : t.val % 8 = 0
  · have e : (outsAt0 m c t.val t.isLt).2.2.2.2 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) := by rw [outsAt0_A m c t h0]
    rw [e]
    exact out0_A_10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (HB t) r k
  · have e : (outsAt0 m c t.val t.isLt).2.2.2.2 = out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by rw [outsAt0_B m c t h0]
    rw [e]
    exact out0_B_10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h)) (HB t) r k

theorem out7 (t : Fin cfg0.N) (y : S512x4096.Idx) :
    (outsAt0 m c t.val t.isLt).2.1 y = (dp d p wd (512 * t.val + (y 0).val) (y 1).val) := by
  rw [← dp_sh]
  by_cases h0 : t.val % 8 = 0
  · have e : (outsAt0 m c t.val t.isLt).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) := by rw [outsAt0_A m c t h0]
    rw [e]
    exact out0_A_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (HB t) y
  · have e : (outsAt0 m c t.val t.isLt).2.1 = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by rw [outsAt0_B m c t h0]
    rw [e]
    exact out0_B_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h)) (HB t) y

/-- The gradient of the gain after a first point … -/
theorem out8_A (t : Fin cfg0.N) (h0 : t.val % 8 = 0) (a : Fin 1) (k : Fin 1024) : (outsAt0 m c t.val t.isLt).2.2.1 (ix2 a k)
    = (∑ r : Fin 512, dh d p wu wd (512 * t.val + r) k * nrm x (512 * t.val + r) k) := by
  have e : (outsAt0 m c t.val t.isLt).2.2.1 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) := by rw [outsAt0_A m c t h0]
  rw [e]
  exact out0_A_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) ((hcond0_0 t).mpr h0) (HB t) a k

/-- … and after a later one. -/
theorem out8_B (t : Fin cfg0.N) (h0 : ¬t.val % 8 = 0) {f : ℕ → EReal}
    (hf : ∀ (a : Fin 1) (k : Fin 1024), (outsAt0 m c (t.val - 1) (Nat.lt_of_le_of_lt (Nat.sub_le _ _) t.isLt)).2.2.1 (ix2 a k) = (f k)) (a : Fin 1) (k : Fin 1024) :
    (outsAt0 m c t.val t.isLt).2.2.1 (ix2 a k)
    = (f k + ∑ r : Fin 512, dh d p wu wd (512 * t.val + r) k * nrm x (512 * t.val + r) k) := by
  have e : (outsAt0 m c t.val t.isLt).2.2.1 = out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 := by rw [outsAt0_B m c t h0]
  rw [e]
  exact out0_B_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (fun h => h0 ((hcond0_0 t).mp h)) (HB t) (e := f) hf a k

/-- The gradient of the gain after point `n`. -/
theorem out8 (n : ℕ) (hn : n < cfg0.N) (a : Fin 1) (k : Fin 1024) : (outsAt0 m c n hn).2.2.1 (ix2 a k)
    = (∑ q ∈ Finset.range (n + 1), ∑ r : Fin 512, dh d p wu wd (512 * q + r) k * nrm x (512 * q + r) k) := by
  induction n generalizing a k with
  | zero =>
    rw [Nat.zero_add, Finset.sum_range_one]
    exact out8_A HB ⟨0, hn⟩ rfl a k
  | succ n ih =>
    have hN : cfg0.N = 8 := N_0
    have hB : ¬(⟨n + 1, hn⟩ : Fin cfg0.N).val % 8 = 0 := by show ¬(n + 1) % 8 = 0; omega
    rw [Finset.sum_range_succ _ (n + 1)]
    exact out8_B HB ⟨n + 1, hn⟩ hB (f := fun k => ∑ q ∈ Finset.range (n + 1), ∑ r : Fin 512, dh d p wu wd (512 * q + r) k * nrm x (512 * q + r) k)
      (fun a k => ih (Nat.lt_of_succ_lt hn) a k) a k

/-- After the last point it is the sum over all rows. -/
theorem out8_last (t : Fin cfg0.N) (ht : t.val % 8 = 7) (a : Fin 1) (k : Fin 1024) :
    (outsAt0 m c t.val t.isLt).2.2.1 (ix2 a k) = (dg d p x wu wd k) := by
  have hN : cfg0.N = 8 := N_0
  have h7 : t.val + 1 = 8 := by have := t.isLt; omega
  have e := Blocks.sum_blocks (N := 4096) (t.val + 1) 512 (by rw [h7]) (fun r => dh d p wu wd r k * nrm x r k)
  rw [out8 HB]
  unfold dg
  rw [← e]

end Cert.Ffn.Ker

end
-- ==== Proof.FfnRef.lean ====
/-
  THE REFERENCE'S STAGES for the feed-forward sublayer: the norm, the preactivations, their gradient, and
  the gradients of the row and of the gain. Each stage, read at an index, is a function of `FfnFn`.
-/
module

public import proofs.«01_k».proof.Proof.FfnFn
public import proofs.«01_k».proof.Proof.Axes
public import proofs.«01_k».proof.Proof.Gen.Reference2Ideal.Read

@[expose] public section

set_option maxRecDepth 16384
set_option backward.proofsInPublic true

noncomputable section

namespace Cert.Ffn.Ref

open Cert.Reference2Ideal Cert.Reference2Ideal.Gen Cert.Reference2Ideal.Read Idealize.ShloMosaic Cert.Ffn

variable {x0 x1 x4 : S4096x1024.Idx → EReal} {x2 : S1024.Idx → EReal} {x3 : S1024x4096.Idx → EReal}
  {d x : ℕ → ℕ → EReal} {g : ℕ → EReal} {wu wd : ℕ → ℕ → EReal}
  (hd : ∀ (r : Fin 4096) (c : Fin 1024), x0 (ix2 r c) = (d r c))
  (hx : ∀ (r : Fin 4096) (c : Fin 1024), x1 (ix2 r c) = (x r c))
  (hg : ∀ c : Fin 1024, x2 (ix1 c) = (g c))
  (hu : ∀ (c : Fin 1024) (f : Fin 4096), x3 (ix2 c f) = (wu c f))
  (hw : ∀ (f : Fin 4096) (c : Fin 1024), x4 (ix2 f c) = (wd f c))

section
include hx

theorem v7 (a : Fin 1) (r : Fin 4096) (c : Fin 1) : val_main_v7 (F := Ideal) x1 (ix3 a r c) = (Rms.ms (x r)) := by
  pointwise [val_main_v7, val_main_v6, val_main_cst_1, val_main_v5, val_main_v4, val_main_cst_0, val_main_v3, val_main_v2, val_main_cst, val_main_v1, val_main_v0, hx]
  rfl

theorem v8 (a : Fin 1) (r : Fin 4096) (c : Fin 1) : val_main_v8 (F := Ideal) x1 (ix3 a r c) = (Rms.rs (x r)) := by
  pointwise [val_main_v8, v7 hx]
  rfl

theorem v11 (a : Fin 1) (r : Fin 4096) (c : Fin 1) : val_main_v11 (F := Ideal) x1 (ix3 a r c) = (((-(1 / 2) : ℝ) : EReal) * Ideal.div (Rms.rs (x r)) (Rms.ms (x r))) := by
  pointwise [val_main_v11, val_main_v10, val_main_cst_2, val_main_v9, v8 hx, v7 hx]

theorem v13 (a : Fin 1) (r : Fin 4096) (c : Fin 1024) : val_main_v13 (F := Ideal) x1 (ix3 a r c) = (nrm x r c) := by
  pointwise [val_main_v13, val_main_v12, v8 hx, val_main_v0, hx]
  rfl

include hg hu

theorem v17 (a : Fin 1) (r f : Fin 4096) : val_main_v17 (F := Ideal) x1 x2 x3 (ix3 a r f) = (pre x g wu r f) := by
  pointwise [val_main_v17, val_main_v16, val_main_v15, val_main_v14, v13 hx, hg, hu]
  rfl

theorem v19 (a : Fin 1) (r f : Fin 4096) : val_main_v19 (F := Ideal) x1 x2 x3 (ix3 a r f) = (max (pre x g wu r f) 0) := by
  pointwise [val_main_v19, val_main_call0_v0, val_main_call0_cst, v17 hx hg hu]

include hd hw

theorem v34 (a : Fin 1) (r f : Fin 4096) : val_main_v34 (F := Ideal) x0 x1 x2 x3 x4 (ix3 a r f) = (dp d (pre x g wu) wd r f) := by
  rw [← dp_select]
  pointwise [val_main_v34, val_main_v33, val_main_cst_6, val_main_v32, val_main_v31, val_main_v28, val_main_v25, val_main_v24, val_main_cst_5, v19 hx hg hu,
    val_main_v21, val_main_v20, val_main_cst_3, v17 hx hg hu, hd, hw]
  by_cases h : 0 < pre x g wu r f
  · rw [if_pos h, if_pos h]
    rfl
  · rw [if_neg h, if_neg h]

theorem v37 (a : Fin 1) (r : Fin 4096) (c : Fin 1024) : val_main_v37 (F := Ideal) x0 x1 x2 x3 x4 (ix3 a r c) = (dh d (pre x g wu) wu wd r c) := by
  pointwise [val_main_v37, v34 hd hx hg hu hw, hu]
  rfl

theorem v43 (c : Fin 1024) : val_main_v43 (F := Ideal) x0 x1 x2 x3 x4 (ix1 c) = (dg d (pre x g wu) x wu wd c) := by
  pointwise [val_main_v43, val_main_cst_8, val_main_v40, val_main_v39, val_main_cst_7, val_main_v38, v13 hx, v37 hd hx hg hu hw]
  unfold dg
  simp only [Finset.univ_unique, Finset.sum_singleton]
  refine Finset.sum_congr rfl fun r _ => ?_
  ac_rfl

theorem v42 (a : Fin 1) (r : Fin 4096) (c : Fin 1024) : val_main_v42 (F := Ideal) x0 x1 x2 x3 x4 (ix3 a r c) = (dh d (pre x g wu) wu wd r c * g c) := by
  pointwise [val_main_v42, val_main_v41, val_main_v14, v37 hd hx hg hu hw, hg]

theorem v54 (a : Fin 1) (r : Fin 4096) (c : Fin 1024) : val_main_v54 (F := Ideal) x0 x1 x2 x3 x4 (ix3 a r c) = (Rms.dms (dh d (pre x g wu) wu wd r) g (x r)) := by
  pointwise [val_main_v54, val_main_v53, val_main_v52, val_main_cst_11, val_main_v51, val_main_v50, val_main_cst_10, val_main_v49, val_main_v46, val_main_v45, val_main_cst_9,
    val_main_v44, val_main_v0, v42 hd hx hg hu hw, v11 hx, hx]
  rw [Fin.sum_univ_one, Fin.sum_univ_one]
  rfl

theorem v59 (a : Fin 1) (r : Fin 4096) (c : Fin 1024) : val_main_v59 (F := Ideal) x0 x1 x2 x3 x4 (ix3 a r c) = (dx1 d (pre x g wu) x g wu wd r c) := by
  pointwise [val_main_v59, val_main_v58, val_main_v57, val_main_v56, val_main_v55, val_main_v48, val_main_v47, val_main_v28, val_main_v0, v54 hd hx hg hu hw, v42 hd hx hg hu hw, v8 hx, hx, hd]
  unfold dx1
  rw [Rms.dx_eq]

theorem v60 (r : Fin 4096) (c : Fin 1024) : val_main_v60 (F := Ideal) x0 x1 x2 x3 x4 (ix2 r c) = (dx1 d (pre x g wu) x g wu wd r c) := by
  pointwise [val_main_v60, v59 hd hx hg hu hw]

theorem v65 (r : Fin 4096) (c : Fin 1024) : val_main_v65 (F := Ideal) x0 x1 x2 x3 x4 (ix2 r c) = (dx1 d (pre x g wu) x g wu wd r c) := by
  pointwise [val_main_v65, v60 hd hx hg hu hw]

theorem v62 (r f : Fin 4096) : val_main_v62 (F := Ideal) x0 x1 x2 x3 x4 (ix2 r f) = (dp d (pre x g wu) wd r f) := by
  pointwise [val_main_v62, val_main_v61, v34 hd hx hg hu hw]

theorem v63 (a : Fin 1) (c : Fin 1024) : val_main_v63 (F := Ideal) x0 x1 x2 x3 x4 (ix2 a c) = (dg d (pre x g wu) x wu wd c) := by
  pointwise [val_main_v63, v43 hd hx hg hu hw]

end

include hd in
theorem v64 (r : Fin 4096) (c : Fin 1024) : val_main_v64 (F := Ideal) x0 (ix2 r c) = (d r c) := by
  pointwise [val_main_v64, hd]

end Cert.Ffn.Ref

end
-- ==== Proof.FfnArgs.lean ====
/-
  WHAT A GRID POINT READS: point `t` reads rows `512 t …` of the gradient, of
  the preactivations the host computes and of the rows, the gain, and the two weights.
-/
module

public import proofs.«01_k».proof.Proof.FfnFold
public import proofs.«01_k».proof.Proof.FfnRef
public import Idealize.ShloMosaic.Lib.StableHlo.ReadAt

@[expose] public section

set_option maxRecDepth 16384
set_option maxHeartbeats 800000
set_option backward.proofsInPublic true

noncomputable section

namespace Cert.Ffn.Ker

open Cert.Kernel2Ideal Cert.Kernel2Ideal.Gen Cert.Kernel2Ideal.Value Idealize.ShloMosaic Idealize.ShloMosaic.TcCoe Cert.Ffn

/-- The block index of each input window at point `t`. -/
theorem idx_in : ∀ t : Fin cfg0.N, win0_0.index t = ![t.val, 0] ∧ win0_1.index t = ![t.val, 0] ∧ win0_2.index t = ![t.val, 0]
    ∧ win0_3.index t = ![0, 0] ∧ win0_4.index t = ![0, 0, 0, 0] ∧ win0_5.index t = ![0, 0, 0] :=
  (by decide +kernel : ∀ t : Fin grid0.N, _)

/-- The preactivation from a row, the gain and a column of the weight. -/
theorem pre_host {x : ℕ → ℕ → EReal} {g : ℕ → EReal} {wu : ℕ → ℕ → EReal} (r f : ℕ) (X G W : Fin 1024 → EReal) (hX : ∀ k, X k = (x r k))
    (hG : ∀ k, G k = (g k)) (hW : ∀ k, W k = (wu k f)) :
    ∑ k : Fin 1024, X k * Ideal.rsqrt (Ideal.div (∑ k : Fin 1024, X k * X k) ((1024 : ℝ) : EReal) + ((8796093 / 8796093022208 : ℝ) : EReal)) * G k * W k
      = (pre x g wu r f) := by
  have e : Ideal.rsqrt (Ideal.div (∑ k : Fin 1024, X k * X k) ((1024 : ℝ) : EReal) + ((8796093 / 8796093022208 : ℝ) : EReal)) = (Rms.rs (x r)) := by
    pointwise [hX]
    rfl
  rw [e]
  pointwise [hX, hG, hW]
  rfl

variable (m : (ℓ : Loc nD τ sig) → Buf (Elt Ideal) ℓ) (c : Dev nD)

theorem blk0 (t : Fin cfg0.N) (r : Fin 512) (k : Fin 1024) :
    iblk m c 0 t (ix2 r k) = m ((c : Thread nD τ).loc main_arg0) (ix2 ⟨512 * t.val + r.val, by have := lt_of_lt_of_eq t.isLt N_0; omega⟩ k) := by
  blk_ext [iblk, V, (idx_in t).1]

theorem blk2 (t : Fin cfg0.N) (r : Fin 512) (k : Fin 1024) :
    iblk m c 2 t (ix2 r k) = m ((c : Thread nD τ).loc main_arg1) (ix2 ⟨512 * t.val + r.val, by have := lt_of_lt_of_eq t.isLt N_0; omega⟩ k) := by
  blk_ext [iblk, V, (idx_in t).2.2.1]

theorem blk3 (t : Fin cfg0.N) (a : Fin 1) (k : Fin 1024) :
    iblk m c 3 t (ix2 a k) = m ((c : Thread nD τ).loc main_arg2) (ix1 k) := by
  have e : ((win0_3.blk t).view.emb (ix2 a k) : S1x1024.Idx) = ix2 a k := by blk_ext [(idx_in t).2.2.2.1]
  show V m c main_v23 ((win0_3.blk t).view.emb (ix2 a k)) = _
  rw [e]
  unfold V
  simp only [hostOps0]
  after_reads_at

theorem blk5 (t : Fin cfg0.N) (a : Fin 1) (f : Fin 4096) (k : Fin 1024) :
    iblk m c 5 t (ix3 a f k) = m ((c : Thread nD τ).loc main_arg4) (ix2 f k) := by
  have e : ((win0_5.blk t).view.emb (ix3 a f k) : S1x4096x1024.Idx) = ix3 a f k := by blk_ext [(idx_in t).2.2.2.2.2]
  show V m c main_v22 ((win0_5.blk t).view.emb (ix3 a f k)) = _
  rw [e]
  unfold V
  simp only [hostOps0]
  after_reads_at

theorem blk4 (t : Fin cfg0.N) (a : Fin 1) (q : Fin 4) (k f : Fin 1024) :
    iblk m c 4 t (ix4 a q k f) = m ((c : Thread nD τ).loc main_arg3) (ix2 k ⟨1024 * q.val + f.val, by omega⟩) := by
  have e : ((win0_4.blk t).view.emb (ix4 a q k f) : S1x4x1024x1024.Idx) = ix4 a q k f := by blk_ext [(idx_in t).2.2.2.2.1]
  show V m c main_v20 ((win0_4.blk t).view.emb (ix4 a q k f)) = _
  rw [e]
  unfold V
  simp only [hostOps0]
  after_reads_at
  exact congrArg (fun z => m ((c : Thread nD τ).loc main_arg3) (ix2 k z)) (Fin.ext (by show q.val * 1024 + f.val = 1024 * q.val + f.val; omega))

variable {m c} {d x : ℕ → ℕ → EReal} {g : ℕ → EReal} {wu wd : ℕ → ℕ → EReal}
  (hd : ∀ (r : Fin 4096) (k : Fin 1024), m ((c : Thread nD τ).loc main_arg0) (ix2 r k) = (d r k))
  (hx : ∀ (r : Fin 4096) (k : Fin 1024), m ((c : Thread nD τ).loc main_arg1) (ix2 r k) = (x r k))
  (hg : ∀ k : Fin 1024, m ((c : Thread nD τ).loc main_arg2) (ix1 k) = (g k))
  (hu : ∀ (k : Fin 1024) (f : Fin 4096), m ((c : Thread nD τ).loc main_arg3) (ix2 k f) = (wu k f))
  (hw : ∀ (f : Fin 4096) (k : Fin 1024), m ((c : Thread nD τ).loc main_arg4) (ix2 f k) = (wd f k))
include hx hg hu

/-- The preactivations the host computes are the reference's. -/
theorem blk1 (t : Fin cfg0.N) (r : Fin 512) (f : Fin 4096) :
    iblk m c 1 t (ix2 r f) = (pre x g wu (512 * t.val + r) f) := by
  have hN : cfg0.N = 8 := N_0
  have e : ((win0_1.blk t).view.emb (ix2 r f) : S4096x4096.Idx) = ix2 ⟨512 * t.val + r.val, by have := t.isLt; omega⟩ f := by blk_ext [(idx_in t).2.1]
  show V m c main_v16 ((win0_1.blk t).view.emb (ix2 r f)) = _
  rw [e]
  unfold V
  simp only [hostOps0]
  after_reads_at
  exact pre_host (512 * t.val + r.val) f.val (fun k => m ((c : Thread nD τ).loc main_arg1) (ix2 ⟨512 * t.val + r.val, by have := t.isLt; omega⟩ k))
    (fun k => m ((c : Thread nD τ).loc main_arg2) (ix1 k)) (fun k => m ((c : Thread nD τ).loc main_arg3) (ix2 k f))
    (fun k => hx _ k) hg (fun k => hu k f)

include hd hw

/-- What point `t` reads. -/
theorem blk (t : Fin cfg0.N) : Blk (iblk m c 0 t) (iblk m c 1 t) (iblk m c 2 t) (iblk m c 3 t) (iblk m c 4 t) (iblk m c 5 t)
    (sh t.val d) (sh t.val (pre x g wu)) (sh t.val x) g wu wd where
  d r k := (blk0 m c t r k).trans (hd _ _)
  p r f := blk1 hx hg hu t r f
  x r k := (blk2 m c t r k).trans (hx _ _)
  g a k := (blk3 m c t a k).trans (hg k)
  wu a q k f := (blk4 m c t a q k f).trans (hu _ _)
  wd a f k := (blk5 m c t a f k).trans (hw f k)

end Cert.Ffn.Ker

end
-- ==== Proof.FfnVal.lean ====
/-
  THE FIVE RESULTS of the kernel's run are the reference's.
-/
module

public import proofs.«01_k».proof.Proof.FfnArgs

@[expose] public section

set_option maxRecDepth 16384
set_option maxHeartbeats 800000
set_option backward.proofsInPublic true

noncomputable section

namespace Cert.Ffn.Ker

open Cert.Kernel2Ideal Cert.Kernel2Ideal.Gen Cert.Kernel2Ideal.Value Idealize.ShloMosaic Idealize.ShloMosaic.TcCoe Cert.Ffn

/-- The block index of each output window at point `t`. -/
theorem idx_out : ∀ t : Fin cfg0.N, win0_6.index t = ![t.val, 0] ∧ win0_7.index t = ![t.val, 0] ∧ win0_8.index t = ![0, 0]
    ∧ win0_9.index t = ![t.val, 0] ∧ win0_10.index t = ![t.val, 0] :=
  (by decide +kernel : ∀ t : Fin grid0.N, _)

variable {m : (ℓ : Loc nD τ sig) → Buf (Elt Ideal) ℓ} {c : Dev nD} {d x : ℕ → ℕ → EReal} {g : ℕ → EReal} {wu wd : ℕ → ℕ → EReal}
  (hd : ∀ (r : Fin 4096) (k : Fin 1024), m ((c : Thread nD τ).loc main_arg0) (ix2 r k) = (d r k))
  (hx : ∀ (r : Fin 4096) (k : Fin 1024), m ((c : Thread nD τ).loc main_arg1) (ix2 r k) = (x r k))
  (hg : ∀ k : Fin 1024, m ((c : Thread nD τ).loc main_arg2) (ix1 k) = (g k))
  (hu : ∀ (k : Fin 1024) (f : Fin 4096), m ((c : Thread nD τ).loc main_arg3) (ix2 k f) = (wu k f))
  (hw : ∀ (f : Fin 4096) (k : Fin 1024), m ((c : Thread nD τ).loc main_arg4) (ix2 f k) = (wd f k))
include hd hx hg hu hw

theorem r6 : (dats m 0 c).arrAt 6 cfg0.N = Cert.Reference2Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hN : cfg0.N = 8 := N_0
  refine (dats m 0 c).arrAt_eq_of_cover 6 _ (fun t hf => ?_) (fun i => ?_)
  · rw [flushed6]
    funext y
    obtain ⟨r, k, rfl⟩ : ∃ r k, y = ix2 (n0 := 512) (n1 := 1024) r k := ⟨y 0, y 1, (ix2_eta y).symm⟩
    have e : ((win0_6.blk t).view.emb (ix2 r k) : S4096x1024.Idx) = ix2 ⟨512 * t.val + r.val, by have := lt_of_lt_of_eq t.isLt hN; omega⟩ k := by
      blk_ext [(idx_out t).1]
    show (outsAt0 m c t.val t.isLt).1 (ix2 r k) = Cert.Reference2Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_6.blk t).view.emb (ix2 r k))
    rw [e]
    exact (out6 (blk hd hx hg hu hw) t r k).trans (Ref.v60 hd hx hg hu hw ⟨512 * t.val + r.val, by have := lt_of_lt_of_eq t.isLt hN; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_6 _, ?_⟩
    have e : ((win0_6.blk t).view.emb (ix2 ⟨r.val % 512, by omega⟩ k) : S4096x1024.Idx) = ix2 r k := by
      blk_ext [(idx_out t).1, ht]
    rw [← e]
    exact View.emb_mem_set _ _

theorem r7 : (dats m 0 c).arrAt 7 cfg0.N = Cert.Reference2Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hN : cfg0.N = 8 := N_0
  refine (dats m 0 c).arrAt_eq_of_cover 7 _ (fun t hf => ?_) (fun i => ?_)
  · rw [flushed7]
    funext y
    obtain ⟨r, k, rfl⟩ : ∃ r k, y = ix2 (n0 := 512) (n1 := 4096) r k := ⟨y 0, y 1, (ix2_eta y).symm⟩
    have e : ((win0_7.blk t).view.emb (ix2 r k) : S4096x4096.Idx) = ix2 ⟨512 * t.val + r.val, by have := lt_of_lt_of_eq t.isLt hN; omega⟩ k := by
      blk_ext [(idx_out t).2.1]
    show (outsAt0 m c t.val t.isLt).2.1 (ix2 r k) = Cert.Reference2Ideal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_7.blk t).view.emb (ix2 r k))
    rw [e]
    exact (out7 (blk hd hx hg hu hw) t (ix2 r k)).trans (Ref.v62 hd hx hg hu hw ⟨512 * t.val + r.val, by have := lt_of_lt_of_eq t.isLt hN; omega⟩ k).symm
  · obtain ⟨r, k, rfl⟩ : ∃ r k, i = ix2 (n0 := 4096) (n1 := 4096) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_7 _, ?_⟩
    have e : ((win0_7.blk t).view.emb (ix2 ⟨r.val % 512, by omega⟩ k) : S4096x4096.Idx) = ix2 r k := by
      blk_ext [(idx_out t).2.1, ht]
    rw [← e]
    exact View.emb_mem_set _ _

theorem r9 : (dats m 0 c).arrAt 9 cfg0.N = Cert.Reference2Ideal.Read.val_main_v64 (F := Ideal) (m ((c : Thread nD τ).loc main_arg0)) := by
  have hN : cfg0.N = 8 := N_0
  refine (dats m 0 c).arrAt_eq_of_cover 9 _ (fun t hf => ?_) (fun i => ?_)
  · rw [flushed9]
    funext y
    obtain ⟨r, k, rfl⟩ : ∃ r k, y = ix2 (n0 := 512) (n1 := 1024) r k := ⟨y 0, y 1, (ix2_eta y).symm⟩
    have e : ((win0_9.blk t).view.emb (ix2 r k) : S4096x1024.Idx) = ix2 ⟨512 * t.val + r.val, by have := lt_of_lt_of_eq t.isLt hN; omega⟩ k := by
      blk_ext [(idx_out t).2.2.2.1]
    show (outsAt0 m c t.val t.isLt).2.2.2.1 (ix2 r k) = Cert.Reference2Ideal.Read.val_main_v64 (F := Ideal) (m ((c : Thread nD τ).loc main_arg0)) ((win0_9.blk t).view.emb (ix2 r k))
    rw [e]
    exact (out9 (blk hd hx hg hu hw) t r k).trans (Ref.v64 hd ⟨512 * t.val + r.val, by have := lt_of_lt_of_eq t.isLt hN; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_9 _, ?_⟩
    have e : ((win0_9.blk t).view.emb (ix2 ⟨r.val % 512, by omega⟩ k) : S4096x1024.Idx) = ix2 r k := by
      blk_ext [(idx_out t).2.2.2.1, ht]
    rw [← e]
    exact View.emb_mem_set _ _

theorem r10 : (dats m 0 c).arrAt 10 cfg0.N = Cert.Reference2Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hN : cfg0.N = 8 := N_0
  refine (dats m 0 c).arrAt_eq_of_cover 10 _ (fun t hf => ?_) (fun i => ?_)
  · rw [flushed10]
    funext y
    obtain ⟨r, k, rfl⟩ : ∃ r k, y = ix2 (n0 := 512) (n1 := 1024) r k := ⟨y 0, y 1, (ix2_eta y).symm⟩
    have e : ((win0_10.blk t).view.emb (ix2 r k) : S4096x1024.Idx) = ix2 ⟨512 * t.val + r.val, by have := lt_of_lt_of_eq t.isLt hN; omega⟩ k := by
      blk_ext [(idx_out t).2.2.2.2]
    show (outsAt0 m c t.val t.isLt).2.2.2.2 (ix2 r k) = Cert.Reference2Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_10.blk t).view.emb (ix2 r k))
    rw [e]
    exact (out10 (blk hd hx hg hu hw) t r k).trans (Ref.v65 hd hx hg hu hw ⟨512 * t.val + r.val, by have := lt_of_lt_of_eq t.isLt hN; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_10 _, ?_⟩
    have e : ((win0_10.blk t).view.emb (ix2 ⟨r.val % 512, by omega⟩ k) : S4096x1024.Idx) = ix2 r k := by
      blk_ext [(idx_out t).2.2.2.2, ht]
    rw [← e]
    exact View.emb_mem_set _ _

theorem r8 : (dats m 0 c).arrAt 8 cfg0.N = Cert.Reference2Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hN : cfg0.N = 8 := N_0
  refine (dats m 0 c).arrAt_eq_of_cover 8 _ (fun t hf => ?_) (fun i => ?_)
  · rw [flushed8]
    funext y
    obtain ⟨a, k, rfl⟩ : ∃ a k, y = ix2 (n0 := 1) (n1 := 1024) a k := ⟨y 0, y 1, (ix2_eta y).symm⟩
    have e : ((win0_8.blk t).view.emb (ix2 a k) : S1x1024.Idx) = ix2 a k := by blk_ext [(idx_out t).2.2.1]
    show (outsAt0 m c t.val t.isLt).2.2.1 (ix2 a k) = Cert.Reference2Ideal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) ((win0_8.blk t).view.emb (ix2 a k))
    rw [e]
    exact (out8_last (blk hd hx hg hu hw) t ((flush0_8 t).1 hf) a k).trans (Ref.v63 hd hx hg hu hw a k).symm
  · obtain ⟨a, k, rfl⟩ : ∃ a k, i = ix2 (n0 := 1) (n1 := 1024) a k := ⟨i 0, i 1, (ix2_eta i).symm⟩
    obtain ⟨t, ht⟩ : ∃ t : Fin cfg0.N, t.val = 7 := ⟨⟨7, lt_of_lt_of_eq (by omega) hN.symm⟩, rfl⟩
    refine ⟨t, (flush0_8 _).2 (by rw [ht]), ?_⟩
    have e : ((win0_8.blk t).view.emb (ix2 a k) : S1x1024.Idx) = ix2 a k := by blk_ext [(idx_out t).2.2.1]
    rw [← e]
    exact View.emb_mem_set _ _

end Cert.Ffn.Ker

end
-- ==== Proof.Arr.lean ====
/-
  AN ARRAY AS A FUNCTION OF NATURAL NUMBERS: the array's entries, and zero outside the array.
-/
module

public import proofs.«01_k».proof.Proof.Lift2

@[expose] public section

set_option backward.proofsInPublic true

noncomputable section

namespace Cert.Arr

/-- An array of two indices, extended by zero. -/
def arr2 {n k : ℕ} (x : Fin n → Fin k → EReal) (r c : ℕ) : EReal := if h : r < n ∧ c < k then x ⟨r, h.1⟩ ⟨c, h.2⟩ else 0

theorem arr2_apply {n k : ℕ} (x : Fin n → Fin k → EReal) (r : Fin n) (c : Fin k) : x r c = arr2 x r c := by
  unfold arr2
  rw [dif_pos ⟨r.2, c.2⟩]

/-- An array of one index, extended by zero. -/
def arr1 {n : ℕ} (x : Fin n → EReal) (c : ℕ) : EReal := if h : c < n then x ⟨c, h⟩ else 0

theorem arr1_apply {n : ℕ} (x : Fin n → EReal) (c : Fin n) : x c = arr1 x c := by
  unfold arr1
  rw [dif_pos c.2]

end Cert.Arr

end
-- ==== Proof.FfnAlg.lean ====
/-
  THE ALGEBRAIC CLAIM of the feed-forward layer's backward pass: its run's five results are the reference's.
-/
module

public import proofs.«01_k».proof.Defs
public import proofs.«01_k».proof.Proof.FfnVal
public import proofs.«01_k».proof.Proof.Arr
public import proofs.«01_k».proof.Proof.Gen.Reference2Ideal.Run
public import Idealize.ShloMosaic.Lib.Quiescent
public import Idealize.ShloMosaic.Adequacy
public import Idealize.ShloMosaic.Init

@[expose] public section

set_option backward.proofsInPublic true
set_option maxRecDepth 16384

noncomputable section

namespace Cert.Ffn

open Idealize.ShloMosaic Idealize.ShloMosaic.TcCoe Idealize.SL.Sem Cert.Arr Cert.Kernel2Ideal Cert.Ffn.Ker

/-- The kernel's five results are the reference's. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨_, _, _, _, _, Cert.Kernel2Ideal.Value.run_blocks m g, ?_⟩
  refine (θ_run _ _ _).mono (fun r h (c : Dev nD) => ?_) (Cert.Reference2Ideal.Value.run m' g')
  have q0 := arr2_apply fun (r : Fin 4096) (k : Fin 1024) => m ((c : Thread nD τ).loc main_arg0) (ix2 r k)
  have q1 := arr2_apply fun (r : Fin 4096) (k : Fin 1024) => m ((c : Thread nD τ).loc main_arg1) (ix2 r k)
  have q2 := arr1_apply fun k : Fin 1024 => m ((c : Thread nD τ).loc main_arg2) (ix1 k)
  have q3 := arr2_apply fun (r : Fin 1024) (k : Fin 4096) => m ((c : Thread nD τ).loc main_arg3) (ix2 r k)
  have q4 := arr2_apply fun (r : Fin 4096) (k : Fin 1024) => m ((c : Thread nD τ).loc main_arg4) (ix2 r k)
  obtain ⟨a0, a1, a2, a3, a4⟩ := hagree c
  obtain ⟨h0, h1, h2, h3, h4, hk⟩ := h c
  refine ⟨h0.trans ?_, h1.trans ?_, h2.trans ?_, h3.trans ?_, h4.trans ?_, hk⟩
  · refine (Cert.Reference2Ideal.Read.val_main_v60_eq _ _).trans ?_
    rw [r6 q0 q1 q2 q3 q4, ← a0, ← a1, ← a2, ← a3, ← a4]
  · refine (Cert.Reference2Ideal.Read.val_main_v62_eq _ _ _ _ _).trans ?_
    rw [r7 q0 q1 q2 q3 q4, ← a0, ← a1, ← a2, ← a3, ← a4]
  · refine (Cert.Reference2Ideal.Read.val_main_v63_eq _ _ _ _ _).trans ?_
    rw [r8 q0 q1 q2 q3 q4, ← a0, ← a1, ← a2, ← a3, ← a4]
  · refine (Cert.Reference2Ideal.Read.val_main_v64_eq _).trans ?_
    rw [r9 q0 q1 q2 q3 q4, ← a0]
  · refine (Cert.Reference2Ideal.Read.val_main_v65_eq _ _).trans ?_
    rw [r10 q0 q1 q2 q3 q4, ← a0, ← a1, ← a2, ← a3, ← a4]

/-- The reference runs, keeps its arguments and leaves every counter at zero: it has none. -/
theorem reference_frame : Cert.quiescent_Reference2Ideal (hReference2Ideal := Cert.Reference2Ideal.Gen.facts) := fun m ρ _ =>
  (θ_run _ _ _).mono (fun r h => And.intro (fun c => (h c).2.2.2.2.2) (sem_eq_zero_of_no_sems rfl r.2)) (Cert.Reference2Ideal.Value.run m ρ)

end Cert.Ffn

end
-- ==== Proof.InFn.lean ====
/-
  THE GRADIENT OF THE INPUT PROJECTION, over the extended reals: the three parts of the projection's gradient side by side, the gradient
  of the normed row, of the row, and of the gain.
-/
module

public import proofs.«01_k».proof.Proof.FfnFn

@[expose] public section

set_option maxRecDepth 16384
set_option maxHeartbeats 800000
set_option backward.proofsInPublic true

noncomputable section

namespace Cert.InProj

open Idealize.ShloMosaic Cert.Ffn

/-- The three parts side by side: columns 0 to 2559, 2560 to 4607, 4608 to 6655. -/
def cat (a u t : ℕ → ℕ → EReal) (r f : ℕ) : EReal := if f < 2560 then a r f else if f - 2560 < 2048 then u r (f - 2560) else t r (f - 2560 - 2048)

section
variable (q d x : ℕ → ℕ → EReal) (g : ℕ → EReal) (w : ℕ → ℕ → EReal)

/-- The gradient of the normed, scaled row. -/
def dh (r c : ℕ) : EReal := ∑ f : Fin 6656, q r f * w c f

/-- The gradient of the row. -/
def dx (r c : ℕ) : EReal := d r c + Rms.dx (dh q w r) g (x r) c

/-- The gradient of the gain. -/
def dg (c : ℕ) : EReal := ∑ r : Fin 4096, dh q w r c * nrm x r c

end

/-- The sum over 6656 columns by quarters. -/
theorem sum_quarters (F : ℕ → EReal) : ∑ f : Fin 6656, F f
    = (∑ k : Fin 1664, F (0 + k)) + (∑ k : Fin 1664, F (1664 + k)) + (∑ k : Fin 1664, F (3328 + k)) + ∑ k : Fin 1664, F (4992 + k) := by
  have h : ∀ o n : ℕ, ∑ k : Fin n, F (o + k) = ∑ k ∈ Finset.range n, F (o + k) := fun o n => Fin.sum_univ_eq_sum_range (fun k => F (o + k)) n
  simp only [h]
  rw [Fin.sum_univ_eq_sum_range F, show (6656 : ℕ) = 1664 + 1664 + 1664 + 1664 from rfl, Finset.sum_range_add, Finset.sum_range_add, Finset.sum_range_add]
  simp only [Nat.zero_add]

end Cert.InProj

end
-- ==== Proof.InKer.lean ====
/-
  THE KERNEL'S VALUES of one block of 512 rows of the input projection's gradient. Each payload, read at an
  index, is a function of `InFn`; the 6656 columns are taken by quarters.
-/
module

public import proofs.«01_k».proof.Proof.InFn
public import proofs.«01_k».proof.Proof.Gen.Kernel3Ideal.Skeleton

@[expose] public section

set_option maxRecDepth 16384
set_option maxHeartbeats 800000
set_option backward.proofsInPublic true

noncomputable section

namespace Cert.InProj.Ker

open Cert.Kernel3Ideal Cert.Kernel3Ideal.Gen Idealize.ShloMosaic Cert.InProj Cert.Ffn

/-- A block of rows is a function of row and column. -/
abbrev Rows (x : S512x1024.Idx → EReal) (f : ℕ → ℕ → EReal) : Prop := ∀ (r : Fin 512) (c : Fin 1024), x (ix2 r c) = (f r c)
/-- The same of the projection's columns, a quarter of them, and its parts. -/
abbrev RowsP (x : S512x6656.Idx → EReal) (f : ℕ → ℕ → EReal) : Prop := ∀ (r : Fin 512) (c : Fin 6656), x (ix2 r c) = (f r c)
abbrev RowsQ (x : S512x1664.Idx → EReal) (f : ℕ → ℕ → EReal) : Prop := ∀ (r : Fin 512) (c : Fin 1664), x (ix2 r c) = (f r c)
abbrev RowsA (x : S512x2560.Idx → EReal) (f : ℕ → ℕ → EReal) : Prop := ∀ (r : Fin 512) (c : Fin 2560), x (ix2 r c) = (f r c)
abbrev RowsU (x : S512x2048.Idx → EReal) (f : ℕ → ℕ → EReal) : Prop := ∀ (r : Fin 512) (c : Fin 2048), x (ix2 r c) = (f r c)
/-- A quarter of the weights, from column `o` on. -/
abbrev WQ (o : ℕ) (v : S1x1x1024x1664.Idx → EReal) (w : ℕ → ℕ → EReal) : Prop :=
  ∀ (a b : Fin 1) (c : Fin 1024) (f : Fin 1664), v (ix4 a b c f) = (w c (o + f))

section
variable {a u t x d : ℕ → ℕ → EReal} {g : ℕ → EReal} {w : ℕ → ℕ → EReal}
variable {v3 : S512x2560.Idx → EReal} {v4 v5 : S512x2048.Idx → EReal} (Ha : RowsA v3 a) (Hu : RowsU v4 u) (Ht : RowsU v5 t)
include Ha Hu Ht

theorem pay7 : RowsP (k0_pay7 (F := Ideal) v3 v4 v5) (cat a u t) := fun r f => by
  pointwise [k0_pay7, Ha, Hu, Ht]
  unfold cat
  split_ifs <;> rfl

theorem pay9 : RowsQ (k0_pay9 (F := Ideal) v3 v4 v5) fun r f => cat a u t r (4992 + f) := fun r f => by
  pointwise [k0_pay9, pay7 Ha Hu Ht]

/-- The sum of the first three quarters' products. -/
theorem pay8 {v10 v15 v20 : S1x1x1024x1664.Idx → EReal} (h0 : WQ 0 v10 w) (h1 : WQ 1664 v15 w) (h2 : WQ 3328 v20 w) :
    Rows (k0_pay8 (F := Ideal) v3 v4 v5 v10 v15 v20) fun r c => (∑ k : Fin 1664, cat a u t r (0 + k) * w c (0 + k))
      + (∑ k : Fin 1664, cat a u t r (1664 + k) * w c (1664 + k)) + ∑ k : Fin 1664, cat a u t r (3328 + k) * w c (3328 + k) := fun r c => by
  pointwise [k0_pay8, pay7 Ha Hu Ht, h0, h1, h2]

/-- The gradient of the normed, scaled row. -/
theorem pay1 {v10 v15 v20 v25 : S1x1x1024x1664.Idx → EReal} (h0 : WQ 0 v10 w) (h1 : WQ 1664 v15 w) (h2 : WQ 3328 v20 w) (h3 : WQ 4992 v25 w) :
    Rows (k0_pay1 (F := Ideal) (k0_pay8 v3 v4 v5 v10 v15 v20) (k0_pay9 v3 v4 v5) (k0_pay10 v25)) (dh (cat a u t) w) := fun r c => by
  pointwise [k0_pay1, k0_pay10, pay8 Ha Hu Ht h0 h1 h2, pay9 Ha Hu Ht, h3]
  unfold dh
  rw [sum_quarters (fun f => cat a u t r f * w c f)]
  simp only [Nat.zero_add]

end

section
variable {x d : ℕ → ℕ → EReal} {g : ℕ → EReal}

theorem pay2 {v29 : S512x1024.Idx → EReal} (H : Rows v29 x) (r : Fin 512) (b : Fin 1) :
    k0_pay2 (F := Ideal) v29 (ix2 r b) = (Rms.rs (x r)) := by
  pointwise [k0_pay2, H]
  rfl

theorem pay3 {v29 : S512x1024.Idx → EReal} (H : Rows v29 x) : Rows (k0_pay3 (F := Ideal) v29) (nrm x) := fun r c => by
  pointwise [k0_pay3, pay2 H, H]
  rfl

section tail
variable {v23 v29 v55 : S512x1024.Idx → EReal} {v24 : S512x1664.Idx → EReal} {v26 : S1024x1664.Idx → EReal} {v30 : S1x1024.Idx → EReal} {h : ℕ → ℕ → EReal}
  (Hh : Rows (k0_pay1 (F := Ideal) v23 v24 v26) h) (Hx : Rows v29 x)
include Hh Hx

theorem pay5 {v58 : S1x1024.Idx → EReal} {e : ℕ → EReal} (He : ∀ (b : Fin 1) (c : Fin 1024), v58 (ix2 b c) = (e c)) (b : Fin 1) (c : Fin 1024) :
    k0_pay5 (F := Ideal) v23 v24 v26 v29 v58 (ix2 b c) = (e c + ∑ r : Fin 512, h r c * nrm x r c) := by
  pointwise [k0_pay5, Hh, pay3 Hx, He]

theorem pay4 (Hg : ∀ (b : Fin 1) (c : Fin 1024), v30 (ix2 b c) = (g c)) (Hd : Rows v55 d) :
    Rows (k0_pay4 (F := Ideal) v23 v24 v26 v29 v30 v55) fun r c => d r c + Rms.dx (h r) g (x r) c := fun r c => by
  pointwise [k0_pay4, Hh, pay2 Hx, pay3 Hx, Hg, Hd]
  rfl

end tail

end

end Cert.InProj.Ker

end
-- ==== Proof.InBlk.lean ====
/-
  THE BLOCKS A GRID POINT READS, and the quarters of the weights that the body loads.
-/
module

public import proofs.«01_k».proof.Proof.InKer
public import proofs.«01_k».proof.Proof.Gen.Kernel3Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.InProj.Ker

open Cert.Kernel3Ideal Cert.Kernel3Ideal.Gen Idealize.ShloMosaic Cert.InProj Cert.Ffn

/-- The blocks a grid point reads, as functions of two indices. -/
structure Blk (x0 : S512x2560.Idx → EReal) (x1 x2 : S512x2048.Idx → EReal) (x3 x4 : S512x1024.Idx → EReal) (x5 : S1x1024.Idx → EReal)
    (x6 : S1x4x1024x1664.Idx → EReal) (a u t d x : ℕ → ℕ → EReal) (g : ℕ → EReal) (w : ℕ → ℕ → EReal) : Prop where
  a : RowsA x0 a
  u : RowsU x1 u
  t : RowsU x2 t
  d : Rows x3 d
  x : Rows x4 x
  g : ∀ (b : Fin 1) (c : Fin 1024), x5 (ix2 b c) = (g c)
  w : ∀ (b : Fin 1) (q : Fin 4) (c : Fin 1024) (f : Fin 1664), x6 (ix4 b q c f) = (w c (1664 * q + f))

variable (x0 : Vec Ideal S512x2560 .bf16) (x1 : Vec Ideal S512x2048 .bf16) (x2 : Vec Ideal S512x2048 .bf16) (x3 : Vec Ideal S512x1024 .f32)
  (x4 : Vec Ideal S512x1024 .f32) (x5 : Vec Ideal S1x1024 .f32) (x6 : Vec Ideal S1x4x1024x1664 .bf16)

abbrev bW0 : FVec Ideal S1x1x1024x1664 .bf16 := View.ld x6 (Rect.unit ![0, 0, 0, 0] ![1, 1, 1024, 1664] inb_S1x4x1024x1664_S1x1x1024x1664_0_0_0_0)
abbrev bW1 : FVec Ideal S1x1x1024x1664 .bf16 := View.ld x6 (Rect.unit ![0, 1, 0, 0] ![1, 1, 1024, 1664] inb_S1x4x1024x1664_S1x1x1024x1664_0_1_0_0)
abbrev bW2 : FVec Ideal S1x1x1024x1664 .bf16 := View.ld x6 (Rect.unit ![0, 2, 0, 0] ![1, 1, 1024, 1664] inb_S1x4x1024x1664_S1x1x1024x1664_0_2_0_0)
abbrev bW3 : FVec Ideal S1x1x1024x1664 .bf16 := View.ld x6 (Rect.unit ![0, 3, 0, 0] ![1, 1, 1024, 1664] inb_S1x4x1024x1664_S1x1x1024x1664_0_3_0_0)

variable {x0 x1 x2 x3 x4 x5 x6}
variable {a u t d x : ℕ → ℕ → EReal} {g : ℕ → EReal} {w : ℕ → ℕ → EReal} (H : Blk x0 x1 x2 x3 x4 x5 x6 a u t d x g w)

include H

theorem bW0_at : WQ 0 (bW0 x6) w := fun b e c f => by
  refine (View.ld_unit_apply_of x6 _ _ _ _ (ix4 b 0 c f) ?_).trans (H.w b 0 c f)
  have hb : e.val = 0 := by omega
  intro i; fin_cases i <;> simp [ix4, hb]

theorem bW1_at : WQ 1664 (bW1 x6) w := fun b e c f => by
  refine (View.ld_unit_apply_of x6 _ _ _ _ (ix4 b 1 c f) ?_).trans (H.w b 1 c f)
  have hb : e.val = 0 := by omega
  intro i; fin_cases i <;> simp [ix4, hb]

theorem bW2_at : WQ 3328 (bW2 x6) w := fun b e c f => by
  refine (View.ld_unit_apply_of x6 _ _ _ _ (ix4 b 2 c f) ?_).trans (H.w b 2 c f)
  have hb : e.val = 0 := by omega
  intro i; fin_cases i <;> simp [ix4, hb]

theorem bW3_at : WQ 4992 (bW3 x6) w := fun b e c f => by
  refine (View.ld_unit_apply_of x6 _ _ _ _ (ix4 b 3 c f) ?_).trans (H.w b 3 c f)
  have hb : e.val = 0 := by omega
  intro i; fin_cases i <;> simp [ix4, hb]

/-- The gradient of the normed, scaled rows. -/
theorem bDh_at : Rows (k0_pay1 (F := Ideal) (k0_pay8 x0 x1 x2 (bW0 x6) (bW1 x6) (bW2 x6)) (k0_pay9 x0 x1 x2) (k0_pay10 (bW3 x6))) (dh (cat a u t) w) :=
  pay1 H.a H.u H.t (bW0_at H) (bW1_at H) (bW2_at H) (bW3_at H)

end Cert.InProj.Ker

end
-- ==== Proof.InOut.lean ====
/-
  WHAT A GRID POINT WRITES, opened: in each of the two cases the three results' blocks are the payloads at the point's blocks.
-/
module

public import proofs.«01_k».proof.Proof.InBlk

@[expose] public section

set_option maxRecDepth 16384
set_option maxHeartbeats 800000
set_option backward.proofsInPublic true

noncomputable section

namespace Cert.InProj.Ker

open Cert.Kernel3Ideal Cert.Kernel3Ideal.Gen Idealize.ShloMosaic Cert.InProj Cert.Ffn

variable {a u t d x : ℕ → ℕ → EReal} {g : ℕ → EReal} {w : ℕ → ℕ → EReal}
variable (c : Dev nD) (i : grid0.Coords) (arg1 : Memref sig .tc .vmem S512x2560 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x4x1024x1664 .bf16) (harg7 : arg7.IsWhole) (arg8 : Memref sig .tc .vmem S512x1024 .f32) (harg8 : arg8.IsWhole) (arg9 : Memref sig .tc .vmem S512x6656 .bf16) (harg9 : arg9.IsWhole) (arg10 : Memref sig .tc .vmem S1x1024 .f32) (harg10 : arg10.IsWhole)
  (x0 : Vec Ideal S512x2560 .bf16) (x1 : Vec Ideal S512x2048 .bf16) (x2 : Vec Ideal S512x2048 .bf16) (x3 : Vec Ideal S512x1024 .f32)
  (x4 : Vec Ideal S512x1024 .f32) (x5 : Vec Ideal S1x1024 .f32) (x6 : Vec Ideal S1x4x1024x1664 .bf16) (xo9 : Vec Ideal S1x1024 .f32)

theorem out0_A_7_at (hc0 : cond0_0 i) (H : Blk x0 x1 x2 x3 x4 x5 x6 a u t d x g w) (r : Fin 512) (k : Fin 1024) :
    out0_A_7 (F := Ideal) c i arg1 harg1 arg2 harg2 arg3 harg3 arg4 harg4 arg5 harg5 arg6 harg6 arg7 harg7 arg8 harg8 arg9 harg9 arg10 harg10 hc0 x0 x1 x2 x3 x4 x5 x6 (ix2 r k) = (dx (cat a u t) d x g w r k) := by
  frame_out
  exact pay4 (bDh_at H) H.x H.g H.d r k

theorem out0_A_8_at (hc0 : cond0_0 i) (H : Blk x0 x1 x2 x3 x4 x5 x6 a u t d x g w) (r : Fin 512) (k : Fin 6656) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 (ix2 r k) = (cat a u t r k) := by
  frame_out
  exact pay7 H.a H.u H.t r k

theorem out0_A_9_at (hc0 : cond0_0 i) (H : Blk x0 x1 x2 x3 x4 x5 x6 a u t d x g w) (b : Fin 1) (k : Fin 1024) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6 (ix2 b k) = (∑ r : Fin 512, dh (cat a u t) w r k * nrm x r k) := by
  frame_open
  simp (disch := decide) only [↓ View.readCov_skip, ↓ View.readCov_cons_toLoadRect, ↓ View.readCov_fill]
  frame_out
  refine (pay5 (e := fun _ => 0) (bDh_at H) H.x (fun b c => by pointwise [k0_pay6]) b k).trans ?_
  simp only [zero_add]

theorem out0_B_7_at (hc0 : ¬cond0_0 i) (H : Blk x0 x1 x2 x3 x4 x5 x6 a u t d x g w) (r : Fin 512) (k : Fin 1024) :
    out0_B_7 (F := Ideal) c i arg1 harg1 arg2 harg2 arg3 harg3 arg4 harg4 arg5 harg5 arg6 harg6 arg7 harg7 arg8 harg8 arg9 harg9 arg10 harg10 hc0 x0 x1 x2 x3 x4 x5 x6 xo9 (ix2 r k) = (dx (cat a u t) d x g w r k) := by
  frame_out
  exact pay4 (bDh_at H) H.x H.g H.d r k

theorem out0_B_8_at (hc0 : ¬cond0_0 i) (H : Blk x0 x1 x2 x3 x4 x5 x6 a u t d x g w) (r : Fin 512) (k : Fin 6656) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 xo9 (ix2 r k) = (cat a u t r k) := by
  frame_out
  exact pay7 H.a H.u H.t r k

theorem out0_B_9_at (hc0 : ¬cond0_0 i) (H : Blk x0 x1 x2 x3 x4 x5 x6 a u t d x g w) {e : ℕ → EReal} (He : ∀ (b : Fin 1) (c : Fin 1024), xo9 (ix2 b c) = (e c)) (b : Fin 1) (k : Fin 1024) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 xo9 (ix2 b k) = (e k + ∑ r : Fin 512, dh (cat a u t) w r k * nrm x r k) := by
  frame_out
  exact pay5 (bDh_at H) H.x He b k

end Cert.InProj.Ker

end
-- ==== Proof.InFold.lean ====
/-
  THE SWEEP OVER THE EIGHT GRID POINTS: what point `p` reads are rows `512 p … 512 p + 511` of the arrays, and the gradient of
  the gain holds, after point `p`, the sum over the blocks up to `p`.
-/
module

public import proofs.«01_k».proof.Proof.InOut
public import proofs.«01_k».proof.Proof.Blocks

@[expose] public section

set_option maxRecDepth 16384
set_option maxHeartbeats 800000
set_option backward.proofsInPublic true

noncomputable section

namespace Cert.InProj.Ker

open Cert.Kernel3Ideal Cert.Kernel3Ideal.Gen Cert.Kernel3Ideal.Value Idealize.ShloMosaic Idealize.ShloMosaic.TcCoe Cert.InProj Cert.Ffn

/-- The rows from `512 q` on. -/
def sh (q : ℕ) (x : ℕ → ℕ → EReal) : ℕ → ℕ → EReal := fun r c => x (512 * q + r) c

section shift

variable (a u t d x : ℕ → ℕ → EReal) (g : ℕ → EReal) (w : ℕ → ℕ → EReal)

theorem cat_sh (q r f : ℕ) : cat (sh q a) (sh q u) (sh q t) r f = cat a u t (512 * q + r) f := rfl
theorem nrm_sh (q r k : ℕ) : nrm (sh q x) r k = nrm x (512 * q + r) k := rfl
theorem dh_sh (q r k : ℕ) : dh (cat (sh q a) (sh q u) (sh q t)) w r k = dh (cat a u t) w (512 * q + r) k :=
  Finset.sum_congr rfl fun f _ => congrArg (· * w k f) (cat_sh a u t q r f)
theorem dx_sh (q r k : ℕ) : dx (cat (sh q a) (sh q u) (sh q t)) (sh q d) (sh q x) g w r k = dx (cat a u t) d x g w (512 * q + r) k := by
  have e : dh (cat (sh q a) (sh q u) (sh q t)) w r = dh (cat a u t) w (512 * q + r) := funext (dh_sh a u t w q r)
  have ex : sh q x r = x (512 * q + r) := rfl
  have ed : sh q d r k = d (512 * q + r) k := rfl
  unfold dx
  rw [e, ex, ed]

end shift

variable {a u t d x : ℕ → ℕ → EReal} {g : ℕ → EReal} {w : ℕ → ℕ → EReal}
variable {m : (ℓ : Loc nD τ sig) → Buf (Elt Ideal) ℓ} {c : Dev nD}
  (HB : ∀ p : Fin cfg0.N, Blk (iblk m c 0 p) (iblk m c 1 p) (iblk m c 2 p) (iblk m c 3 p) (iblk m c 4 p) (iblk m c 5 p) (iblk m c 6 p)
    (sh p.val a) (sh p.val u) (sh p.val t) (sh p.val d) (sh p.val x) g w)
include HB

theorem out7 (p : Fin cfg0.N) (r : Fin 512) (k : Fin 1024) : (outsAt0 m c p.val p.isLt).1 (ix2 r k) = (dx (cat a u t) d x g w (512 * p.val + r) k) := by
  rw [← dx_sh]
  by_cases h0 : p.val % 8 = 0
  · have e : (outsAt0 m c p.val p.isLt).1 = out0_A_7 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) ((hcond0_0 p).mpr h0) (iblk m c 0 p) (iblk m c 1 p) (iblk m c 2 p) (iblk m c 3 p) (iblk m c 4 p) (iblk m c 5 p) (iblk m c 6 p) := by rw [outsAt0_A m c p h0]
    rw [e]
    exact out0_A_7_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) ((hcond0_0 p).mpr h0) (HB p) r k
  · have e : (outsAt0 m c p.val p.isLt).1 = out0_B_7 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (fun h => h0 ((hcond0_0 p).mp h)) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 := by rw [outsAt0_B m c p h0]
    rw [e]
    exact out0_B_7_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 (fun h => h0 ((hcond0_0 p).mp h)) (HB p) r k

theorem out8 (p : Fin cfg0.N) (r : Fin 512) (k : Fin 6656) : (outsAt0 m c p.val p.isLt).2.1 (ix2 r k) = (cat a u t (512 * p.val + r) k) := by
  rw [← cat_sh]
  by_cases h0 : p.val % 8 = 0
  · have e : (outsAt0 m c p.val p.isLt).2.1 = out0_A_8 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) ((hcond0_0 p).mpr h0) (iblk m c 0 p) (iblk m c 1 p) (iblk m c 2 p) (iblk m c 3 p) (iblk m c 4 p) (iblk m c 5 p) (iblk m c 6 p) := by rw [outsAt0_A m c p h0]
    rw [e]
    exact out0_A_8_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) ((hcond0_0 p).mpr h0) (HB p) r k
  · have e : (outsAt0 m c p.val p.isLt).2.1 = out0_B_8 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (fun h => h0 ((hcond0_0 p).mp h)) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 := by rw [outsAt0_B m c p h0]
    rw [e]
    exact out0_B_8_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 (fun h => h0 ((hcond0_0 p).mp h)) (HB p) r k

/-- The gradient of the gain after a first point … -/
theorem out9_A (p : Fin cfg0.N) (h0 : p.val % 8 = 0) (b : Fin 1) (k : Fin 1024) : (outsAt0 m c p.val p.isLt).2.2 (ix2 b k)
    = (∑ r : Fin 512, dh (cat a u t) w (512 * p.val + r) k * nrm x (512 * p.val + r) k) := by
  have e : (outsAt0 m c p.val p.isLt).2.2 = out0_A_9 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) ((hcond0_0 p).mpr h0) (iblk m c 0 p) (iblk m c 1 p) (iblk m c 2 p) (iblk m c 3 p) (iblk m c 4 p) (iblk m c 5 p) (iblk m c 6 p) := by rw [outsAt0_A m c p h0]
  rw [e]
  simp only [← dh_sh a u t w, ← nrm_sh x]
  exact out0_A_9_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) ((hcond0_0 p).mpr h0) (HB p) b k

/-- … and after a later one. -/
theorem out9_B (p : Fin cfg0.N) (h0 : ¬p.val % 8 = 0) {f : ℕ → EReal}
    (hf : ∀ (b : Fin 1) (k : Fin 1024), (outsAt0 m c (p.val - 1) (Nat.lt_of_le_of_lt (Nat.sub_le _ _) p.isLt)).2.2 (ix2 b k) = (f k)) (b : Fin 1) (k : Fin 1024) :
    (outsAt0 m c p.val p.isLt).2.2 (ix2 b k) = (f k + ∑ r : Fin 512, dh (cat a u t) w (512 * p.val + r) k * nrm x (512 * p.val + r) k) := by
  have e : (outsAt0 m c p.val p.isLt).2.2 = out0_B_9 (F := Ideal) c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (fun h => h0 ((hcond0_0 p).mp h)) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 := by rw [outsAt0_B m c p h0]
  rw [e]
  simp only [← dh_sh a u t w, ← nrm_sh x]
  exact out0_B_9_at c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) (ms0_9 p) (hs0_9 p) (iblk m c 0 p) (iblk m c 1 p) (iblk m c 2 p) (iblk m c 3 p) (iblk m c 4 p) (iblk m c 5 p) (iblk m c 6 p) (outsAt0 m c (p.val - 1) (Nat.lt_of_le_of_lt (Nat.sub_le _ _) p.isLt)).2.2 (fun h => h0 ((hcond0_0 p).mp h)) (HB p) (e := f) hf b k

/-- The gradient of the gain after point `n`. -/
theorem out9 (n : ℕ) (hn : n < cfg0.N) (b : Fin 1) (k : Fin 1024) : (outsAt0 m c n hn).2.2 (ix2 b k)
    = (∑ q ∈ Finset.range (n + 1), ∑ r : Fin 512, dh (cat a u t) w (512 * q + r) k * nrm x (512 * q + r) k) := by
  induction n generalizing b k with
  | zero =>
    rw [Nat.zero_add, Finset.sum_range_one]
    exact out9_A HB ⟨0, hn⟩ rfl b k
  | succ n ih =>
    have hN : cfg0.N = 8 := N_0
    have hB : ¬(⟨n + 1, hn⟩ : Fin cfg0.N).val % 8 = 0 := by show ¬(n + 1) % 8 = 0; omega
    rw [Finset.sum_range_succ _ (n + 1)]
    exact out9_B HB ⟨n + 1, hn⟩ hB (f := fun k => ∑ q ∈ Finset.range (n + 1), ∑ r : Fin 512, dh (cat a u t) w (512 * q + r) k * nrm x (512 * q + r) k)
      (fun b k => ih (Nat.lt_of_succ_lt hn) b k) b k

/-- After the last point it is the sum over all rows. -/
theorem out9_last (p : Fin cfg0.N) (hp : p.val % 8 = 7) (b : Fin 1) (k : Fin 1024) :
    (outsAt0 m c p.val p.isLt).2.2 (ix2 b k) = (dg (cat a u t) x w k) := by
  have hN : cfg0.N = 8 := N_0
  have h7 : p.val + 1 = 8 := by have := p.isLt; omega
  have e := Blocks.sum_blocks (N := 4096) (p.val + 1) 512 (by rw [h7]) (fun r => dh (cat a u t) w r k * nrm x r k)
  rw [out9 HB]
  unfold dg
  rw [← e]

end Cert.InProj.Ker

end
-- ==== Proof.InRef.lean ====
/-
  THE REFERENCE'S STAGES for the input projection: the norm, the projection's gradient, and the gradients of the
  row and of the gain. Each stage, read at an index, is a function of `InFn`.
-/
module

public import proofs.«01_k».proof.Proof.InFn
public import proofs.«01_k».proof.Proof.Axes
public import proofs.«01_k».proof.Proof.Gen.Reference3Ideal.Read

@[expose] public section

set_option maxRecDepth 16384
set_option maxHeartbeats 800000
set_option backward.proofsInPublic true

noncomputable section

namespace Cert.InProj.Ref

open Cert.Reference3Ideal Cert.Reference3Ideal.Gen Cert.Reference3Ideal.Read Idealize.ShloMosaic Cert.InProj Cert.Ffn

variable {x0 : S4096x2560.Idx → EReal} {x1 x2 : S4096x2048.Idx → EReal} {x3 x4 : S4096x1024.Idx → EReal} {x5 : S1024.Idx → EReal} {x6 : S1024x6656.Idx → EReal}
  {a u t d x : ℕ → ℕ → EReal} {g : ℕ → EReal} {w : ℕ → ℕ → EReal}
  (ha : ∀ (r : Fin 4096) (f : Fin 2560), x0 (ix2 r f) = (a r f))
  (hu : ∀ (r : Fin 4096) (f : Fin 2048), x1 (ix2 r f) = (u r f))
  (ht : ∀ (r : Fin 4096) (f : Fin 2048), x2 (ix2 r f) = (t r f))
  (hd : ∀ (r : Fin 4096) (c : Fin 1024), x3 (ix2 r c) = (d r c))
  (hx : ∀ (r : Fin 4096) (c : Fin 1024), x4 (ix2 r c) = (x r c))
  (hg : ∀ c : Fin 1024, x5 (ix1 c) = (g c))
  (hw : ∀ (c : Fin 1024) (f : Fin 6656), x6 (ix2 c f) = (w c f))

section
include hx

theorem v8 (b : Fin 1) (r : Fin 4096) (c : Fin 1) : val_main_v8 (F := Ideal) x4 (ix3 b r c) = (Rms.ms (x r)) := by
  pointwise [val_main_v8, val_main_v7, val_main_cst_1, val_main_v6, val_main_v5, val_main_cst_0, val_main_v4, val_main_v3, val_main_cst, val_main_v2, val_main_v1, hx]
  rfl

theorem v9 (b : Fin 1) (r : Fin 4096) (c : Fin 1) : val_main_v9 (F := Ideal) x4 (ix3 b r c) = (Rms.rs (x r)) := by
  pointwise [val_main_v9, v8 hx]
  rfl

theorem v12 (b : Fin 1) (r : Fin 4096) (c : Fin 1) : val_main_v12 (F := Ideal) x4 (ix3 b r c) = (((-(1 / 2) : ℝ) : EReal) * Ideal.div (Rms.rs (x r)) (Rms.ms (x r))) := by
  pointwise [val_main_v12, val_main_v11, val_main_cst_2, val_main_v10, v9 hx, v8 hx]

theorem v14 (b : Fin 1) (r : Fin 4096) (c : Fin 1024) : val_main_v14 (F := Ideal) x4 (ix3 b r c) = (nrm x r c) := by
  pointwise [val_main_v14, val_main_v13, v9 hx, val_main_v1, hx]
  rfl

end

section
include ha hu ht

theorem v0 (r : Fin 4096) (f : Fin 6656) : val_main_v0 (F := Ideal) x0 x1 x2 (ix2 r f) = (cat a u t r f) := by
  pointwise [val_main_v0, ha, hu, ht]
  unfold cat
  split_ifs <;> rfl

include hw

theorem v23 (b : Fin 1) (r : Fin 4096) (c : Fin 1024) : val_main_v23 (F := Ideal) x0 x1 x2 x6 (ix3 b r c) = (dh (cat a u t) w r c) := by
  pointwise [val_main_v23, val_main_v20, val_main_v19, v0 ha hu ht, hw]
  rfl

include hx

theorem v29 (c : Fin 1024) : val_main_v29 (F := Ideal) x0 x1 x2 x4 x6 (ix1 c) = (dg (cat a u t) x w c) := by
  pointwise [val_main_v29, val_main_cst_4, val_main_v26, val_main_v25, val_main_cst_3, val_main_v24, v14 hx, v23 ha hu ht hw]
  unfold dg
  simp only [Finset.univ_unique, Finset.sum_singleton]
  refine Finset.sum_congr rfl fun r _ => ?_
  ac_rfl

theorem v47 (b : Fin 1) (c : Fin 1024) : val_main_v47 (F := Ideal) x0 x1 x2 x4 x6 (ix2 b c) = (dg (cat a u t) x w c) := by
  pointwise [val_main_v47, v29 ha hu ht hx hw]

include hg

theorem v28 (b : Fin 1) (r : Fin 4096) (c : Fin 1024) : val_main_v28 (F := Ideal) x0 x1 x2 x5 x6 (ix3 b r c) = (dh (cat a u t) w r c * g c) := by
  pointwise [val_main_v28, val_main_v27, val_main_v15, v23 ha hu ht hw, hg]

/-- The gradient by the mean square, at every column. -/
theorem v40 (b : Fin 1) (r : Fin 4096) (c : Fin 1024) : val_main_v40 (F := Ideal) x0 x1 x2 x4 x5 x6 (ix3 b r c) = (Rms.dms (dh (cat a u t) w r) g (x r)) := by
  pointwise [val_main_v40, val_main_v39, val_main_v38, val_main_cst_7, val_main_v37, val_main_v36, val_main_cst_6, val_main_v35, val_main_v32, val_main_v31,
    val_main_cst_5, val_main_v30, val_main_v1, v28 ha hu ht hx hg hw, v12 hx, hx]
  rw [Fin.sum_univ_one, Fin.sum_univ_one]
  rfl

include hd

theorem v46 (r : Fin 4096) (c : Fin 1024) : val_main_v46 (F := Ideal) x0 x1 x2 x3 x4 x5 x6 (ix2 r c) = (dx (cat a u t) d x g w r c) := by
  pointwise [val_main_v46, val_main_v45, val_main_v44, val_main_v43, val_main_v42, val_main_v41, val_main_v34, val_main_v33, v40 ha hu ht hx hg hw, v28 ha hu ht hx hg hw, v9 hx, val_main_v1, hx, hd]
  unfold dx
  rw [← Rms.dx_eq]

end

end Cert.InProj.Ref

end
-- ==== Proof.InArgs.lean ====
/-
  WHAT A GRID POINT READS: point `p` reads rows `512 p …` of the gradients and of
  the rows, the gain, and the weights by quarters.
-/
module

public import proofs.«01_k».proof.Proof.InFold
public import proofs.«01_k».proof.Proof.InRef
public import Idealize.ShloMosaic.Lib.StableHlo.ReadAt

@[expose] public section

set_option maxRecDepth 16384
set_option maxHeartbeats 800000
set_option backward.proofsInPublic true

noncomputable section

namespace Cert.InProj.Ker

open Cert.Kernel3Ideal Cert.Kernel3Ideal.Gen Cert.Kernel3Ideal.Value Idealize.ShloMosaic Idealize.ShloMosaic.TcCoe Cert.InProj Cert.Ffn

/-- The block index of each input window at point `p`. -/
theorem idx_in : ∀ p : Fin cfg0.N, win0_0.index p = ![p.val, 0] ∧ win0_1.index p = ![p.val, 0] ∧ win0_2.index p = ![p.val, 0]
    ∧ win0_3.index p = ![p.val, 0] ∧ win0_4.index p = ![p.val, 0] ∧ win0_5.index p = ![0, 0] ∧ win0_6.index p = ![0, 0, 0, 0] :=
  (by decide +kernel : ∀ p : Fin grid0.N, _)

variable (m : (ℓ : Loc nD τ sig) → Buf (Elt Ideal) ℓ) (c : Dev nD)

theorem blk0 (p : Fin cfg0.N) (r : Fin 512) (k : Fin 2560) :
    iblk m c 0 p (ix2 r k) = m ((c : Thread nD τ).loc main_arg0) (ix2 ⟨512 * p.val + r.val, by have := lt_of_lt_of_eq p.isLt N_0; omega⟩ k) := by
  blk_ext [iblk, V, (idx_in p).1]

theorem blk1 (p : Fin cfg0.N) (r : Fin 512) (k : Fin 2048) :
    iblk m c 1 p (ix2 r k) = m ((c : Thread nD τ).loc main_arg1) (ix2 ⟨512 * p.val + r.val, by have := lt_of_lt_of_eq p.isLt N_0; omega⟩ k) := by
  blk_ext [iblk, V, (idx_in p).2.1]

theorem blk2 (p : Fin cfg0.N) (r : Fin 512) (k : Fin 2048) :
    iblk m c 2 p (ix2 r k) = m ((c : Thread nD τ).loc main_arg2) (ix2 ⟨512 * p.val + r.val, by have := lt_of_lt_of_eq p.isLt N_0; omega⟩ k) := by
  blk_ext [iblk, V, (idx_in p).2.2.1]

theorem blk3 (p : Fin cfg0.N) (r : Fin 512) (k : Fin 1024) :
    iblk m c 3 p (ix2 r k) = m ((c : Thread nD τ).loc main_arg3) (ix2 ⟨512 * p.val + r.val, by have := lt_of_lt_of_eq p.isLt N_0; omega⟩ k) := by
  blk_ext [iblk, V, (idx_in p).2.2.2.1]

theorem blk4 (p : Fin cfg0.N) (r : Fin 512) (k : Fin 1024) :
    iblk m c 4 p (ix2 r k) = m ((c : Thread nD τ).loc main_arg4) (ix2 ⟨512 * p.val + r.val, by have := lt_of_lt_of_eq p.isLt N_0; omega⟩ k) := by
  blk_ext [iblk, V, (idx_in p).2.2.2.2.1]

theorem blk5 (p : Fin cfg0.N) (b : Fin 1) (k : Fin 1024) :
    iblk m c 5 p (ix2 b k) = m ((c : Thread nD τ).loc main_arg5) (ix1 k) := by
  have e : ((win0_5.blk p).view.emb (ix2 b k) : S1x1024.Idx) = ix2 b k := by blk_ext [(idx_in p).2.2.2.2.2.1]
  show V m c main_v4 ((win0_5.blk p).view.emb (ix2 b k)) = _
  rw [e]
  unfold V
  simp only [hostOps0]
  after_reads_at

theorem blk6 (p : Fin cfg0.N) (b : Fin 1) (q : Fin 4) (k : Fin 1024) (f : Fin 1664) :
    iblk m c 6 p (ix4 b q k f) = m ((c : Thread nD τ).loc main_arg6) (ix2 k ⟨1664 * q.val + f.val, by omega⟩) := by
  have e : ((win0_6.blk p).view.emb (ix4 b q k f) : S1x4x1024x1664.Idx) = ix4 b q k f := by blk_ext [(idx_in p).2.2.2.2.2.2]
  show V m c main_v3 ((win0_6.blk p).view.emb (ix4 b q k f)) = _
  rw [e]
  unfold V
  simp only [hostOps0]
  after_reads_at
  exact congrArg (fun z => m ((c : Thread nD τ).loc main_arg6) (ix2 k z)) (Fin.ext (by show q.val * 1664 + f.val = 1664 * q.val + f.val; omega))

variable {m c} {a u t d x : ℕ → ℕ → EReal} {g : ℕ → EReal} {w : ℕ → ℕ → EReal}
  (ha : ∀ (r : Fin 4096) (f : Fin 2560), m ((c : Thread nD τ).loc main_arg0) (ix2 r f) = (a r f))
  (hu : ∀ (r : Fin 4096) (f : Fin 2048), m ((c : Thread nD τ).loc main_arg1) (ix2 r f) = (u r f))
  (ht : ∀ (r : Fin 4096) (f : Fin 2048), m ((c : Thread nD τ).loc main_arg2) (ix2 r f) = (t r f))
  (hd : ∀ (r : Fin 4096) (k : Fin 1024), m ((c : Thread nD τ).loc main_arg3) (ix2 r k) = (d r k))
  (hx : ∀ (r : Fin 4096) (k : Fin 1024), m ((c : Thread nD τ).loc main_arg4) (ix2 r k) = (x r k))
  (hg : ∀ k : Fin 1024, m ((c : Thread nD τ).loc main_arg5) (ix1 k) = (g k))
  (hw : ∀ (k : Fin 1024) (f : Fin 6656), m ((c : Thread nD τ).loc main_arg6) (ix2 k f) = (w k f))
include ha hu ht hd hx hg hw

/-- What point `p` reads. -/
theorem blk (p : Fin cfg0.N) : Blk (iblk m c 0 p) (iblk m c 1 p) (iblk m c 2 p) (iblk m c 3 p) (iblk m c 4 p) (iblk m c 5 p) (iblk m c 6 p)
    (sh p.val a) (sh p.val u) (sh p.val t) (sh p.val d) (sh p.val x) g w where
  a r k := (blk0 m c p r k).trans (ha _ _)
  u r k := (blk1 m c p r k).trans (hu _ _)
  t r k := (blk2 m c p r k).trans (ht _ _)
  d r k := (blk3 m c p r k).trans (hd _ _)
  x r k := (blk4 m c p r k).trans (hx _ _)
  g b k := (blk5 m c p b k).trans (hg k)
  w b q k f := (blk6 m c p b q k f).trans (hw _ _)

end Cert.InProj.Ker

end
-- ==== Proof.InVal.lean ====
/-
  THE THREE RESULTS of the kernel's run are the reference's.
-/
module

public import proofs.«01_k».proof.Proof.InArgs

@[expose] public section

set_option maxRecDepth 16384
set_option maxHeartbeats 800000
set_option backward.proofsInPublic true

noncomputable section

namespace Cert.InProj.Ker

open Cert.Kernel3Ideal Cert.Kernel3Ideal.Gen Cert.Kernel3Ideal.Value Idealize.ShloMosaic Idealize.ShloMosaic.TcCoe Cert.InProj Cert.Ffn

/-- The block index of each output window at point `p`. -/
theorem idx_out : ∀ p : Fin cfg0.N, win0_7.index p = ![p.val, 0] ∧ win0_8.index p = ![p.val, 0] ∧ win0_9.index p = ![0, 0] :=
  (by decide +kernel : ∀ p : Fin grid0.N, _)

variable {m : (ℓ : Loc nD τ sig) → Buf (Elt Ideal) ℓ} {c : Dev nD} {a u t d x : ℕ → ℕ → EReal} {g : ℕ → EReal} {w : ℕ → ℕ → EReal}
  (ha : ∀ (r : Fin 4096) (f : Fin 2560), m ((c : Thread nD τ).loc main_arg0) (ix2 r f) = (a r f))
  (hu : ∀ (r : Fin 4096) (f : Fin 2048), m ((c : Thread nD τ).loc main_arg1) (ix2 r f) = (u r f))
  (ht : ∀ (r : Fin 4096) (f : Fin 2048), m ((c : Thread nD τ).loc main_arg2) (ix2 r f) = (t r f))
  (hd : ∀ (r : Fin 4096) (k : Fin 1024), m ((c : Thread nD τ).loc main_arg3) (ix2 r k) = (d r k))
  (hx : ∀ (r : Fin 4096) (k : Fin 1024), m ((c : Thread nD τ).loc main_arg4) (ix2 r k) = (x r k))
  (hg : ∀ k : Fin 1024, m ((c : Thread nD τ).loc main_arg5) (ix1 k) = (g k))
  (hw : ∀ (k : Fin 1024) (f : Fin 6656), m ((c : Thread nD τ).loc main_arg6) (ix2 k f) = (w k f))
include ha hu ht hd hx hg hw

theorem r7 : (dats m 0 c).arrAt 7 cfg0.N = Cert.Reference3Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hN : cfg0.N = 8 := N_0
  refine (dats m 0 c).arrAt_eq_of_cover 7 _ (fun p hf => ?_) (fun i => ?_)
  · rw [flushed7]
    funext y
    obtain ⟨r, k, rfl⟩ : ∃ r k, y = ix2 (n0 := 512) (n1 := 1024) r k := ⟨y 0, y 1, (ix2_eta y).symm⟩
    have e : ((win0_7.blk p).view.emb (ix2 r k) : S4096x1024.Idx) = ix2 ⟨512 * p.val + r.val, by have := lt_of_lt_of_eq p.isLt hN; omega⟩ k := by
      blk_ext [(idx_out p).1]
    show (outsAt0 m c p.val p.isLt).1 (ix2 r k) = Cert.Reference3Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_7.blk p).view.emb (ix2 r k))
    rw [e]
    exact (out7 (blk ha hu ht hd hx hg hw) p r k).trans (Ref.v46 ha hu ht hd hx hg hw ⟨512 * p.val + r.val, by have := lt_of_lt_of_eq p.isLt hN; omega⟩ k).symm
  · obtain ⟨r, k, rfl⟩ : ∃ r k, i = ix2 (n0 := 4096) (n1 := 1024) r k := ⟨i 0, i 1, (ix2_eta i).symm⟩
    obtain ⟨p, hp⟩ : ∃ p : Fin cfg0.N, p.val = r.val / 512 := ⟨⟨r.val / 512, lt_of_lt_of_eq (by omega) hN.symm⟩, rfl⟩
    refine ⟨p, flush0_7 _, ?_⟩
    have e : ((win0_7.blk p).view.emb (ix2 ⟨r.val % 512, by omega⟩ k) : S4096x1024.Idx) = ix2 r k := by
      blk_ext [(idx_out p).1, hp]
    rw [← e]
    exact View.emb_mem_set _ _

theorem r8 : (dats m 0 c).arrAt 8 cfg0.N = Cert.Reference3Ideal.Read.val_main_v0 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 8 _ (fun p hf => ?_) (fun i => ?_)
  · rw [flushed8]
    funext y
    obtain ⟨r, k, rfl⟩ : ∃ r k, y = ix2 (n0 := 512) (n1 := 6656) r k := ⟨y 0, y 1, (ix2_eta y).symm⟩
    have e : ((win0_8.blk p).view.emb (ix2 r k) : S4096x6656.Idx) = ix2 ⟨512 * p.val + r.val, by have := lt_of_lt_of_eq p.isLt hN; omega⟩ k := by
      blk_ext [(idx_out p).2.1]
    show (outsAt0 m c p.val p.isLt).2.1 (ix2 r k) = Cert.Reference3Ideal.Read.val_main_v0 (F := Ideal) (m ((c : Thread nD τ).loc main_arg0)) (m ((c : Thread nD τ).loc main_arg1)) (m ((c : Thread nD τ).loc main_arg2)) ((win0_8.blk p).view.emb (ix2 r k))
    rw [e]
    exact (out8 (blk ha hu ht hd hx hg hw) p r k).trans (Ref.v0 ha hu ht ⟨512 * p.val + r.val, by have := lt_of_lt_of_eq p.isLt hN; omega⟩ k).symm
  · obtain ⟨r, k, rfl⟩ : ∃ r k, i = ix2 (n0 := 4096) (n1 := 6656) r k := ⟨i 0, i 1, (ix2_eta i).symm⟩
    obtain ⟨p, hp⟩ : ∃ p : Fin cfg0.N, p.val = r.val / 512 := ⟨⟨r.val / 512, lt_of_lt_of_eq (by omega) hN.symm⟩, rfl⟩
    refine ⟨p, flush0_8 _, ?_⟩
    have e : ((win0_8.blk p).view.emb (ix2 ⟨r.val % 512, by omega⟩ k) : S4096x6656.Idx) = ix2 r k := by
      blk_ext [(idx_out p).2.1, hp]
    rw [← e]
    exact View.emb_mem_set _ _

theorem r9 : (dats m 0 c).arrAt 9 cfg0.N = Cert.Reference3Ideal.Read.val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  have hN : cfg0.N = 8 := N_0
  refine (dats m 0 c).arrAt_eq_of_cover 9 _ (fun p hf => ?_) (fun i => ?_)
  · rw [flushed9]
    funext y
    obtain ⟨b, k, rfl⟩ : ∃ b k, y = ix2 (n0 := 1) (n1 := 1024) b k := ⟨y 0, y 1, (ix2_eta y).symm⟩
    have e : ((win0_9.blk p).view.emb (ix2 b k) : S1x1024.Idx) = ix2 b k := by blk_ext [(idx_out p).2.2]
    show (outsAt0 m c p.val p.isLt).2.2 (ix2 b k) = Cert.Reference3Ideal.Read.val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg6)) ((win0_9.blk p).view.emb (ix2 b k))
    rw [e]
    exact (out9_last (blk ha hu ht hd hx hg hw) p ((flush0_9 p).1 hf) b k).trans (Ref.v47 ha hu ht hx hw b k).symm
  · obtain ⟨b, k, rfl⟩ : ∃ b k, i = ix2 (n0 := 1) (n1 := 1024) b k := ⟨i 0, i 1, (ix2_eta i).symm⟩
    obtain ⟨p, hp⟩ : ∃ p : Fin cfg0.N, p.val = 7 := ⟨⟨7, lt_of_lt_of_eq (by omega) hN.symm⟩, rfl⟩
    refine ⟨p, (flush0_9 _).2 (by rw [hp]), ?_⟩
    have e : ((win0_9.blk p).view.emb (ix2 b k) : S1x1024.Idx) = ix2 b k := by blk_ext [(idx_out p).2.2]
    rw [← e]
    exact View.emb_mem_set _ _

end Cert.InProj.Ker

end
-- ==== Proof.InAlg.lean ====
/-
  THE ALGEBRAIC CLAIM of the input projection's backward pass: its run's three results are the reference's.
-/
module

public import proofs.«01_k».proof.Defs
public import proofs.«01_k».proof.Proof.InVal
public import proofs.«01_k».proof.Proof.Arr
public import proofs.«01_k».proof.Proof.Gen.Reference3Ideal.Run
public import Idealize.ShloMosaic.Lib.Quiescent
public import Idealize.ShloMosaic.Adequacy
public import Idealize.ShloMosaic.Init

@[expose] public section

set_option backward.proofsInPublic true
set_option maxRecDepth 16384

noncomputable section

namespace Cert.InProj

open Idealize.ShloMosaic Idealize.ShloMosaic.TcCoe Idealize.SL.Sem Cert.Arr Cert.Kernel3Ideal Cert.InProj.Ker

/-- The kernel's three results are the reference's. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨_, _, _, Cert.Kernel3Ideal.Value.run_blocks m g, ?_⟩
  refine (θ_run _ _ _).mono (fun r h (c : Dev nD) => ?_) (Cert.Reference3Ideal.Value.run m' g')
  have q0 := arr2_apply fun (r : Fin 4096) (k : Fin 2560) => m ((c : Thread nD τ).loc main_arg0) (ix2 r k)
  have q1 := arr2_apply fun (r : Fin 4096) (k : Fin 2048) => m ((c : Thread nD τ).loc main_arg1) (ix2 r k)
  have q2 := arr2_apply fun (r : Fin 4096) (k : Fin 2048) => m ((c : Thread nD τ).loc main_arg2) (ix2 r k)
  have q3 := arr2_apply fun (r : Fin 4096) (k : Fin 1024) => m ((c : Thread nD τ).loc main_arg3) (ix2 r k)
  have q4 := arr2_apply fun (r : Fin 4096) (k : Fin 1024) => m ((c : Thread nD τ).loc main_arg4) (ix2 r k)
  have q5 := arr1_apply fun k : Fin 1024 => m ((c : Thread nD τ).loc main_arg5) (ix1 k)
  have q6 := arr2_apply fun (r : Fin 1024) (k : Fin 6656) => m ((c : Thread nD τ).loc main_arg6) (ix2 r k)
  obtain ⟨a0, a1, a2, a3, a4, a5, a6⟩ := hagree c
  obtain ⟨h0, h1, h2, hk⟩ := h c
  refine ⟨h0.trans ?_, h1.trans ?_, h2.trans ?_, hk⟩
  · refine (Cert.Reference3Ideal.Read.val_main_v46_eq _ _).trans ?_
    rw [r7 q0 q1 q2 q3 q4 q5 q6, ← a0, ← a1, ← a2, ← a3, ← a4, ← a5, ← a6]
  · refine (Cert.Reference3Ideal.Read.val_main_v0_eq _ _ _).trans ?_
    rw [r8 q0 q1 q2 q3 q4 q5 q6, ← a0, ← a1, ← a2]
  · refine (Cert.Reference3Ideal.Read.val_main_v47_eq _ _ _ _ _).trans ?_
    rw [r9 q0 q1 q2 q3 q4 q5 q6, ← a0, ← a1, ← a2, ← a4, ← a6]

/-- The reference runs, keeps its arguments and leaves every counter at zero: it has none. -/
theorem reference_frame : Cert.quiescent_Reference3Ideal (hReference3Ideal := Cert.Reference3Ideal.Gen.facts) := fun m ρ _ =>
  (θ_run _ _ _).mono (fun r h => And.intro (fun c => (h c).2.2.2) (sem_eq_zero_of_no_sems rfl r.2)) (Cert.Reference3Ideal.Value.run m ρ)

end Cert.InProj

end
-- ==== Proof.MrgFn.lean ====
/-
  THE MERGE'S GRADIENT OVER THE EXTENDED REALS. The two branches' outputs `ya`, `yb`, each times the sigmoid of its gate, are added and go
  through the output weight `wo`; `d` is the gradient of that product.
-/
module

public import proofs.«01_k».proof.Proof.Lift2

@[expose] public section

set_option maxRecDepth 16384
set_option maxHeartbeats 800000
set_option backward.proofsInPublic true

noncomputable section

namespace Cert.Merge

open Idealize.ShloMosaic

/-- The sigmoid. -/
def sg (x : EReal) : EReal := Ideal.logistic x

/-- A branch's output: its input by its weight. -/
def up {n : ℕ} (y w : ℕ → ℕ → EReal) (r k : ℕ) : EReal := ∑ j : Fin n, y r j * w j k

section
variable (d wo : ℕ → ℕ → EReal) (g y w : ℕ → ℕ → EReal)

/-- The gradient of the merged rows. -/
def hm (r k : ℕ) : EReal := ∑ j : Fin 1024, d r j * wo k j

/-- The gradient of a branch's output, its gate being `g`. -/
def dy (r k : ℕ) : EReal := sg (g r k) * hm d wo r k

/-- The gradient of the gate `g` of a branch whose output is `y`. -/
def dgt (r k : ℕ) : EReal := hm d wo r k * y r k * (sg (g r k) * (1 - sg (g r k)))

/-- The gradient of a branch's input. -/
def dpre (r c : ℕ) : EReal := ∑ k : Fin 1024, dy d wo g r k * w c k

end

/-- The two gates' gradients beside one another: `p` holds the two gates so. -/
def dgate (d wo p ya yb : ℕ → ℕ → EReal) (r f : ℕ) : EReal :=
  if f < 1024 then dgt d wo p ya r f else dgt d wo (fun r k => p r (1024 + k)) yb r (f - 1024)

end Cert.Merge

end
-- ==== Proof.MrgKer.lean ====
/-
  THE KERNEL'S VALUES of one block of 512 rows of the merge's gradient. Each payload, read at an index, is a
  function of `MrgFn`; a gate comes in two halves of 512 columns.
-/
module

public import proofs.«01_k».proof.Proof.MrgFn
public import proofs.«01_k».proof.Proof.Gen.Kernel4Ideal.Skeleton

@[expose] public section

set_option maxRecDepth 16384
set_option maxHeartbeats 800000
set_option backward.proofsInPublic true

noncomputable section

namespace Cert.Merge.Ker

open Cert.Kernel4Ideal Cert.Kernel4Ideal.Gen Idealize.ShloMosaic Cert.Merge

/-- A block of rows is a function of row and column. -/
abbrev Rows (x : S512x1024.Idx → EReal) (f : ℕ → ℕ → EReal) : Prop := ∀ (r : Fin 512) (c : Fin 1024), x (ix2 r c) = (f r c)
/-- The same of half a gate, from column `o` on, and of the wider branch's input. -/
abbrev RowsG (o : ℕ) (x : S512x512.Idx → EReal) (f : ℕ → ℕ → EReal) : Prop := ∀ (r c : Fin 512), x (ix2 r c) = (f r (o + c))
abbrev RowsB (x : S512x1280.Idx → EReal) (f : ℕ → ℕ → EReal) : Prop := ∀ (r : Fin 512) (c : Fin 1280), x (ix2 r c) = (f r c)
/-- The weights. -/
abbrev Wt (x : S1x1024x1024.Idx → EReal) (f : ℕ → ℕ → EReal) : Prop := ∀ (b : Fin 1) (r c : Fin 1024), x (ix3 b r c) = (f r c)
abbrev WtA (x : S1x1280x1024.Idx → EReal) (f : ℕ → ℕ → EReal) : Prop := ∀ (b : Fin 1) (r : Fin 1280) (c : Fin 1024), x (ix3 b r c) = (f r c)

/-- The two halves of a gate beside one another. -/
theorem halves {r : ℕ} {f : ℕ} {p : ℕ → ℕ → EReal} {o : ℕ} : (if f < 512 then p r (o + f) else p r (o + 512 + (f - 512))) = p r (o + f) := by
  split_ifs with h
  · rfl
  · congr 1; omega

variable {d wo g y w : ℕ → ℕ → EReal} {o : ℕ}

theorem pay5 {v5 v6 : S512x512.Idx → EReal} (h0 : RowsG o v5 g) (h1 : RowsG (o + 512) v6 g) :
    Rows (k0_pay5 (F := Ideal) v5 v6) fun r k => sg (g r (o + k)) := fun r k => by
  show _ = (sg (g r (o + k)))
  rw [← halves (r := r) (f := k) (p := g) (o := o)]
  pointwise [k0_pay5, h0, h1]
  split_ifs <;> rfl

theorem pay6 {v10 v11 : S512x512.Idx → EReal} (h0 : RowsG o v10 g) (h1 : RowsG (o + 512) v11 g) :
    Rows (k0_pay6 (F := Ideal) v10 v11) fun r k => sg (g r (o + k)) := fun r k => by
  show _ = (sg (g r (o + k)))
  rw [← halves (r := r) (f := k) (p := g) (o := o)]
  pointwise [k0_pay6, h0, h1]
  split_ifs <;> rfl

section
variable {v0 : S512x1024.Idx → EReal} {v2 : S1x1024x1024.Idx → EReal} (Hd : Rows v0 d) (Ho : Wt v2 wo)
include Hd Ho

theorem pay4 : Rows (k0_pay4 (F := Ideal) v0 v2) (hm d wo) := fun r k => by
  pointwise [k0_pay4, Hd, Ho]
  rfl

theorem pay7 {v5 v6 : S512x512.Idx → EReal} (h0 : RowsG o v5 g) (h1 : RowsG (o + 512) v6 g) :
    Rows (k0_pay7 (F := Ideal) v0 v2 v5 v6) (dy d wo fun r k => g r (o + k)) := fun r k => by
  pointwise [k0_pay7, pay4 Hd Ho, pay5 h0 h1]
  unfold dy
  ac_rfl

theorem pay8 {v5 v6 : S512x512.Idx → EReal} (h0 : RowsG o v5 g) (h1 : RowsG (o + 512) v6 g) :
    Rows (k0_pay8 (F := Ideal) v0 v2 v5 v6) (dy d wo fun r k => g r (o + k)) := fun r k => by
  pointwise [k0_pay8, pay4 Hd Ho, pay6 h0 h1]
  unfold dy
  ac_rfl

theorem pay9 {v5 v6 : S512x512.Idx → EReal} (h0 : RowsG o v5 g) (h1 : RowsG (o + 512) v6 g) {v21 : S512x1024.Idx → EReal} (Hy : Rows v21 y) :
    Rows (k0_pay9 (F := Ideal) v0 v2 v5 v6 v21) (dgt d wo (fun r k => g r (o + k)) y) := fun r k => by
  pointwise [k0_pay9, pay4 Hd Ho, pay5 h0 h1, Hy]
  unfold dgt
  ac_rfl

theorem pay1 {v5 v6 : S512x512.Idx → EReal} (h0 : RowsG o v5 g) (h1 : RowsG (o + 512) v6 g) {v31 : S512x1024.Idx → EReal} (Hy : Rows v31 y) :
    Rows (k0_pay1 (F := Ideal) (k0_pay4 v0 v2) (k0_pay6 v5 v6) v31) (dgt d wo (fun r k => g r (o + k)) y) := fun r k => by
  pointwise [k0_pay1, pay4 Hd Ho, pay6 h0 h1, Hy]
  unfold dgt
  ac_rfl

end

theorem pay2 {v16 : S512x1024.Idx → EReal} {v41 : S1x1280x1024.Idx → EReal} (Hy : Rows v16 (dy d wo g)) (Hw : WtA v41 w) :
    RowsB (k0_pay2 (F := Ideal) v16 v41) (dpre d wo g w) := fun r k => by
  pointwise [k0_pay2, Hy, Hw]
  rfl

theorem pay3 {v18 : S512x1024.Idx → EReal} {v46 : S1x1024x1024.Idx → EReal} (Hy : Rows v18 (dy d wo g)) (Hw : Wt v46 w) :
    Rows (k0_pay3 (F := Ideal) v18 v46) (dpre d wo g w) := fun r k => by
  pointwise [k0_pay3, Hy, Hw]
  rfl

end Cert.Merge.Ker

end
-- ==== Proof.MrgOut.lean ====
/-
  WHAT A GRID POINT READS AND WRITES: the five results' blocks are the payloads at the point's blocks.
-/
module

public import proofs.«01_k».proof.Proof.MrgKer
public import proofs.«01_k».proof.Proof.Gen.Kernel4Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.Merge.Ker

open Cert.Kernel4Ideal Cert.Kernel4Ideal.Gen Idealize.ShloMosaic Cert.Merge

/-- The blocks a grid point reads, as functions of two indices. -/
structure Blk (x0 : Vec Ideal S512x1024 .f32) (x1 x2 x3 x4 : Vec Ideal S512x512 .bf16) (x5 x6 : Vec Ideal S512x1024 .bf16)
  (x7 : Vec Ideal S1x1280x1024 .bf16) (x8 x9 : Vec Ideal S1x1024x1024 .bf16) (d p ya yb wa wb wo : ℕ → ℕ → EReal) : Prop where
  d : Rows x0 d
  g0 : RowsG 0 x1 p
  g1 : RowsG (0 + 512) x2 p
  g2 : RowsG 1024 x3 p
  g3 : RowsG (1024 + 512) x4 p
  ya : Rows x5 ya
  yb : Rows x6 yb
  wa : WtA x7 wa
  wb : Wt x8 wb
  wo : Wt x9 wo

/-- The first gate starts at column 0. -/
theorem gate0 (p : ℕ → ℕ → EReal) : (fun r k => p r (0 + k)) = p := by
  funext r k
  rw [Nat.zero_add]

variable {x0 : Vec Ideal S512x1024 .f32} {x1 x2 x3 x4 : Vec Ideal S512x512 .bf16} {x5 x6 : Vec Ideal S512x1024 .bf16}
  {x7 : Vec Ideal S1x1280x1024 .bf16} {x8 x9 : Vec Ideal S1x1024x1024 .bf16} {d p ya yb wa wb wo : ℕ → ℕ → EReal} (H : Blk x0 x1 x2 x3 x4 x5 x6 x7 x8 x9 d p ya yb wa wb wo)
include H

theorem bA : Rows (k0_pay7 (F := Ideal) x0 x9 x1 x2) (dy d wo p) := by
  have e := pay7 H.d H.wo H.g0 H.g1
  rwa [gate0] at e

theorem bB : Rows (k0_pay8 (F := Ideal) x0 x9 x3 x4) (dy d wo fun r k => p r (1024 + k)) := pay8 H.d H.wo H.g2 H.g3

theorem bGa : Rows (k0_pay9 (F := Ideal) x0 x9 x1 x2 x5) (dgt d wo p ya) := by
  have e := pay9 H.d H.wo H.g0 H.g1 H.ya
  rwa [gate0] at e

theorem bGb : Rows (k0_pay1 (F := Ideal) (k0_pay4 x0 x9) (k0_pay6 x3 x4) x6) (dgt d wo (fun r k => p r (1024 + k)) yb) :=
  pay1 H.d H.wo H.g2 H.g3 H.yb

theorem out0_10_at (r : Fin 512) (k : Fin 1024) : out0_10 (F := Ideal) x0 x1 x2 x3 x4 x5 x6 x7 x8 x9 (ix2 r k) = (dy d wo p r k) := by
  frame_out
  exact bA H r k

theorem out0_11_at (r : Fin 512) (k : Fin 1024) : out0_11 (F := Ideal) x0 x1 x2 x3 x4 x5 x6 x7 x8 x9 (ix2 r k) = (dy d wo (fun r k => p r (1024 + k)) r k) := by
  frame_out
  exact bB H r k

/-- The block of the gates' gradient: the two gates beside one another. -/
theorem canon12 (y : S512x2048.Idx) :
    View.canon (Val := Elt Ideal) (e := .bf16) [⟨Rect.unit ![0, 1024] ![512, 1024] inb_S512x2048_S512x1024_0_1024, k0_pay1 (k0_pay4 x0 x9) (k0_pay6 x3 x4) x6⟩,
      ⟨Rect.unit ![0, 0] ![512, 1024] inb_S512x2048_S512x1024_0_0, k0_pay9 x0 x9 x1 x2 x5⟩] y
      = (dgate d wo p ya yb (y 0).val (y 1).val) := by
  canon_tiles x h
  · have e := bGb H (x 0) (x 1)
    rw [ix2_eta] at e
    rw [h0, show (y 1).val = 1024 + (x 1).val by omega]
    unfold dgate
    rw [if_neg (by omega), Nat.add_sub_cancel_left]
    exact e
  · have e := bGa H (x 0) (x 1)
    rw [ix2_eta] at e
    have hx : (x 1).val < 1024 := (x 1).isLt
    rw [h0, show (y 1).val = (x 1).val by omega]
    unfold dgate
    rw [if_pos hx]
    exact e

theorem out0_12_at (r : Fin 512) (k : Fin 2048) : out0_12 (F := Ideal) x0 x1 x2 x3 x4 x5 x6 x7 x8 x9 (ix2 r k) = (dgate d wo p ya yb r k) := by
  frame_out
  exact canon12 H (ix2 r k)

theorem out0_13_at (r : Fin 512) (k : Fin 1280) : out0_13 (F := Ideal) x0 x1 x2 x3 x4 x5 x6 x7 x8 x9 (ix2 r k) = (dpre d wo p wa r k) := by
  frame_out
  exact pay2 (bA H) H.wa r k

theorem out0_14_at (r : Fin 512) (k : Fin 1024) : out0_14 (F := Ideal) x0 x1 x2 x3 x4 x5 x6 x7 x8 x9 (ix2 r k) = (dpre d wo (fun r k => p r (1024 + k)) wb r k) := by
  frame_out
  exact pay3 (bB H) H.wb r k

end Cert.Merge.Ker

end
-- ==== Proof.MrgRef.lean ====
/-
  THE REFERENCE'S VALUES: the merge's gradient, all 4096 rows at once.
-/
module

public import proofs.«01_k».proof.Proof.MrgFn
public import proofs.«01_k».proof.Proof.Gen.Reference4Ideal.Read

@[expose] public section

set_option maxRecDepth 16384
set_option maxHeartbeats 800000
set_option backward.proofsInPublic true

noncomputable section

namespace Cert.Merge.Ref

open Cert.Reference4Ideal Cert.Reference4Ideal.Gen Cert.Reference4Ideal.Read Idealize.ShloMosaic Cert.Merge

variable {x0 : S4096x1024.Idx → EReal} {x1 : S4096x6656.Idx → EReal} {x2 : S4096x1280.Idx → EReal} {x3 : S4096x1024.Idx → EReal}
  {x4 : S1280x1024.Idx → EReal} {x5 x6 : S1024x1024.Idx → EReal} {d p a b wa wb wo : ℕ → ℕ → EReal}
  (hd : ∀ (r : Fin 4096) (k : Fin 1024), x0 (ix2 r k) = (d r k))
  (hp : ∀ (r : Fin 4096) (k : ℕ) (hk : k < 2048), x1 (ix2 r ⟨4608 + k, by omega⟩) = (p r k))
  (ha : ∀ (r : Fin 4096) (k : Fin 1280), x2 (ix2 r k) = (a r k))
  (hb : ∀ (r : Fin 4096) (k : Fin 1024), x3 (ix2 r k) = (b r k))
  (hwa : ∀ (k : Fin 1280) (j : Fin 1024), x4 (ix2 k j) = (wa k j))
  (hwb : ∀ (k j : Fin 1024), x5 (ix2 k j) = (wb k j))
  (hwo : ∀ (k j : Fin 1024), x6 (ix2 k j) = (wo k j))

section
include hp

theorem v2 (b : Fin 1) (r : Fin 4096) (k : Fin 1024) : val_main_v2 (F := Ideal) x1 (ix3 b r k) = (p r (k)) := by
  pointwise [val_main_v2, val_main_v1, val_main_v0]
  exact hp r k (by omega)

theorem v17 (b : Fin 1) (r : Fin 4096) (k : Fin 1024) : val_main_v17 (F := Ideal) x1 (ix3 b r k) = (sg (p r (k))) := by
  pointwise [val_main_v17, val_main_v16, val_main_cst_0, val_main_v15, val_main_v14, val_main_cst, val_main_v13, val_main_v12, v2 hp]
  rfl

theorem v20 (b : Fin 1) (r : Fin 4096) (k : Fin 1024) : val_main_v20 (F := Ideal) x1 (ix3 b r k) = (sg (p r (k)) * (1 - sg (p r (k)))) := by
  pointwise [val_main_v20, val_main_v19, val_main_v18, val_main_cst_1, v17 hp]

theorem v5 (b : Fin 1) (r : Fin 4096) (k : Fin 1024) : val_main_v5 (F := Ideal) x1 (ix3 b r k) = (p r (1024 + k)) := by
  pointwise [val_main_v5, val_main_v4, val_main_v3]
  exact (congrArg (fun z => x1 (ix2 r z)) (Fin.ext (by show 5632 + k.val = 4608 + (1024 + k.val); omega))).trans (hp r (1024 + k) (by omega))

theorem v27 (b : Fin 1) (r : Fin 4096) (k : Fin 1024) : val_main_v27 (F := Ideal) x1 (ix3 b r k) = (sg (p r (1024 + k))) := by
  pointwise [val_main_v27, val_main_v26, val_main_cst_3, val_main_v25, val_main_v24, val_main_cst_2, val_main_v23, val_main_v22, v5 hp]
  rfl

theorem v30 (b : Fin 1) (r : Fin 4096) (k : Fin 1024) : val_main_v30 (F := Ideal) x1 (ix3 b r k) = (sg (p r (1024 + k)) * (1 - sg (p r (1024 + k)))) := by
  pointwise [val_main_v30, val_main_v29, val_main_v28, val_main_cst_4, v27 hp]

end

section
include ha hwa
theorem v8 (e : Fin 1) (r : Fin 4096) (k : Fin 1024) : val_main_v8 (F := Ideal) x2 x4 (ix3 e r k) = (up (n := 1280) a wa r k) := by
  pointwise [val_main_v8, val_main_v7, val_main_v6, ha, hwa]
  rfl
end

section
include hb hwb
theorem v11 (e : Fin 1) (r : Fin 4096) (k : Fin 1024) : val_main_v11 (F := Ideal) x3 x5 (ix3 e r k) = (up (n := 1024) b wb r k) := by
  pointwise [val_main_v11, val_main_v10, val_main_v9, hb, hwb]
  rfl
end

section
include hd hwo
theorem v37 (e : Fin 1) (r : Fin 4096) (k : Fin 1024) : val_main_v37 (F := Ideal) x0 x6 (ix3 e r k) = (hm d wo r k) := by
  pointwise [val_main_v37, val_main_v34, hd, hwo]
  rfl

include hp

theorem v41 (e : Fin 1) (r : Fin 4096) (k : Fin 1024) : val_main_v41 (F := Ideal) x0 x1 x6 (ix3 e r k) = (dy d wo p r k) := by
  pointwise [val_main_v41, v17 hp, v37 hd hwo]
  rfl

theorem v38 (e : Fin 1) (r : Fin 4096) (k : Fin 1024) :
    val_main_v38 (F := Ideal) x0 x1 x6 (ix3 e r k) = (dy d wo (fun r k => p r (1024 + k)) r k) := by
  pointwise [val_main_v38, v27 hp, v37 hd hwo]
  rfl

theorem v55 (r : Fin 4096) (k : Fin 1024) : val_main_v55 (F := Ideal) x0 x1 x6 (ix2 r k) = (dy d wo p r k) := by
  pointwise [val_main_v55, val_main_v54, v41 hd hp hwo]

theorem v57 (r : Fin 4096) (k : Fin 1024) :
    val_main_v57 (F := Ideal) x0 x1 x6 (ix2 r k) = (dy d wo (fun r k => p r (1024 + k)) r k) := by
  pointwise [val_main_v57, val_main_v56, v38 hd hp hwo]

end

section
include hd hp hwa hwo
theorem v59 (r : Fin 4096) (k : Fin 1280) : val_main_v59 (F := Ideal) x0 x1 x4 x6 (ix2 r k) = (dpre d wo p wa r k) := by
  pointwise [val_main_v59, val_main_v58, val_main_v46, v41 hd hp hwo, hwa]
  rfl
end

section
include hd hp hwb hwo
theorem v61 (r : Fin 4096) (k : Fin 1024) :
    val_main_v61 (F := Ideal) x0 x1 x5 x6 (ix2 r k) = (dpre d wo (fun r k => p r (1024 + k)) wb r k) := by
  pointwise [val_main_v61, val_main_v60, val_main_v49, v38 hd hp hwo, hwb]
  rfl
end

section
include hd hp ha hb hwa hwb hwo
theorem v53 (r : Fin 4096) (f : Fin 2048) : val_main_v53 (F := Ideal) x0 x1 x2 x3 x4 x5 x6 (ix2 r f)
    = (dgate d wo p (up (n := 1280) a wa) (up (n := 1024) b wb) r f) := by
  pointwise [val_main_v53, val_main_v52, val_main_v50, val_main_v43, val_main_v42, val_main_v51, val_main_v40, val_main_v39, v37 hd hwo, v8 ha hwa,
    v11 hb hwb, v20 hp, v30 hp]
  unfold dgate
  split_ifs <;> rfl
end

end Cert.Merge.Ref

end
-- ==== Proof.MrgArgs.lean ====
/-
  WHAT A GRID POINT READS: point `t` reads rows `512 t …` of the gradient, of the
  gates and of the branches' outputs (which the host computes), and the whole weights.
-/
module

public import proofs.«01_k».proof.Proof.MrgOut
public import proofs.«01_k».proof.Proof.MrgRef
public import Idealize.ShloMosaic.Lib.StableHlo.ReadAt

@[expose] public section

set_option maxRecDepth 16384
set_option maxHeartbeats 800000
set_option backward.proofsInPublic true

noncomputable section

namespace Cert.Merge.Ker

open Cert.Kernel4Ideal Cert.Kernel4Ideal.Gen Cert.Kernel4Ideal.Value Idealize.ShloMosaic Idealize.ShloMosaic.TcCoe Cert.Merge

/-- The rows from `512 q` on. -/
def sh (q : ℕ) (x : ℕ → ℕ → EReal) : ℕ → ℕ → EReal := fun r c => x (512 * q + r) c

/-- The block index of each input window at point `t`. -/
theorem idx_in : ∀ t : Fin cfg0.N, win0_0.index t = ![t.val, 0] ∧ win0_1.index t = ![t.val, 9] ∧ win0_2.index t = ![t.val, 10]
    ∧ win0_3.index t = ![t.val, 11] ∧ win0_4.index t = ![t.val, 12] ∧ win0_5.index t = ![t.val, 0] ∧ win0_6.index t = ![t.val, 0]
    ∧ win0_7.index t = ![0, 0, 0] ∧ win0_8.index t = ![0, 0, 0] ∧ win0_9.index t = ![0, 0, 0] :=
  (by decide +kernel : ∀ t : Fin grid0.N, _)

/-- A branch's output from a row of its input and a column of its weight. -/
theorem up_host {n : ℕ} {y w : ℕ → ℕ → EReal} (r k : ℕ) (Y W : Fin n → EReal) (hY : ∀ j, Y j = (y r j))
    (hW : ∀ j, W j = (w j k)) : ∑ j : Fin n, Y j * W j = (up (n := n) y w r k) := by
  pointwise [hY, hW]
  rfl

variable (m : (ℓ : Loc nD τ sig) → Buf (Elt Ideal) ℓ) (c : Dev nD)

theorem blk0 (t : Fin cfg0.N) (r : Fin 512) (k : Fin 1024) :
    iblk m c 0 t (ix2 r k) = m ((c : Thread nD τ).loc main_arg0) (ix2 ⟨512 * t.val + r.val, by have := lt_of_lt_of_eq t.isLt N_0; omega⟩ k) := by
  blk_ext [iblk, V, (idx_in t).1]

theorem blk1 (t : Fin cfg0.N) (r k : Fin 512) :
    iblk m c 1 t (ix2 r k) = m ((c : Thread nD τ).loc main_arg1) (ix2 ⟨512 * t.val + r.val, by have := lt_of_lt_of_eq t.isLt N_0; omega⟩ ⟨4608 + k.val, by omega⟩) := by
  blk_ext [iblk, V, (idx_in t).2.1]

theorem blk2 (t : Fin cfg0.N) (r k : Fin 512) :
    iblk m c 2 t (ix2 r k) = m ((c : Thread nD τ).loc main_arg1) (ix2 ⟨512 * t.val + r.val, by have := lt_of_lt_of_eq t.isLt N_0; omega⟩ ⟨5120 + k.val, by omega⟩) := by
  blk_ext [iblk, V, (idx_in t).2.2.1]

theorem blk3 (t : Fin cfg0.N) (r k : Fin 512) :
    iblk m c 3 t (ix2 r k) = m ((c : Thread nD τ).loc main_arg1) (ix2 ⟨512 * t.val + r.val, by have := lt_of_lt_of_eq t.isLt N_0; omega⟩ ⟨5632 + k.val, by omega⟩) := by
  blk_ext [iblk, V, (idx_in t).2.2.2.1]

theorem blk4 (t : Fin cfg0.N) (r k : Fin 512) :
    iblk m c 4 t (ix2 r k) = m ((c : Thread nD τ).loc main_arg1) (ix2 ⟨512 * t.val + r.val, by have := lt_of_lt_of_eq t.isLt N_0; omega⟩ ⟨6144 + k.val, by omega⟩) := by
  blk_ext [iblk, V, (idx_in t).2.2.2.2.1]

theorem blk7 (t : Fin cfg0.N) (b : Fin 1) (k : Fin 1280) (j : Fin 1024) :
    iblk m c 7 t (ix3 b k j) = m ((c : Thread nD τ).loc main_arg4) (ix2 k j) := by
  have e : ((win0_7.blk t).view.emb (ix3 b k j) : S1x1280x1024.Idx) = ix3 b k j := by blk_ext [(idx_in t).2.2.2.2.2.2.2.1]
  show V m c main_v11 ((win0_7.blk t).view.emb (ix3 b k j)) = _
  rw [e]
  unfold V
  simp only [hostOps0]
  after_reads_at

theorem blk8 (t : Fin cfg0.N) (b : Fin 1) (k : Fin 1024) (j : Fin 1024) :
    iblk m c 8 t (ix3 b k j) = m ((c : Thread nD τ).loc main_arg5) (ix2 k j) := by
  have e : ((win0_8.blk t).view.emb (ix3 b k j) : S1x1024x1024.Idx) = ix3 b k j := by blk_ext [(idx_in t).2.2.2.2.2.2.2.2.1]
  show V m c main_v13 ((win0_8.blk t).view.emb (ix3 b k j)) = _
  rw [e]
  unfold V
  simp only [hostOps0]
  after_reads_at

theorem blk9 (t : Fin cfg0.N) (b : Fin 1) (k : Fin 1024) (j : Fin 1024) :
    iblk m c 9 t (ix3 b k j) = m ((c : Thread nD τ).loc main_arg6) (ix2 k j) := by
  have e : ((win0_9.blk t).view.emb (ix3 b k j) : S1x1024x1024.Idx) = ix3 b k j := by blk_ext [(idx_in t).2.2.2.2.2.2.2.2.2]
  show V m c main_v15 ((win0_9.blk t).view.emb (ix3 b k j)) = _
  rw [e]
  unfold V
  simp only [hostOps0]
  after_reads_at

variable {m c} {d p a b wa wb wo : ℕ → ℕ → EReal}
  (hd : ∀ (r : Fin 4096) (k : Fin 1024), m ((c : Thread nD τ).loc main_arg0) (ix2 r k) = (d r k))
  (hp : ∀ (r : Fin 4096) (k : ℕ) (hk : k < 2048), m ((c : Thread nD τ).loc main_arg1) (ix2 r ⟨4608 + k, by omega⟩) = (p r k))
  (ha : ∀ (r : Fin 4096) (k : Fin 1280), m ((c : Thread nD τ).loc main_arg2) (ix2 r k) = (a r k))
  (hb : ∀ (r : Fin 4096) (k : Fin 1024), m ((c : Thread nD τ).loc main_arg3) (ix2 r k) = (b r k))
  (hwa : ∀ (k : Fin 1280) (j : Fin 1024), m ((c : Thread nD τ).loc main_arg4) (ix2 k j) = (wa k j))
  (hwb : ∀ (k j : Fin 1024), m ((c : Thread nD τ).loc main_arg5) (ix2 k j) = (wb k j))
  (hwo : ∀ (k j : Fin 1024), m ((c : Thread nD τ).loc main_arg6) (ix2 k j) = (wo k j))

section
include ha hwa
theorem blk5 (t : Fin cfg0.N) (r : Fin 512) (k : Fin 1024) :
    iblk m c 5 t (ix2 r k) = (up (n := 1280) a wa (512 * t.val + r) k) := by
  have hN : cfg0.N = 8 := N_0
  have e : ((win0_5.blk t).view.emb (ix2 r k) : S4096x1024.Idx) = ix2 ⟨512 * t.val + r.val, by have := lt_of_lt_of_eq t.isLt N_0; omega⟩ k := by blk_ext [(idx_in t).2.2.2.2.2.1]
  show V m c main_v4 ((win0_5.blk t).view.emb (ix2 r k)) = _
  rw [e]
  unfold V
  simp only [hostOps0]
  after_reads_at
  exact up_host (512 * t.val + r.val) k.val (fun j : Fin 1280 => m ((c : Thread nD τ).loc main_arg2) (ix2 ⟨512 * t.val + r.val, by have := lt_of_lt_of_eq t.isLt N_0; omega⟩ j)) (fun j => m ((c : Thread nD τ).loc main_arg4) (ix2 j k)) (fun j => ha _ j) (fun j => hwa j k)
end

section
include hb hwb
theorem blk6 (t : Fin cfg0.N) (r : Fin 512) (k : Fin 1024) :
    iblk m c 6 t (ix2 r k) = (up (n := 1024) b wb (512 * t.val + r) k) := by
  have hN : cfg0.N = 8 := N_0
  have e : ((win0_6.blk t).view.emb (ix2 r k) : S4096x1024.Idx) = ix2 ⟨512 * t.val + r.val, by have := lt_of_lt_of_eq t.isLt N_0; omega⟩ k := by blk_ext [(idx_in t).2.2.2.2.2.2.1]
  show V m c main_v9 ((win0_6.blk t).view.emb (ix2 r k)) = _
  rw [e]
  unfold V
  simp only [hostOps0]
  after_reads_at
  exact up_host (512 * t.val + r.val) k.val (fun j : Fin 1024 => m ((c : Thread nD τ).loc main_arg3) (ix2 ⟨512 * t.val + r.val, by have := lt_of_lt_of_eq t.isLt N_0; omega⟩ j)) (fun j => m ((c : Thread nD τ).loc main_arg5) (ix2 j k)) (fun j => hb _ j) (fun j => hwb j k)
end

include hd hp ha hb hwa hwb hwo

/-- What point `t` reads. -/
theorem blk (t : Fin cfg0.N) : Blk (iblk m c 0 t) (iblk m c 1 t) (iblk m c 2 t) (iblk m c 3 t) (iblk m c 4 t) (iblk m c 5 t) (iblk m c 6 t) (iblk m c 7 t) (iblk m c 8 t) (iblk m c 9 t)
    (sh t.val d) (sh t.val p) (sh t.val (up (n := 1280) a wa)) (sh t.val (up (n := 1024) b wb)) wa wb wo where
  d r k := (blk0 m c t r k).trans (hd _ _)
  g0 r k := by
    refine (blk1 m c t r k).trans ?_
    rw [Nat.zero_add]
    exact hp _ k.val (by omega)
  g1 r k := (blk2 m c t r k).trans ((congrArg (fun z => m ((c : Thread nD τ).loc main_arg1) (ix2 ⟨512 * t.val + r.val, by have := lt_of_lt_of_eq t.isLt N_0; omega⟩ z))
    (Fin.ext (by show 5120 + k.val = 4608 + (0 + 512 + k.val); omega))).trans (hp _ (0 + 512 + k.val) (by omega)))
  g2 r k := (blk3 m c t r k).trans ((congrArg (fun z => m ((c : Thread nD τ).loc main_arg1) (ix2 ⟨512 * t.val + r.val, by have := lt_of_lt_of_eq t.isLt N_0; omega⟩ z))
    (Fin.ext (by show 5632 + k.val = 4608 + (1024 + k.val); omega))).trans (hp _ (1024 + k.val) (by omega)))
  g3 r k := (blk4 m c t r k).trans ((congrArg (fun z => m ((c : Thread nD τ).loc main_arg1) (ix2 ⟨512 * t.val + r.val, by have := lt_of_lt_of_eq t.isLt N_0; omega⟩ z))
    (Fin.ext (by show 6144 + k.val = 4608 + (1024 + 512 + k.val); omega))).trans (hp _ (1024 + 512 + k.val) (by omega)))
  ya r k := blk5 ha hwa t r k
  yb r k := blk6 hb hwb t r k
  wa b k j := (blk7 m c t b k j).trans (hwa _ _)
  wb b k j := (blk8 m c t b k j).trans (hwb _ _)
  wo b k j := (blk9 m c t b k j).trans (hwo _ _)

end Cert.Merge.Ker

end
-- ==== Proof.MrgVal.lean ====
/-
  THE FIVE RESULTS of the kernel's run are the reference's.
-/
module

public import proofs.«01_k».proof.Proof.MrgArgs

@[expose] public section

set_option maxRecDepth 16384
set_option maxHeartbeats 800000
set_option backward.proofsInPublic true

noncomputable section

namespace Cert.Merge.Ker

open Cert.Kernel4Ideal Cert.Kernel4Ideal.Gen Cert.Kernel4Ideal.Value Idealize.ShloMosaic Idealize.ShloMosaic.TcCoe Cert.Merge

/-- The block index of each output window at point `t`. -/
theorem idx_out : ∀ t : Fin cfg0.N, win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

section shift

variable (d p ya yb wa wo : ℕ → ℕ → EReal) (q : ℕ)

theorem hm_sh (r k : ℕ) : hm (sh q d) wo r k = hm d wo (512 * q + r) k := by
  unfold hm sh
  rfl
theorem dy_sh (r k : ℕ) : dy (sh q d) wo (sh q p) r k = dy d wo p (512 * q + r) k := by
  unfold dy
  rw [hm_sh]
  rfl
theorem dgt_sh (r k : ℕ) : dgt (sh q d) wo (sh q p) (sh q ya) r k = dgt d wo p ya (512 * q + r) k := by
  unfold dgt
  rw [hm_sh]
  rfl
theorem dpre_sh (r k : ℕ) : dpre (sh q d) wo (sh q p) wa r k = dpre d wo p wa (512 * q + r) k := by
  unfold dpre
  refine Finset.sum_congr rfl fun j _ => ?_
  rw [dy_sh]
theorem gate_sh : (fun r k => sh q p r (1024 + k)) = sh q (fun r k => p r (1024 + k)) := rfl
theorem dgate_sh (r k : ℕ) : dgate (sh q d) wo (sh q p) (sh q ya) (sh q yb) r k = dgate d wo p ya yb (512 * q + r) k := by
  unfold dgate
  rw [gate_sh, dgt_sh, dgt_sh]

end shift

variable {m : (ℓ : Loc nD τ sig) → Buf (Elt Ideal) ℓ} {c : Dev nD} {d p a b wa wb wo : ℕ → ℕ → EReal}
  (hd : ∀ (r : Fin 4096) (k : Fin 1024), m ((c : Thread nD τ).loc main_arg0) (ix2 r k) = (d r k))
  (hp : ∀ (r : Fin 4096) (k : ℕ) (hk : k < 2048), m ((c : Thread nD τ).loc main_arg1) (ix2 r ⟨4608 + k, by omega⟩) = (p r k))
  (ha : ∀ (r : Fin 4096) (k : Fin 1280), m ((c : Thread nD τ).loc main_arg2) (ix2 r k) = (a r k))
  (hb : ∀ (r : Fin 4096) (k : Fin 1024), m ((c : Thread nD τ).loc main_arg3) (ix2 r k) = (b r k))
  (hwa : ∀ (k : Fin 1280) (j : Fin 1024), m ((c : Thread nD τ).loc main_arg4) (ix2 k j) = (wa k j))
  (hwb : ∀ (k j : Fin 1024), m ((c : Thread nD τ).loc main_arg5) (ix2 k j) = (wb k j))
  (hwo : ∀ (k j : Fin 1024), m ((c : Thread nD τ).loc main_arg6) (ix2 k j) = (wo k j))
include hd hp ha hb hwa hwb hwo

theorem r10 : (dats m 0 c).arrAt 10 cfg0.N = Cert.Reference4Ideal.Read.val_main_v55 (F := Ideal) (m ((c : Thread nD τ).loc main_arg0)) (m ((c : Thread nD τ).loc main_arg1)) (m ((c : Thread nD τ).loc main_arg6)) := by
  have hN : cfg0.N = 8 := N_0
  refine (dats m 0 c).arrAt_eq_of_cover 10 _ (fun t hf => ?_) (fun i => ?_)
  · rw [flushed10]
    funext y
    obtain ⟨r, k, rfl⟩ : ∃ r k, y = ix2 (n0 := 512) (n1 := 1024) r k := ⟨y 0, y 1, (ix2_eta y).symm⟩
    have e : ((win0_10.blk t).view.emb (ix2 r k) : S4096x1024.Idx) = ix2 ⟨512 * t.val + r.val, by have := lt_of_lt_of_eq t.isLt N_0; omega⟩ k := by
      blk_ext [(idx_out t).1]
    show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = Cert.Reference4Ideal.Read.val_main_v55 (F := Ideal) (m ((c : Thread nD τ).loc main_arg0)) (m ((c : Thread nD τ).loc main_arg1)) (m ((c : Thread nD τ).loc main_arg6)) ((win0_10.blk t).view.emb (ix2 r k))
    rw [e]
    have v := out0_10_at (blk hd hp ha hb hwa hwb hwo t) r k
    rw [dy_sh] at v
    exact v.trans (Ref.v55 hd hp hwo ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_10 _, ?_⟩
    have e : ((win0_10.blk t).view.emb (ix2 ⟨r.val % 512, by omega⟩ k) : S4096x1024.Idx) = ix2 r k := by
      blk_ext [(idx_out t).1, ht]
    rw [← e]
    exact View.emb_mem_set _ _

theorem r11 : (dats m 0 c).arrAt 11 cfg0.N = Cert.Reference4Ideal.Read.val_main_v57 (F := Ideal) (m ((c : Thread nD τ).loc main_arg0)) (m ((c : Thread nD τ).loc main_arg1)) (m ((c : Thread nD τ).loc main_arg6)) := by
  have hN : cfg0.N = 8 := N_0
  refine (dats m 0 c).arrAt_eq_of_cover 11 _ (fun t hf => ?_) (fun i => ?_)
  · rw [flushed11]
    funext y
    obtain ⟨r, k, rfl⟩ : ∃ r k, y = ix2 (n0 := 512) (n1 := 1024) r k := ⟨y 0, y 1, (ix2_eta y).symm⟩
    have e : ((win0_11.blk t).view.emb (ix2 r k) : S4096x1024.Idx) = ix2 ⟨512 * t.val + r.val, by have := lt_of_lt_of_eq t.isLt N_0; omega⟩ k := by
      blk_ext [(idx_out t).2.1]
    show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = Cert.Reference4Ideal.Read.val_main_v57 (F := Ideal) (m ((c : Thread nD τ).loc main_arg0)) (m ((c : Thread nD τ).loc main_arg1)) (m ((c : Thread nD τ).loc main_arg6)) ((win0_11.blk t).view.emb (ix2 r k))
    rw [e]
    have v := out0_11_at (blk hd hp ha hb hwa hwb hwo t) r k
    rw [gate_sh, dy_sh] at v
    exact v.trans (Ref.v57 hd hp hwo ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_11 _, ?_⟩
    have e : ((win0_11.blk t).view.emb (ix2 ⟨r.val % 512, by omega⟩ k) : S4096x1024.Idx) = ix2 r k := by
      blk_ext [(idx_out t).2.1, ht]
    rw [← e]
    exact View.emb_mem_set _ _

theorem r12 : (dats m 0 c).arrAt 12 cfg0.N = Cert.Reference4Ideal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hN : cfg0.N = 8 := N_0
  refine (dats m 0 c).arrAt_eq_of_cover 12 _ (fun t hf => ?_) (fun i => ?_)
  · rw [flushed12]
    funext y
    obtain ⟨r, k, rfl⟩ : ∃ r k, y = ix2 (n0 := 512) (n1 := 2048) r k := ⟨y 0, y 1, (ix2_eta y).symm⟩
    have e : ((win0_12.blk t).view.emb (ix2 r k) : S4096x2048.Idx) = ix2 ⟨512 * t.val + r.val, by have := lt_of_lt_of_eq t.isLt N_0; omega⟩ k := by
      blk_ext [(idx_out t).2.2.1]
    show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = Cert.Reference4Ideal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_12.blk t).view.emb (ix2 r k))
    rw [e]
    have v := out0_12_at (blk hd hp ha hb hwa hwb hwo t) r k
    rw [dgate_sh] at v
    exact v.trans (Ref.v53 hd hp ha hb hwa hwb hwo ⟨512 * t.val + r.val, by have := lt_of_lt_of_eq t.isLt N_0; omega⟩ k).symm
  · obtain ⟨r, k, rfl⟩ : ∃ r k, i = ix2 (n0 := 4096) (n1 := 2048) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_12 _, ?_⟩
    have e : ((win0_12.blk t).view.emb (ix2 ⟨r.val % 512, by omega⟩ k) : S4096x2048.Idx) = ix2 r k := by
      blk_ext [(idx_out t).2.2.1, ht]
    rw [← e]
    exact View.emb_mem_set _ _

theorem r13 : (dats m 0 c).arrAt 13 cfg0.N = Cert.Reference4Ideal.Read.val_main_v59 (F := Ideal) (m ((c : Thread nD τ).loc main_arg0)) (m ((c : Thread nD τ).loc main_arg1)) (m ((c : Thread nD τ).loc main_arg4)) (m ((c : Thread nD τ).loc main_arg6)) := by
  have hN : cfg0.N = 8 := N_0
  refine (dats m 0 c).arrAt_eq_of_cover 13 _ (fun t hf => ?_) (fun i => ?_)
  · rw [flushed13]
    funext y
    obtain ⟨r, k, rfl⟩ : ∃ r k, y = ix2 (n0 := 512) (n1 := 1280) r k := ⟨y 0, y 1, (ix2_eta y).symm⟩
    have e : ((win0_13.blk t).view.emb (ix2 r k) : S4096x1280.Idx) = ix2 ⟨512 * t.val + r.val, by have := lt_of_lt_of_eq t.isLt N_0; omega⟩ k := by
      blk_ext [(idx_out t).2.2.2.1]
    show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = Cert.Reference4Ideal.Read.val_main_v59 (F := Ideal) (m ((c : Thread nD τ).loc main_arg0)) (m ((c : Thread nD τ).loc main_arg1)) (m ((c : Thread nD τ).loc main_arg4)) (m ((c : Thread nD τ).loc main_arg6)) ((win0_13.blk t).view.emb (ix2 r k))
    rw [e]
    have v := out0_13_at (blk hd hp ha hb hwa hwb hwo t) r k
    rw [dpre_sh] at v
    exact v.trans (Ref.v59 hd hp hwa hwo ⟨512 * t.val + r.val, by have := lt_of_lt_of_eq t.isLt N_0; omega⟩ k).symm
  · obtain ⟨r, k, rfl⟩ : ∃ r k, i = ix2 (n0 := 4096) (n1 := 1280) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_13 _, ?_⟩
    have e : ((win0_13.blk t).view.emb (ix2 ⟨r.val % 512, by omega⟩ k) : S4096x1280.Idx) = ix2 r k := by
      blk_ext [(idx_out t).2.2.2.1, ht]
    rw [← e]
    exact View.emb_mem_set _ _

theorem r14 : (dats m 0 c).arrAt 14 cfg0.N = Cert.Reference4Ideal.Read.val_main_v61 (F := Ideal) (m ((c : Thread nD τ).loc main_arg0)) (m ((c : Thread nD τ).loc main_arg1)) (m ((c : Thread nD τ).loc main_arg5)) (m ((c : Thread nD τ).loc main_arg6)) := by
  have hN : cfg0.N = 8 := N_0
  refine (dats m 0 c).arrAt_eq_of_cover 14 _ (fun t hf => ?_) (fun i => ?_)
  · rw [flushed14]
    funext y
    obtain ⟨r, k, rfl⟩ : ∃ r k, y = ix2 (n0 := 512) (n1 := 1024) r k := ⟨y 0, y 1, (ix2_eta y).symm⟩
    have e : ((win0_14.blk t).view.emb (ix2 r k) : S4096x1024.Idx) = ix2 ⟨512 * t.val + r.val, by have := lt_of_lt_of_eq t.isLt N_0; omega⟩ k := by
      blk_ext [(idx_out t).2.2.2.2]
    show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r k) = Cert.Reference4Ideal.Read.val_main_v61 (F := Ideal) (m ((c : Thread nD τ).loc main_arg0)) (m ((c : Thread nD τ).loc main_arg1)) (m ((c : Thread nD τ).loc main_arg5)) (m ((c : Thread nD τ).loc main_arg6)) ((win0_14.blk t).view.emb (ix2 r k))
    rw [e]
    have v := out0_14_at (blk hd hp ha hb hwa hwb hwo t) r k
    rw [gate_sh, dpre_sh] at v
    exact v.trans (Ref.v61 hd hp hwb hwo ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_14 _, ?_⟩
    have e : ((win0_14.blk t).view.emb (ix2 ⟨r.val % 512, by omega⟩ k) : S4096x1024.Idx) = ix2 r k := by
      blk_ext [(idx_out t).2.2.2.2, ht]
    rw [← e]
    exact View.emb_mem_set _ _

end Cert.Merge.Ker

end
-- ==== Proof.MrgAlg.lean ====
/-
  THE ALGEBRAIC CLAIM of the merge's backward pass: its run's five results are the reference's.
-/
module

public import proofs.«01_k».proof.Defs
public import proofs.«01_k».proof.Proof.MrgVal
public import proofs.«01_k».proof.Proof.Arr
public import proofs.«01_k».proof.Proof.Gen.Reference4Ideal.Run
public import Idealize.ShloMosaic.Lib.Quiescent
public import Idealize.ShloMosaic.Adequacy
public import Idealize.ShloMosaic.Init

@[expose] public section

set_option backward.proofsInPublic true
set_option maxRecDepth 16384

noncomputable section

namespace Cert.Merge

open Idealize.ShloMosaic Idealize.ShloMosaic.TcCoe Idealize.SL.Sem Cert.Arr Cert.Kernel4Ideal Cert.Merge.Ker

/-- The two gates, columns 4608 to 6655 of the projection, extended by zero. -/
def gates (x : S4096x6656.Idx → EReal) : ℕ → ℕ → EReal :=
  arr2 fun (r : Fin 4096) (k : Fin 2048) => x (ix2 r ⟨4608 + k.val, by omega⟩)

theorem gates_apply (x : S4096x6656.Idx → EReal) (r : Fin 4096) (k : ℕ) (hk : k < 2048) : x (ix2 r ⟨4608 + k, by omega⟩) = gates x r k :=
  arr2_apply (fun (r : Fin 4096) (k : Fin 2048) => x (ix2 r ⟨4608 + k.val, by omega⟩)) r ⟨k, hk⟩

/-- The kernel's five results are the reference's. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨_, _, _, _, _, Cert.Kernel4Ideal.Value.run_blocks m g, ?_⟩
  refine (θ_run _ _ _).mono (fun r h (c : Dev nD) => ?_) (Cert.Reference4Ideal.Value.run m' g')
  have q0 := arr2_apply fun (r : Fin 4096) (k : Fin 1024) => m ((c : Thread nD τ).loc main_arg0) (ix2 r k)
  have q1 := gates_apply (m ((c : Thread nD τ).loc main_arg1))
  have q2 := arr2_apply fun (r : Fin 4096) (k : Fin 1280) => m ((c : Thread nD τ).loc main_arg2) (ix2 r k)
  have q3 := arr2_apply fun (r : Fin 4096) (k : Fin 1024) => m ((c : Thread nD τ).loc main_arg3) (ix2 r k)
  have q4 := arr2_apply fun (r : Fin 1280) (k : Fin 1024) => m ((c : Thread nD τ).loc main_arg4) (ix2 r k)
  have q5 := arr2_apply fun (r : Fin 1024) (k : Fin 1024) => m ((c : Thread nD τ).loc main_arg5) (ix2 r k)
  have q6 := arr2_apply fun (r : Fin 1024) (k : Fin 1024) => m ((c : Thread nD τ).loc main_arg6) (ix2 r k)
  obtain ⟨a0, a1, a2, a3, a4, a5, a6⟩ := hagree c
  obtain ⟨h0, h1, h2, h3, h4, hk⟩ := h c
  refine ⟨h0.trans ?_, h1.trans ?_, h2.trans ?_, h3.trans ?_, h4.trans ?_, hk⟩
  · refine (Cert.Reference4Ideal.Read.val_main_v55_eq _ _ _).trans ?_
    rw [r10 q0 q1 q2 q3 q4 q5 q6, ← a0, ← a1, ← a6]
  · refine (Cert.Reference4Ideal.Read.val_main_v57_eq _ _ _).trans ?_
    rw [r11 q0 q1 q2 q3 q4 q5 q6, ← a0, ← a1, ← a6]
  · refine (Cert.Reference4Ideal.Read.val_main_v53_eq _ _ _ _ _ _ _).trans ?_
    rw [r12 q0 q1 q2 q3 q4 q5 q6, ← a0, ← a1, ← a2, ← a3, ← a4, ← a5, ← a6]
  · refine (Cert.Reference4Ideal.Read.val_main_v59_eq _ _ _ _).trans ?_
    rw [r13 q0 q1 q2 q3 q4 q5 q6, ← a0, ← a1, ← a4, ← a6]
  · refine (Cert.Reference4Ideal.Read.val_main_v61_eq _ _ _ _).trans ?_
    rw [r14 q0 q1 q2 q3 q4 q5 q6, ← a0, ← a1, ← a5, ← a6]

/-- The reference runs, keeps its arguments and leaves every counter at zero: it has none. -/
theorem reference_frame : Cert.quiescent_Reference4Ideal (hReference4Ideal := Cert.Reference4Ideal.Gen.facts) := fun m ρ _ =>
  (θ_run _ _ _).mono (fun r h => And.intro (fun c => (h c).2.2.2.2.2) (sem_eq_zero_of_no_sems rfl r.2)) (Cert.Reference4Ideal.Value.run m ρ)

end Cert.Merge

end
-- ==== Proof.FffKer.lean ====
/-
  THE FEED-FORWARD'S FORWARD PASS, and its kernel's payloads: each, read at an index, is a function of the normed rows and the two weights.
-/
module

public import proofs.«01_k».proof.Proof.FfnKer
public import proofs.«01_k».proof.Proof.Gen.Kernel5Ideal.Skeleton

@[expose] public section

set_option maxRecDepth 16384
set_option maxHeartbeats 800000
set_option backward.proofsInPublic true

noncomputable section

namespace Cert.FfnF

open Idealize.ShloMosaic Cert.Ffn

section
variable (h x : ℕ → ℕ → EReal) (g : ℕ → EReal) (wu wd : ℕ → ℕ → EReal)

/-- The normed, scaled row. -/
def hn (r k : ℕ) : EReal := nrm x r k * g k

/-- The preactivations from the normed, scaled rows. -/
def pr (r f : ℕ) : EReal := ∑ k : Fin 1024, h r k * wu k f

/-- The squared positive part. -/
def act (r f : ℕ) : EReal := max (pr h wu r f) 0 * max (pr h wu r f) 0

/-- The row after the sublayer. -/
def out (r k : ℕ) : EReal := x r k + ∑ f : Fin 4096, act h wu r f * wd f k

end

namespace Ker

open Cert.Kernel5Ideal Cert.Kernel5Ideal.Gen

/-- A block of rows is a function of row and column. -/
abbrev Rows (x : S512x1024.Idx → EReal) (f : ℕ → ℕ → EReal) : Prop := ∀ (r : Fin 512) (c : Fin 1024), x (ix2 r c) = f r c
/-- A quarter of the second product's weights, from row `o` on. -/
abbrev DownQ (o : ℕ) (w : S1x1024x1024.Idx → EReal) (wd : ℕ → ℕ → EReal) : Prop :=
  ∀ (a : Fin 1) (f k : Fin 1024), w (ix3 a f k) = wd (o + f) k
/-- A quarter of the first product's weights, from column `o` on. -/
abbrev UpQ (o : ℕ) (w : S1x1x1024x1024.Idx → EReal) (wu : ℕ → ℕ → EReal) : Prop :=
  ∀ (a b : Fin 1) (c f : Fin 1024), w (ix4 a b c f) = wu c (o + f)

variable {h x : ℕ → ℕ → EReal} {wu wd : ℕ → ℕ → EReal} {v0 v1 v2 : S512x1024.Idx → EReal}

theorem pay6 (H : Rows v0 h) : Rows (k0_pay6 (F := Ideal) v0) h := fun r c => by
  pointwise [k0_pay6, H r c]

theorem pay7 {v3 : S1x1x1024x1024.Idx → EReal} (H : Rows v0 h) (Hu : UpQ 0 v3 wu) :
    Rows (k0_pay7 (F := Ideal) v0 v3) fun r f => pr h wu r (0 + f) := fun r c => by
  pointwise [k0_pay7, pay6 H, Hu]
  rfl

theorem pay8 {v3 : S1x1x1024x1024.Idx → EReal} (H : Rows v0 h) (Hu : UpQ 0 v3 wu) :
    Rows (k0_pay8 (F := Ideal) v0 v3) fun r f => pr h wu r (0 + f) := fun r c => by
  pointwise [k0_pay8, pay7 H Hu r c]

theorem pay9 {v16 : S1x1x1024x1024.Idx → EReal} (H : Rows v0 h) (Hu : UpQ 1024 v16 wu) :
    Rows (k0_pay9 (F := Ideal) v0 v16) fun r f => pr h wu r (1024 + f) := fun r c => by
  pointwise [k0_pay9, pay6 H, Hu]
  rfl

theorem pay10 {v16 : S1x1x1024x1024.Idx → EReal} (H : Rows v0 h) (Hu : UpQ 1024 v16 wu) :
    Rows (k0_pay10 (F := Ideal) v0 v16) fun r f => pr h wu r (1024 + f) := fun r c => by
  pointwise [k0_pay10, pay9 H Hu r c]

theorem pay1 {v29 : S1x1x1024x1024.Idx → EReal} (H : Rows v1 h) (Hu : UpQ 2048 v29 wu) :
    Rows (k0_pay1 (F := Ideal) v1 v29) fun r f => pr h wu r (2048 + f) := fun r c => by
  pointwise [k0_pay1, H, Hu]
  rfl

theorem pay2 {v29 : S1x1x1024x1024.Idx → EReal} (H : Rows v1 h) (Hu : UpQ 2048 v29 wu) :
    Rows (k0_pay2 (F := Ideal) v1 v29) fun r f => pr h wu r (2048 + f) := fun r c => by
  pointwise [k0_pay2, pay1 H Hu r c]

theorem pay3 {v42 : S1x1x1024x1024.Idx → EReal} (H : Rows v1 h) (Hu : UpQ 3072 v42 wu) :
    Rows (k0_pay3 (F := Ideal) v1 v42) fun r f => pr h wu r (3072 + f) := fun r c => by
  pointwise [k0_pay3, H, Hu]
  rfl

theorem pay4 {v42 : S1x1x1024x1024.Idx → EReal} (H : Rows v1 h) (Hu : UpQ 3072 v42 wu) :
    Rows (k0_pay4 (F := Ideal) v1 v42) fun r f => pr h wu r (3072 + f) := fun r c => by
  pointwise [k0_pay4, pay3 H Hu r c]

theorem pay11 {v3 v16 : S1x1x1024x1024.Idx → EReal} {v12 v25 : S1x1024x1024.Idx → EReal} (H : Rows v0 h) (Hx : Rows v2 x)
    (h3 : UpQ 0 v3 wu) (h12 : DownQ 0 v12 wd) (h16 : UpQ 1024 v16 wu) (h25 : DownQ 1024 v25 wd) :
    Rows (k0_pay11 (F := Ideal) v0 v2 v3 v12 v16 v25) fun r k =>
      x r k + (∑ f : Fin 1024, act h wu r (0 + f) * wd (0 + f) k) + ∑ f : Fin 1024, act h wu r (1024 + f) * wd (1024 + f) k := fun r c => by
  pointwise [k0_pay11, pay7 H h3, pay9 H h16, h12, h25, Hx r c]
  rfl

/-- The row after the sublayer: the row and the four quarters' products, added up. -/
theorem pay5 {v3 v16 v29 v42 : S1x1x1024x1024.Idx → EReal} {v12 v25 v38 v51 : S1x1024x1024.Idx → EReal} (H : Rows v0 h) (Hx : Rows v2 x)
    (h3 : UpQ 0 v3 wu) (h12 : DownQ 0 v12 wd) (h16 : UpQ 1024 v16 wu) (h25 : DownQ 1024 v25 wd) (h29 : UpQ 2048 v29 wu)
    (h38 : DownQ 2048 v38 wd) (h42 : UpQ 3072 v42 wu) (h51 : DownQ 3072 v51 wd) :
    Rows (k0_pay5 (F := Ideal) (k0_pay6 v0) (k0_pay11 v0 v2 v3 v12 v16 v25) v29 v38 v42 v51) (out h x wu wd) := fun r c => by
  pointwise [k0_pay5, pay1 (pay6 H) h29, pay3 (pay6 H) h42, h38, h51, pay11 H Hx h3 h12 h16 h25 r c]
  unfold out
  rw [sum_quarters (fun f => act h wu r f * wd f c)]
  simp only [add_assoc]
  rfl

end Ker

end Cert.FfnF

end
-- ==== Proof.FffOut.lean ====
/-
  WHAT A GRID POINT READS AND WRITES in the feed-forward's forward pass.
-/
module

public import proofs.«01_k».proof.Proof.FffKer
public import proofs.«01_k».proof.Proof.Gen.Kernel5Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.FfnF.Ker

open Cert.Kernel5Ideal Cert.Kernel5Ideal.Gen Idealize.ShloMosaic Cert.FfnF

/-- The blocks a grid point reads, as functions of two indices. -/
structure Blk (x0 : S512x1024.Idx → EReal) (x1 : S512x1024.Idx → EReal) (x2 : S1x4x1024x1024.Idx → EReal) (x3 : S1x4096x1024.Idx → EReal)
    (x h wu wd : ℕ → ℕ → EReal) : Prop where
  x : Rows x0 x
  h : Rows x1 h
  wu : ∀ (a : Fin 1) (q : Fin 4) (c f : Fin 1024), x2 (ix4 a q c f) = wu c (1024 * q + f)
  wd : ∀ (a : Fin 1) (f : Fin 4096) (k : Fin 1024), x3 (ix3 a f k) = wd f k

variable (x0 : Vec Ideal S512x1024 .f32) (x1 : Vec Ideal S512x1024 .bf16) (x2 : Vec Ideal S1x4x1024x1024 .bf16) (x3 : Vec Ideal S1x4096x1024 .bf16)

/-! ### The parts of the blocks, by name -/

/-- The block of normed, scaled rows as the second half of the body takes it. -/
theorem pay12 : k0_pay12 (F := Ideal) x0 x1 x2 x3 = k0_pay6 x1 := by
  unfold k0_pay12
  frame_out

abbrev bD0 : FVec Ideal S1x1024x1024 .bf16 := View.ld x3 (Rect.unit ![0, 0, 0] ![1, 1024, 1024] inb_S1x4096x1024_S1x1024x1024_0_0_0)
abbrev bU0 : FVec Ideal S1x1x1024x1024 .bf16 := View.ld x2 (Rect.unit ![0, 0, 0, 0] ![1, 1, 1024, 1024] inb_S1x4x1024x1024_S1x1x1024x1024_0_0_0_0)
abbrev bD1 : FVec Ideal S1x1024x1024 .bf16 := View.ld x3 (Rect.unit ![0, 1024, 0] ![1, 1024, 1024] inb_S1x4096x1024_S1x1024x1024_0_1024_0)
abbrev bU1 : FVec Ideal S1x1x1024x1024 .bf16 := View.ld x2 (Rect.unit ![0, 1, 0, 0] ![1, 1, 1024, 1024] inb_S1x4x1024x1024_S1x1x1024x1024_0_1_0_0)
abbrev bD2 : FVec Ideal S1x1024x1024 .bf16 := View.ld x3 (Rect.unit ![0, 2048, 0] ![1, 1024, 1024] inb_S1x4096x1024_S1x1024x1024_0_2048_0)
abbrev bU2 : FVec Ideal S1x1x1024x1024 .bf16 := View.ld x2 (Rect.unit ![0, 2, 0, 0] ![1, 1, 1024, 1024] inb_S1x4x1024x1024_S1x1x1024x1024_0_2_0_0)
abbrev bD3 : FVec Ideal S1x1024x1024 .bf16 := View.ld x3 (Rect.unit ![0, 3072, 0] ![1, 1024, 1024] inb_S1x4096x1024_S1x1024x1024_0_3072_0)
abbrev bU3 : FVec Ideal S1x1x1024x1024 .bf16 := View.ld x2 (Rect.unit ![0, 3, 0, 0] ![1, 1, 1024, 1024] inb_S1x4x1024x1024_S1x1x1024x1024_0_3_0_0)

variable {x0 x1 x2 x3}
variable {x h wu wd : ℕ → ℕ → EReal} (H : Blk x0 x1 x2 x3 x h wu wd)

include H

theorem bD0_at : DownQ 0 (bD0 x3) wd := fun a f k => by
  refine (View.ld_unit_apply_of x3 _ _ _ _ (ix3 a ⟨0 + f.val, by omega⟩ k) ?_).trans (H.wd a ⟨0 + f.val, by omega⟩ k)
  intro b; fin_cases b <;> simp [ix3]

theorem bU0_at : UpQ 0 (bU0 x2) wu := fun a b c f => by
  refine (View.ld_unit_apply_of x2 _ _ _ _ (ix4 a 0 c f) ?_).trans (H.wu a 0 c f)
  have hb : b.val = 0 := by omega
  intro e; fin_cases e <;> simp [ix4, hb]

theorem bD1_at : DownQ 1024 (bD1 x3) wd := fun a f k => by
  refine (View.ld_unit_apply_of x3 _ _ _ _ (ix3 a ⟨1024 + f.val, by omega⟩ k) ?_).trans (H.wd a ⟨1024 + f.val, by omega⟩ k)
  intro b; fin_cases b <;> simp [ix3]

theorem bU1_at : UpQ 1024 (bU1 x2) wu := fun a b c f => by
  refine (View.ld_unit_apply_of x2 _ _ _ _ (ix4 a 1 c f) ?_).trans (H.wu a 1 c f)
  have hb : b.val = 0 := by omega
  intro e; fin_cases e <;> simp [ix4, hb]

theorem bD2_at : DownQ 2048 (bD2 x3) wd := fun a f k => by
  refine (View.ld_unit_apply_of x3 _ _ _ _ (ix3 a ⟨2048 + f.val, by omega⟩ k) ?_).trans (H.wd a ⟨2048 + f.val, by omega⟩ k)
  intro b; fin_cases b <;> simp [ix3]

theorem bU2_at : UpQ 2048 (bU2 x2) wu := fun a b c f => by
  refine (View.ld_unit_apply_of x2 _ _ _ _ (ix4 a 2 c f) ?_).trans (H.wu a 2 c f)
  have hb : b.val = 0 := by omega
  intro e; fin_cases e <;> simp [ix4, hb]

theorem bD3_at : DownQ 3072 (bD3 x3) wd := fun a f k => by
  refine (View.ld_unit_apply_of x3 _ _ _ _ (ix3 a ⟨3072 + f.val, by omega⟩ k) ?_).trans (H.wd a ⟨3072 + f.val, by omega⟩ k)
  intro b; fin_cases b <;> simp [ix3]

theorem bU3_at : UpQ 3072 (bU3 x2) wu := fun a b c f => by
  refine (View.ld_unit_apply_of x2 _ _ _ _ (ix4 a 3 c f) ?_).trans (H.wu a 3 c f)
  have hb : b.val = 0 := by omega
  intro e; fin_cases e <;> simp [ix4, hb]

theorem out0_4_at (r : Fin 512) (k : Fin 1024) : out0_4 (F := Ideal) x0 x1 x2 x3 (ix2 r k) = out h x wu wd r k := by
  frame_out
  rw [pay12]
  exact pay5 H.h H.x (bU0_at H) (bD0_at H) (bU1_at H) (bD1_at H) (bU2_at H) (bD2_at H) (bU3_at H) (bD3_at H) r k

/-- The block of preactivations: the four quarters beside one another. -/
theorem canon5 (y : S512x4096.Idx) :
    View.canon (Val := Elt Ideal) (e := .bf16) [⟨Rect.unit ![0, 3072] ![512, 1024] inb_S512x4096_S512x1024_0_3072, k0_pay4 (F := Ideal) (k0_pay6 (F := Ideal) x1) (bU3 x2)⟩,
      ⟨Rect.unit ![0, 2048] ![512, 1024] inb_S512x4096_S512x1024_0_2048, k0_pay2 (F := Ideal) (k0_pay6 (F := Ideal) x1) (bU2 x2)⟩,
      ⟨Rect.unit ![0, 1024] ![512, 1024] inb_S512x4096_S512x1024_0_1024, k0_pay10 (F := Ideal) x1 (bU1 x2)⟩,
      ⟨Rect.unit ![0, 0] ![512, 1024] inb_S512x4096_S512x1024_0_0, k0_pay8 (F := Ideal) x1 (bU0 x2)⟩] y = pr h wu (y 0).val (y 1).val := by
  canon_tiles z h
  · have e := pay4 (pay6 H.h) (bU3_at H) (z 0) (z 1)
    rw [ix2_eta] at e
    rw [h0, show (y 1).val = 3072 + (z 1).val by omega]
    exact e
  · have e := pay2 (pay6 H.h) (bU2_at H) (z 0) (z 1)
    rw [ix2_eta] at e
    rw [h0, show (y 1).val = 2048 + (z 1).val by omega]
    exact e
  · have e := pay10 H.h (bU1_at H) (z 0) (z 1)
    rw [ix2_eta] at e
    rw [h0, show (y 1).val = 1024 + (z 1).val by omega]
    exact e
  · have e := pay8 H.h (bU0_at H) (z 0) (z 1)
    rw [ix2_eta] at e
    rw [h0, show (y 1).val = 0 + (z 1).val by omega]
    exact e

theorem out0_5_at (y : S512x4096.Idx) : out0_5 (F := Ideal) x0 x1 x2 x3 y = pr h wu (y 0).val (y 1).val := by
  frame_out
  rw [pay12]
  exact canon5 H y

end Cert.FfnF.Ker

end
-- ==== Proof.FffRef.lean ====
/-
  THE REFERENCE'S STAGES for the feed-forward's forward pass: each, read at an index, is a function of `FffKer`.
-/
module

public import proofs.«01_k».proof.Proof.FffKer
public import proofs.«01_k».proof.Proof.Axes
public import proofs.«01_k».proof.Proof.Gen.Reference5Ideal.Read

@[expose] public section

set_option maxRecDepth 16384
set_option maxHeartbeats 800000
set_option backward.proofsInPublic true

noncomputable section

namespace Cert.FfnF.Ref

open Cert.Reference5Ideal Cert.Reference5Ideal.Gen Cert.Reference5Ideal.Read Idealize.ShloMosaic Cert.Ffn Cert.FfnF

variable {x0 x3 : S4096x1024.Idx → EReal} {x1 : S1024.Idx → EReal} {x2 : S1024x4096.Idx → EReal}
  {x : ℕ → ℕ → EReal} {g : ℕ → EReal} {wu wd : ℕ → ℕ → EReal}
  (hx : ∀ (r : Fin 4096) (c : Fin 1024), x0 (ix2 r c) = x r c)
  (hg : ∀ c : Fin 1024, x1 (ix1 c) = g c)
  (hu : ∀ (c : Fin 1024) (f : Fin 4096), x2 (ix2 c f) = wu c f)
  (hw : ∀ (f : Fin 4096) (c : Fin 1024), x3 (ix2 f c) = wd f c)

include hx

theorem v8 (a : Fin 1) (r : Fin 4096) (c : Fin 1) : val_main_v8 (F := Ideal) x0 (ix3 a r c) = Rms.rs (x r) := by
  pointwise [val_main_v8, val_main_v7, val_main_v6, val_main_cst_1, val_main_v5, val_main_v4, val_main_cst_0, val_main_v3, val_main_v2, val_main_cst, val_main_v1, val_main_v0, hx]
  rfl

include hg hu

theorem v14 (a : Fin 1) (r f : Fin 4096) : val_main_v14 (F := Ideal) x0 x1 x2 (ix3 a r f) = pr (hn x g) wu r f := by
  pointwise [val_main_v14, val_main_v13, val_main_v12, val_main_v11, val_main_v10, val_main_v9, v8 hx, val_main_v0, hx, hg, hu]
  rfl

theorem v22 (r f : Fin 4096) : val_main_v22 (F := Ideal) x0 x1 x2 (ix2 r f) = pr (hn x g) wu r f := by
  pointwise [val_main_v22, val_main_v21, v14 hx hg hu]

theorem v17 (a : Fin 1) (r f : Fin 4096) : val_main_v17 (F := Ideal) x0 x1 x2 (ix3 a r f) = act (hn x g) wu r f := by
  pointwise [val_main_v17, val_main_v16, val_main_call0_v0, val_main_call0_cst, v14 hx hg hu]
  rfl

include hw

theorem v20 (r : Fin 4096) (c : Fin 1024) : val_main_v20 (F := Ideal) x0 x1 x2 x3 (ix2 r c) = out (hn x g) x wu wd r c := by
  pointwise [val_main_v20, val_main_v19, val_main_v18, val_main_v15, v17 hx hg hu, hx, hw]
  rfl

end Cert.FfnF.Ref

end
-- ==== Proof.FffVal.lean ====
/-
  THE RESULTS of the feed-forward's forward pass: point `t` reads rows `512 t …` and the two weights, and the two results are the reference's.
-/
module

public import proofs.«01_k».proof.Proof.FffOut
public import proofs.«01_k».proof.Proof.FffRef
public import Idealize.ShloMosaic.Lib.StableHlo.ReadAt

@[expose] public section

set_option maxRecDepth 16384
set_option maxHeartbeats 800000
set_option backward.proofsInPublic true

noncomputable section

namespace Cert.FfnF.Ker

open Cert.Kernel5Ideal Cert.Kernel5Ideal.Gen Cert.Kernel5Ideal.Value Idealize.ShloMosaic Idealize.ShloMosaic.TcCoe Cert.Ffn Cert.FfnF

/-- The block index of each input window at point `t`. -/
theorem idx_in : ∀ t : Fin cfg0.N, win0_0.index t = ![t.val, 0] ∧ win0_1.index t = ![t.val, 0] ∧ win0_2.index t = ![0, 0, 0, 0]
    ∧ win0_3.index t = ![0, 0, 0] :=
  (by decide +kernel : ∀ t : Fin grid0.N, _)

/-- The block index of each output window at point `t`. -/
theorem idx_out : ∀ t : Fin cfg0.N, win0_4.index t = ![t.val, 0] ∧ win0_5.index t = ![t.val, 0] :=
  (by decide +kernel : ∀ t : Fin grid0.N, _)

/-- Rows `512 q …` of an array. -/
def sh (q : ℕ) (x : ℕ → ℕ → EReal) : ℕ → ℕ → EReal := fun r c => x (512 * q + r) c

theorem pr_sh (h wu : ℕ → ℕ → EReal) (q r f : ℕ) : pr (sh q h) wu r f = pr h wu (512 * q + r) f := rfl

theorem act_sh (h wu : ℕ → ℕ → EReal) (q r f : ℕ) : act (sh q h) wu r f = act h wu (512 * q + r) f := by
  unfold act
  rw [pr_sh]

theorem out_sh (h x wu wd : ℕ → ℕ → EReal) (q r k : ℕ) : out (sh q h) (sh q x) wu wd r k = out h x wu wd (512 * q + r) k := by
  unfold out
  simp only [act_sh]
  rfl

/-- The normed, scaled row from a row and the gain. -/
theorem hn_host {x : ℕ → ℕ → EReal} {g : ℕ → EReal} (r k : ℕ) (X : Fin 1024 → EReal) (Xk Gk : EReal) (hX : ∀ k, X k = x r k) (hXk : Xk = x r k)
    (hG : Gk = g k) :
    Xk * Ideal.rsqrt (Ideal.div (∑ k : Fin 1024, X k * X k) ((1024 : ℝ) : EReal) + ((8796093 / 8796093022208 : ℝ) : EReal)) * Gk = hn x g r k := by
  have e : Ideal.rsqrt (Ideal.div (∑ k : Fin 1024, X k * X k) ((1024 : ℝ) : EReal) + ((8796093 / 8796093022208 : ℝ) : EReal)) = Rms.rs (x r) := by
    pointwise [hX]
    rfl
  rw [e, hXk, hG]
  rfl

section
variable (m : (ℓ : Loc nD τ sig) → Buf (Elt Ideal) ℓ) (c : Dev nD)

theorem blk0 (t : Fin cfg0.N) (r : Fin 512) (k : Fin 1024) :
    iblk m c 0 t (ix2 r k) = m ((c : Thread nD τ).loc main_arg0) (ix2 ⟨512 * t.val + r.val, by have := lt_of_lt_of_eq t.isLt N_0; omega⟩ k) := by
  blk_ext [iblk, V, (idx_in t).1]

theorem blk3 (t : Fin cfg0.N) (a : Fin 1) (f : Fin 4096) (k : Fin 1024) :
    iblk m c 3 t (ix3 a f k) = m ((c : Thread nD τ).loc main_arg3) (ix2 f k) := by
  have e : ((win0_3.blk t).view.emb (ix3 a f k) : S1x4096x1024.Idx) = ix3 a f k := by blk_ext [(idx_in t).2.2.2]
  show V m c main_v21 ((win0_3.blk t).view.emb (ix3 a f k)) = _
  rw [e]
  unfold V
  simp only [hostOps0]
  after_reads_at

theorem blk2 (t : Fin cfg0.N) (a : Fin 1) (q : Fin 4) (k f : Fin 1024) :
    iblk m c 2 t (ix4 a q k f) = m ((c : Thread nD τ).loc main_arg2) (ix2 k ⟨1024 * q.val + f.val, by omega⟩) := by
  have e : ((win0_2.blk t).view.emb (ix4 a q k f) : S1x4x1024x1024.Idx) = ix4 a q k f := by blk_ext [(idx_in t).2.2.1]
  show V m c main_v19 ((win0_2.blk t).view.emb (ix4 a q k f)) = _
  rw [e]
  unfold V
  simp only [hostOps0]
  after_reads_at
  exact congrArg (fun z => m ((c : Thread nD τ).loc main_arg2) (ix2 k z)) (Fin.ext (by show q.val * 1024 + f.val = 1024 * q.val + f.val; omega))
end

variable {m : (ℓ : Loc nD τ sig) → Buf (Elt Ideal) ℓ} {c : Dev nD} {x : ℕ → ℕ → EReal} {g : ℕ → EReal} {wu wd : ℕ → ℕ → EReal}
  (hx : ∀ (r : Fin 4096) (k : Fin 1024), m ((c : Thread nD τ).loc main_arg0) (ix2 r k) = x r k)
  (hg : ∀ k : Fin 1024, m ((c : Thread nD τ).loc main_arg1) (ix1 k) = g k)
  (hu : ∀ (k : Fin 1024) (f : Fin 4096), m ((c : Thread nD τ).loc main_arg2) (ix2 k f) = wu k f)
  (hw : ∀ (f : Fin 4096) (k : Fin 1024), m ((c : Thread nD τ).loc main_arg3) (ix2 f k) = wd f k)
include hx hg

/-- The normed, scaled rows the host computes are the reference's. -/
theorem blk1 (t : Fin cfg0.N) (r : Fin 512) (k : Fin 1024) :
    iblk m c 1 t (ix2 r k) = hn x g (512 * t.val + r) k := by
  have e : ((win0_1.blk t).view.emb (ix2 r k) : S4096x1024.Idx) = ix2 ⟨512 * t.val + r.val, by have := lt_of_lt_of_eq t.isLt N_0; omega⟩ k := by blk_ext [(idx_in t).2.1]
  show V m c main_v15 ((win0_1.blk t).view.emb (ix2 r k)) = _
  rw [e]
  unfold V
  simp only [hostOps0]
  after_reads_at
  exact hn_host (512 * t.val + r.val) k.val (fun k => m ((c : Thread nD τ).loc main_arg0) (ix2 ⟨512 * t.val + r.val, by have := lt_of_lt_of_eq t.isLt N_0; omega⟩ k))
    _ _ (fun k => hx _ k) (hx _ k) (hg k)

include hu hw

/-- What point `t` reads. -/
theorem blk (t : Fin cfg0.N) : Blk (iblk m c 0 t) (iblk m c 1 t) (iblk m c 2 t) (iblk m c 3 t) (sh t.val x) (sh t.val (hn x g)) wu wd where
  x r k := (blk0 m c t r k).trans (hx _ _)
  h r k := blk1 hx hg t r k
  wu a q k f := (blk2 m c t a q k f).trans (hu _ _)
  wd a f k := (blk3 m c t a f k).trans (hw f k)

theorem r4 : (dats m 0 c).arrAt 4 cfg0.N = Cert.Reference5Ideal.Read.val_main_v20 (F := Ideal) (m ((c : Thread nD τ).loc main_arg0)) (m ((c : Thread nD τ).loc main_arg1)) (m ((c : Thread nD τ).loc main_arg2)) (m ((c : Thread nD τ).loc main_arg3)) := by
  have hN : cfg0.N = 8 := N_0
  refine (dats m 0 c).arrAt_eq_of_cover 4 _ (fun t hf => ?_) (fun i => ?_)
  · rw [flushed4]
    funext y
    obtain ⟨r, k, rfl⟩ : ∃ r k, y = ix2 (n0 := 512) (n1 := 1024) r k := ⟨y 0, y 1, (ix2_eta y).symm⟩
    have e : ((win0_4.blk t).view.emb (ix2 r k) : S4096x1024.Idx) = ix2 ⟨512 * t.val + r.val, by have := lt_of_lt_of_eq t.isLt N_0; omega⟩ k := by
      blk_ext [(idx_out t).1]
    show out0_4 (F := Ideal) (iblk m c 0 t) (iblk m c 1 t) (iblk m c 2 t) (iblk m c 3 t) (ix2 r k) = Cert.Reference5Ideal.Read.val_main_v20 (F := Ideal) (m ((c : Thread nD τ).loc main_arg0)) (m ((c : Thread nD τ).loc main_arg1)) (m ((c : Thread nD τ).loc main_arg2)) (m ((c : Thread nD τ).loc main_arg3)) ((win0_4.blk t).view.emb (ix2 r k))
    rw [e]
    exact ((out0_4_at (blk hx hg hu hw t) r k).trans (out_sh _ _ _ _ _ _ _)).trans (Ref.v20 hx hg hu hw ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_4 _, ?_⟩
    have e : ((win0_4.blk t).view.emb (ix2 ⟨r.val % 512, by omega⟩ k) : S4096x1024.Idx) = ix2 r k := by
      blk_ext [(idx_out t).1, ht]
    rw [← e]
    exact View.emb_mem_set _ _

theorem r5 : (dats m 0 c).arrAt 5 cfg0.N = Cert.Reference5Ideal.Read.val_main_v22 (F := Ideal) (m ((c : Thread nD τ).loc main_arg0)) (m ((c : Thread nD τ).loc main_arg1)) (m ((c : Thread nD τ).loc main_arg2)) := by
  have hN : cfg0.N = 8 := N_0
  refine (dats m 0 c).arrAt_eq_of_cover 5 _ (fun t hf => ?_) (fun i => ?_)
  · rw [flushed5]
    funext y
    obtain ⟨r, k, rfl⟩ : ∃ r k, y = ix2 (n0 := 512) (n1 := 4096) r k := ⟨y 0, y 1, (ix2_eta y).symm⟩
    have e : ((win0_5.blk t).view.emb (ix2 r k) : S4096x4096.Idx) = ix2 ⟨512 * t.val + r.val, by have := lt_of_lt_of_eq t.isLt N_0; omega⟩ k := by
      blk_ext [(idx_out t).2]
    show out0_5 (F := Ideal) (iblk m c 0 t) (iblk m c 1 t) (iblk m c 2 t) (iblk m c 3 t) (ix2 r k) = Cert.Reference5Ideal.Read.val_main_v22 (F := Ideal) (m ((c : Thread nD τ).loc main_arg0)) (m ((c : Thread nD τ).loc main_arg1)) (m ((c : Thread nD τ).loc main_arg2)) ((win0_5.blk t).view.emb (ix2 r k))
    rw [e]
    exact ((out0_5_at (blk hx hg hu hw t) (ix2 r k)).trans (pr_sh _ _ _ _ _)).trans (Ref.v22 hx hg hu ⟨512 * t.val + r.val, by have := lt_of_lt_of_eq t.isLt N_0; omega⟩ k).symm
  · obtain ⟨r, k, rfl⟩ : ∃ r k, i = ix2 (n0 := 4096) (n1 := 4096) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_5 _, ?_⟩
    have e : ((win0_5.blk t).view.emb (ix2 ⟨r.val % 512, by omega⟩ k) : S4096x4096.Idx) = ix2 r k := by
      blk_ext [(idx_out t).2, ht]
    rw [← e]
    exact View.emb_mem_set _ _

end Cert.FfnF.Ker

end
-- ==== Proof.FffAlg.lean ====
/-
  THE ALGEBRAIC CLAIM of the feed-forward's forward pass: its run's two results are the reference's.
-/
module

public import proofs.«01_k».proof.Defs
public import proofs.«01_k».proof.Proof.FffVal
public import proofs.«01_k».proof.Proof.Arr
public import proofs.«01_k».proof.Proof.Gen.Reference5Ideal.Run
public import Idealize.ShloMosaic.Lib.Quiescent
public import Idealize.ShloMosaic.Adequacy
public import Idealize.ShloMosaic.Init

@[expose] public section

set_option maxRecDepth 16384
set_option maxHeartbeats 800000
set_option backward.proofsInPublic true

noncomputable section

namespace Cert.FfnF

open Idealize.ShloMosaic Idealize.ShloMosaic.TcCoe Idealize.SL.Sem Cert.Arr Cert.Kernel5Ideal Cert.FfnF.Ker

/-- The kernel's two results are the reference's. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨_, _, Cert.Kernel5Ideal.Value.run_blocks m g, ?_⟩
  refine (θ_run _ _ _).mono (fun r h (c : Dev nD) => ?_) (Cert.Reference5Ideal.Value.run m' g')
  have q0 := arr2_apply fun (r : Fin 4096) (k : Fin 1024) => m ((c : Thread nD τ).loc main_arg0) (ix2 r k)
  have q1 := arr1_apply fun (k : Fin 1024) => m ((c : Thread nD τ).loc main_arg1) (ix1 k)
  have q2 := arr2_apply fun (r : Fin 1024) (k : Fin 4096) => m ((c : Thread nD τ).loc main_arg2) (ix2 r k)
  have q3 := arr2_apply fun (r : Fin 4096) (k : Fin 1024) => m ((c : Thread nD τ).loc main_arg3) (ix2 r k)
  obtain ⟨a0, a1, a2, a3⟩ := hagree c
  obtain ⟨h0, h1, hk⟩ := h c
  refine ⟨h0.trans ?_, h1.trans ?_, hk⟩
  · refine (Cert.Reference5Ideal.Read.val_main_v20_eq _ _ _ _).trans ?_
    rw [r4 q0 q1 q2 q3, ← a0, ← a1, ← a2, ← a3]
  · refine (Cert.Reference5Ideal.Read.val_main_v22_eq _ _ _).trans ?_
    rw [r5 q0 q1 q2 q3, ← a0, ← a1, ← a2]

/-- The reference runs, keeps its arguments and leaves every counter at zero: it has none. -/
theorem reference_frame : Cert.quiescent_Reference5Ideal (hReference5Ideal := Cert.Reference5Ideal.Gen.facts) := fun m ρ _ =>
  (θ_run _ _ _).mono (fun r h => And.intro (fun c => (h c).2.2) (sem_eq_zero_of_no_sems rfl r.2)) (Cert.Reference5Ideal.Value.run m ρ)

end Cert.FfnF

end
-- ==== Proof.MrfKer.lean ====
/-
  THE MERGE'S FORWARD PASS, and its kernel's payloads: each, read at an index, is a function of the blocks it takes.
-/
module

public import proofs.«01_k».proof.Proof.MrgFn
public import proofs.«01_k».proof.Proof.FffKer
public import proofs.«01_k».proof.Proof.Gen.Kernel6Ideal.Skeleton

@[expose] public section

set_option maxRecDepth 16384
set_option maxHeartbeats 800000
set_option backward.proofsInPublic true

noncomputable section

namespace Cert.MergeF

open Idealize.ShloMosaic Cert.Ffn Cert.FfnF Cert.Merge

section
variable (x g0 g1 A B M wo : ℕ → ℕ → EReal)

/-- The merged rows: each branch's output times its gate. -/
def mg (r k : ℕ) : EReal := sg (g0 r k) * A r k + sg (g1 r k) * B r k

/-- The row after the sublayer. -/
def xo (r k : ℕ) : EReal := x r k + ∑ j : Fin 1024, M r j * wo j k

end

namespace Ker

open Cert.Kernel6Ideal Cert.Kernel6Ideal.Gen

/-- A block of rows is a function of row and column. -/
abbrev Rows (x : S512x1024.Idx → EReal) (f : ℕ → ℕ → EReal) : Prop := ∀ (r : Fin 512) (c : Fin 1024), x (ix2 r c) = f r c
/-- The same of half a gate, from column `o` on, and of the wider branch's input. -/
abbrev RowsG (o : ℕ) (x : S512x512.Idx → EReal) (f : ℕ → ℕ → EReal) : Prop := ∀ (r c : Fin 512), x (ix2 r c) = f r (o + c)
abbrev RowsB (x : S512x1280.Idx → EReal) (f : ℕ → ℕ → EReal) : Prop := ∀ (r : Fin 512) (c : Fin 1280), x (ix2 r c) = f r c
/-- The weights. -/
abbrev Wt (x : S1x1024x1024.Idx → EReal) (f : ℕ → ℕ → EReal) : Prop := ∀ (b : Fin 1) (r c : Fin 1024), x (ix3 b r c) = f r c
abbrev WtA (x : S1x1280x1024.Idx → EReal) (f : ℕ → ℕ → EReal) : Prop := ∀ (b : Fin 1) (r : Fin 1280) (c : Fin 1024), x (ix3 b r c) = f r c

variable {a b x X wa wb wo g0 g1 : ℕ → ℕ → EReal} {g : ℕ → EReal} {v0 : S512x1280.Idx → EReal} {v1 : S1x1280x1024.Idx → EReal}
  {v4 v22 v26 : S512x1024.Idx → EReal} {v5 v23 : S1x1024x1024.Idx → EReal} {v8 v9 v13 v14 : S512x512.Idx → EReal}

theorem pay2 {v43 : S1x1024.Idx → EReal} (H : Rows v26 X) (Hg : ∀ (e : Fin 1) (k : Fin 1024), v43 (ix2 e k) = g k) :
    Rows (k0_pay2 (F := Ideal) v26 v43) (hn X g) := fun r k => by
  pointwise [k0_pay2, H, Hg]
  rfl

section
variable (Ha : RowsB v0 a) (Wa : WtA v1 wa)
include Ha Wa

theorem pay3 : Rows (k0_pay3 (F := Ideal) v0 v1) (up (n := 1280) a wa) := fun r k => by
  pointwise [k0_pay3, Ha, Wa]
  rfl

theorem pay7 : Rows (k0_pay7 (F := Ideal) v0 v1) (up (n := 1280) a wa) := fun r k => by
  pointwise [k0_pay7, pay3 Ha Wa r k]
end

section
variable (Hb : Rows v4 b) (Wb : Wt v5 wb)
include Hb Wb

theorem pay4 : Rows (k0_pay4 (F := Ideal) v4 v5) (up (n := 1024) b wb) := fun r k => by
  pointwise [k0_pay4, Hb, Wb]
  rfl

theorem pay1 : Rows (k0_pay1 (F := Ideal) (k0_pay4 v4 v5)) (up (n := 1024) b wb) := fun r k => by
  pointwise [k0_pay1, pay4 Hb Wb r k]
end

/-- The two halves of a gate beside one another. -/
theorem halves (p : ℕ → ℕ → EReal) (r f : ℕ) : (if f < 512 then p r (0 + f) else p r (512 + (f - 512))) = p r f := by
  split_ifs with h
  · rw [Nat.zero_add]
  · congr 1; omega

variable (Ha : RowsB v0 a) (Wa : WtA v1 wa) (Hb : Rows v4 b) (Wb : Wt v5 wb) (h8 : RowsG 0 v8 g0) (h9 : RowsG 512 v9 g0) (h13 : RowsG 0 v13 g1) (h14 : RowsG 512 v14 g1)
include Ha Wa Hb Wb h8 h9 h13 h14

theorem pay5 : Rows (k0_pay5 (F := Ideal) v0 v1 v4 v5 v8 v9 v13 v14) (mg g0 g1 (up (n := 1280) a wa) (up (n := 1024) b wb)) := fun r k => by
  unfold mg
  rw [← halves g0, ← halves g1]
  pointwise [k0_pay5, pay3 Ha Wa, pay4 Hb Wb, h8, h9, h13, h14]
  split_ifs <;> rfl

theorem pay6 (Hx : Rows v22 x) (Wo : Wt v23 wo) :
    Rows (k0_pay6 (F := Ideal) v0 v1 v4 v5 v8 v9 v13 v14 v22 v23) (xo x (mg g0 g1 (up (n := 1280) a wa) (up (n := 1024) b wb)) wo) := fun r k => by
  pointwise [k0_pay6, pay5 Ha Wa Hb Wb h8 h9 h13 h14, Hx, Wo]
  rfl

end Ker

end Cert.MergeF

end
-- ==== Proof.MrfOut.lean ====
/-
  WHAT A GRID POINT READS AND WRITES in the merge's forward pass.
-/
module

public import proofs.«01_k».proof.Proof.MrfKer
public import proofs.«01_k».proof.Proof.Gen.Kernel6Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.MergeF.Ker

open Cert.Kernel6Ideal Cert.Kernel6Ideal.Gen Idealize.ShloMosaic Cert.FfnF Cert.Merge Cert.MergeF

/-- The blocks a grid point reads, as functions of two indices. -/
structure Blk (x0 : Vec Ideal S512x1024 .f32) (x1 x2 x3 x4 : Vec Ideal S512x512 .bf16) (x5 : Vec Ideal S512x1280 .bf16) (x6 : Vec Ideal S512x1024 .bf16)
  (x7 : Vec Ideal S1x1280x1024 .bf16) (x8 x9 : Vec Ideal S1x1024x1024 .bf16) (x10 : Vec Ideal S1x1024 .f32) (x g0 g1 a b wa wb wo : ℕ → ℕ → EReal) (g : ℕ → EReal) : Prop where
  x : Rows x0 x
  ga0 : RowsG 0 x1 g0
  ga1 : RowsG 512 x2 g0
  gb0 : RowsG 0 x3 g1
  gb1 : RowsG 512 x4 g1
  a : RowsB x5 a
  b : Rows x6 b
  wa : WtA x7 wa
  wb : Wt x8 wb
  wo : Wt x9 wo
  g : ∀ (e : Fin 1) (k : Fin 1024), x10 (ix2 e k) = g k

variable {x0 : Vec Ideal S512x1024 .f32} {x1 x2 x3 x4 : Vec Ideal S512x512 .bf16} {x5 : Vec Ideal S512x1280 .bf16} {x6 : Vec Ideal S512x1024 .bf16}
  {x7 : Vec Ideal S1x1280x1024 .bf16} {x8 x9 : Vec Ideal S1x1024x1024 .bf16} {x10 : Vec Ideal S1x1024 .f32} {x g0 g1 a b wa wb wo : ℕ → ℕ → EReal} {g : ℕ → EReal}
  (H : Blk x0 x1 x2 x3 x4 x5 x6 x7 x8 x9 x10 x g0 g1 a b wa wb wo g)
include H

theorem bM : Rows (k0_pay5 (F := Ideal) x5 x7 x6 x8 x1 x2 x3 x4) (mg g0 g1 (up (n := 1280) a wa) (up (n := 1024) b wb)) :=
  pay5 H.a H.wa H.b H.wb H.ga0 H.ga1 H.gb0 H.gb1

theorem bX : Rows (k0_pay6 (F := Ideal) x5 x7 x6 x8 x1 x2 x3 x4 x0 x9) (xo x (mg g0 g1 (up (n := 1280) a wa) (up (n := 1024) b wb)) wo) :=
  pay6 H.a H.wa H.b H.wb H.ga0 H.ga1 H.gb0 H.gb1 H.x H.wo

theorem out0_11_at (r : Fin 512) (k : Fin 1024) : out0_11 (F := Ideal) x0 x1 x2 x3 x4 x5 x6 x7 x8 x9 x10 (ix2 r k) = xo x (mg g0 g1 (up (n := 1280) a wa) (up (n := 1024) b wb)) wo r k := by
  frame_out
  exact bX H r k

theorem out0_12_at (r : Fin 512) (k : Fin 1024) : out0_12 (F := Ideal) x0 x1 x2 x3 x4 x5 x6 x7 x8 x9 x10 (ix2 r k) = up (n := 1280) a wa r k := by
  frame_out
  exact pay7 H.a H.wa r k

theorem out0_13_at (r : Fin 512) (k : Fin 1024) : out0_13 (F := Ideal) x0 x1 x2 x3 x4 x5 x6 x7 x8 x9 x10 (ix2 r k) = up (n := 1024) b wb r k := by
  frame_out
  exact pay1 H.b H.wb r k

theorem out0_14_at (r : Fin 512) (k : Fin 1024) : out0_14 (F := Ideal) x0 x1 x2 x3 x4 x5 x6 x7 x8 x9 x10 (ix2 r k) = mg g0 g1 (up (n := 1280) a wa) (up (n := 1024) b wb) r k := by
  frame_out
  exact bM H r k

theorem out0_15_at (r : Fin 512) (k : Fin 1024) : out0_15 (F := Ideal) x0 x1 x2 x3 x4 x5 x6 x7 x8 x9 x10 (ix2 r k) = hn (xo x (mg g0 g1 (up (n := 1280) a wa) (up (n := 1024) b wb)) wo) g r k := by
  frame_out
  exact pay2 (bX H) H.g r k

end Cert.MergeF.Ker

end
-- ==== Proof.MrfRef.lean ====
/-
  THE REFERENCE'S STAGES for the merge's forward pass: each, read at an index, is a function of `MrfKer`.
-/
module

public import proofs.«01_k».proof.Proof.MrfKer
public import proofs.«01_k».proof.Proof.Axes
public import proofs.«01_k».proof.Proof.Gen.Reference6Ideal.Read

@[expose] public section

set_option maxRecDepth 16384
set_option maxHeartbeats 800000
set_option backward.proofsInPublic true

noncomputable section

namespace Cert.MergeF.Ref

open Cert.Reference6Ideal Cert.Reference6Ideal.Gen Cert.Reference6Ideal.Read Idealize.ShloMosaic Cert.Ffn Cert.FfnF Cert.Merge Cert.MergeF

variable {x0 x3 : S4096x1024.Idx → EReal} {x1 : S4096x6656.Idx → EReal} {x2 : S4096x1280.Idx → EReal} {x4 : S1280x1024.Idx → EReal}
  {x5 x6 : S1024x1024.Idx → EReal} {x7 : S1024.Idx → EReal} {x p a b wa wb wo : ℕ → ℕ → EReal} {g : ℕ → EReal}
  (hx : ∀ (r : Fin 4096) (k : Fin 1024), x0 (ix2 r k) = x r k)
  (hp : ∀ (r : Fin 4096) (k : ℕ) (hk : k < 2048), x1 (ix2 r ⟨4608 + k, by omega⟩) = p r k)
  (ha : ∀ (r : Fin 4096) (k : Fin 1280), x2 (ix2 r k) = a r k)
  (hb : ∀ (r : Fin 4096) (k : Fin 1024), x3 (ix2 r k) = b r k)
  (hwa : ∀ (k : Fin 1280) (j : Fin 1024), x4 (ix2 k j) = wa k j)
  (hwb : ∀ (k j : Fin 1024), x5 (ix2 k j) = wb k j)
  (hwo : ∀ (k j : Fin 1024), x6 (ix2 k j) = wo k j)
  (hg : ∀ k : Fin 1024, x7 (ix1 k) = g k)

section
include hp

theorem v2 (e : Fin 1) (r : Fin 4096) (k : Fin 1024) : val_main_v2 (F := Ideal) x1 (ix3 e r k) = p r k := by
  pointwise [val_main_v2, val_main_v1, val_main_v0]
  exact hp r k (by omega)

theorem v5 (e : Fin 1) (r : Fin 4096) (k : Fin 1024) : val_main_v5 (F := Ideal) x1 (ix3 e r k) = p r (1024 + k) := by
  pointwise [val_main_v5, val_main_v4, val_main_v3]
  exact (congrArg (fun z => x1 (ix2 r z)) (Fin.ext (by show 5632 + k.val = 4608 + (1024 + k.val); omega))).trans (hp r (1024 + k) (by omega))

theorem v17 (e : Fin 1) (r : Fin 4096) (k : Fin 1024) : val_main_v17 (F := Ideal) x1 (ix3 e r k) = sg (p r k) := by
  pointwise [val_main_v17, val_main_v16, val_main_cst_0, val_main_v15, val_main_v14, val_main_cst, val_main_v13, val_main_v12, v2 hp]
  rfl

theorem v24 (e : Fin 1) (r : Fin 4096) (k : Fin 1024) : val_main_v24 (F := Ideal) x1 (ix3 e r k) = sg (p r (1024 + k)) := by
  pointwise [val_main_v24, val_main_v23, val_main_cst_2, val_main_v22, val_main_v21, val_main_cst_1, val_main_v20, val_main_v19, v5 hp]
  rfl
end

section
include ha hwa
theorem v8 (e : Fin 1) (r : Fin 4096) (k : Fin 1024) : val_main_v8 (F := Ideal) x2 x4 (ix3 e r k) = up (n := 1280) a wa r k := by
  pointwise [val_main_v8, val_main_v7, val_main_v6, ha, hwa]
  rfl

theorem v45 (r : Fin 4096) (k : Fin 1024) : val_main_v45 (F := Ideal) x2 x4 (ix2 r k) = up (n := 1280) a wa r k := by
  pointwise [val_main_v45, val_main_v44, v8 ha hwa]
end

section
include hb hwb
theorem v11 (e : Fin 1) (r : Fin 4096) (k : Fin 1024) : val_main_v11 (F := Ideal) x3 x5 (ix3 e r k) = up (n := 1024) b wb r k := by
  pointwise [val_main_v11, val_main_v10, val_main_v9, hb, hwb]
  rfl

theorem v47 (r : Fin 4096) (k : Fin 1024) : val_main_v47 (F := Ideal) x3 x5 (ix2 r k) = up (n := 1024) b wb r k := by
  pointwise [val_main_v47, val_main_v46, v11 hb hwb]
end

include hp ha hb hwa hwb

theorem v26 (e : Fin 1) (r : Fin 4096) (k : Fin 1024) : val_main_v26 (F := Ideal) x1 x2 x3 x4 x5 (ix3 e r k) = (mg p (fun r k => p r (1024 + k)) (up (n := 1280) a wa) (up (n := 1024) b wb)) r k := by
  pointwise [val_main_v26, val_main_v25, val_main_v18, v17 hp, v24 hp, v8 ha hwa, v11 hb hwb]
  rfl

theorem v49 (r : Fin 4096) (k : Fin 1024) : val_main_v49 (F := Ideal) x1 x2 x3 x4 x5 (ix2 r k) = (mg p (fun r k => p r (1024 + k)) (up (n := 1280) a wa) (up (n := 1024) b wb)) r k := by
  pointwise [val_main_v49, val_main_v48, v26 hp ha hb hwa hwb]

include hx hwo

theorem v29 (e : Fin 1) (r : Fin 4096) (k : Fin 1024) : val_main_v29 (F := Ideal) x0 x1 x2 x3 x4 x5 x6 (ix3 e r k) = xo x (mg p (fun r k => p r (1024 + k)) (up (n := 1280) a wa) (up (n := 1024) b wb)) wo r k := by
  pointwise [val_main_v29, val_main_v28, val_main_v27, v26 hp ha hb hwa hwb, hx, hwo]
  rfl

theorem v43 (r : Fin 4096) (k : Fin 1024) : val_main_v43 (F := Ideal) x0 x1 x2 x3 x4 x5 x6 (ix2 r k) = xo x (mg p (fun r k => p r (1024 + k)) (up (n := 1280) a wa) (up (n := 1024) b wb)) wo r k := by
  pointwise [val_main_v43, v29 hx hp ha hb hwa hwb hwo]

theorem v37 (e : Fin 1) (r : Fin 4096) (k : Fin 1) : val_main_v37 (F := Ideal) x0 x1 x2 x3 x4 x5 x6 (ix3 e r k) = Rms.rs (xo x (mg p (fun r k => p r (1024 + k)) (up (n := 1280) a wa) (up (n := 1024) b wb)) wo r) := by
  pointwise [val_main_v37, val_main_v36, val_main_v35, val_main_cst_5, val_main_v34, val_main_v33, val_main_cst_4, val_main_v32, val_main_v31, val_main_cst_3, val_main_v30, v29 hx hp ha hb hwa hwb hwo]
  rfl

include hg

theorem v51 (r : Fin 4096) (k : Fin 1024) : val_main_v51 (F := Ideal) x0 x1 x2 x3 x4 x5 x6 x7 (ix2 r k) = hn (xo x (mg p (fun r k => p r (1024 + k)) (up (n := 1280) a wa) (up (n := 1024) b wb)) wo) g r k := by
  pointwise [val_main_v51, val_main_v50, val_main_v42, val_main_v41, val_main_v40, val_main_v39, val_main_v38, v37 hx hp ha hb hwa hwb hwo, v29 hx hp ha hb hwa hwb hwo, hg]
  rfl

end Cert.MergeF.Ref

end
-- ==== Proof.MrfArgs.lean ====
/-
  WHAT A GRID POINT READS in the merge's forward pass: point `t` reads rows `512 t …` of the row, of the gates and of the two branches, the gain, and the three weights.
-/
module

public import proofs.«01_k».proof.Proof.MrfOut
public import proofs.«01_k».proof.Proof.MrfRef
public import Idealize.ShloMosaic.Lib.StableHlo.ReadAt

@[expose] public section

set_option maxRecDepth 16384
set_option maxHeartbeats 800000
set_option backward.proofsInPublic true

noncomputable section

namespace Cert.MergeF.Ker

open Cert.Kernel6Ideal Cert.Kernel6Ideal.Gen Cert.Kernel6Ideal.Value Idealize.ShloMosaic Idealize.ShloMosaic.TcCoe Cert.FfnF Cert.Merge Cert.MergeF

/-- The block index of each input window at point `t`. -/
theorem idx_in : ∀ t : Fin cfg0.N, win0_0.index t = ![t.val, 0] ∧ win0_1.index t = ![t.val, 9] ∧ win0_2.index t = ![t.val, 10] ∧ win0_3.index t = ![t.val, 11] ∧ win0_4.index t = ![t.val, 12] ∧ win0_5.index t = ![t.val, 0] ∧ win0_6.index t = ![t.val, 0] ∧ win0_7.index t = ![0, 0, 0] ∧ win0_8.index t = ![0, 0, 0] ∧ win0_9.index t = ![0, 0, 0] ∧ win0_10.index t = ![0, 0] :=
  (by decide +kernel : ∀ t : Fin grid0.N, _)

/-- Rows `512 q …` of an array. -/
def sh (q : ℕ) (x : ℕ → ℕ → EReal) : ℕ → ℕ → EReal := fun r c => x (512 * q + r) c

section
variable (m : (ℓ : Loc nD τ sig) → Buf (Elt Ideal) ℓ) (c : Dev nD)

theorem blk0 (t : Fin cfg0.N) (r : Fin 512) (k : Fin 1024) : iblk m c 0 t (ix2 r k) = m ((c : Thread nD τ).loc main_arg0) (ix2 ⟨512 * t.val + r.val, by have := lt_of_lt_of_eq t.isLt N_0; omega⟩ k) := by
  blk_ext [iblk, V, (idx_in t).1]

theorem blk1 (t : Fin cfg0.N) (r k : Fin 512) :
    iblk m c 1 t (ix2 r k) = m ((c : Thread nD τ).loc main_arg1) (ix2 ⟨512 * t.val + r.val, by have := lt_of_lt_of_eq t.isLt N_0; omega⟩ ⟨4608 + k.val, by omega⟩) := by
  blk_ext [iblk, V, (idx_in t).2.1]

theorem blk2 (t : Fin cfg0.N) (r k : Fin 512) :
    iblk m c 2 t (ix2 r k) = m ((c : Thread nD τ).loc main_arg1) (ix2 ⟨512 * t.val + r.val, by have := lt_of_lt_of_eq t.isLt N_0; omega⟩ ⟨5120 + k.val, by omega⟩) := by
  blk_ext [iblk, V, (idx_in t).2.2.1]

theorem blk3 (t : Fin cfg0.N) (r k : Fin 512) :
    iblk m c 3 t (ix2 r k) = m ((c : Thread nD τ).loc main_arg1) (ix2 ⟨512 * t.val + r.val, by have := lt_of_lt_of_eq t.isLt N_0; omega⟩ ⟨5632 + k.val, by omega⟩) := by
  blk_ext [iblk, V, (idx_in t).2.2.2.1]

theorem blk4 (t : Fin cfg0.N) (r k : Fin 512) :
    iblk m c 4 t (ix2 r k) = m ((c : Thread nD τ).loc main_arg1) (ix2 ⟨512 * t.val + r.val, by have := lt_of_lt_of_eq t.isLt N_0; omega⟩ ⟨6144 + k.val, by omega⟩) := by
  blk_ext [iblk, V, (idx_in t).2.2.2.2.1]

theorem blk5 (t : Fin cfg0.N) (r : Fin 512) (k : Fin 1280) : iblk m c 5 t (ix2 r k) = m ((c : Thread nD τ).loc main_arg2) (ix2 ⟨512 * t.val + r.val, by have := lt_of_lt_of_eq t.isLt N_0; omega⟩ k) := by
  blk_ext [iblk, V, (idx_in t).2.2.2.2.2.1]

theorem blk6 (t : Fin cfg0.N) (r : Fin 512) (k : Fin 1024) : iblk m c 6 t (ix2 r k) = m ((c : Thread nD τ).loc main_arg3) (ix2 ⟨512 * t.val + r.val, by have := lt_of_lt_of_eq t.isLt N_0; omega⟩ k) := by
  blk_ext [iblk, V, (idx_in t).2.2.2.2.2.2.1]

theorem blk7 (t : Fin cfg0.N) (b : Fin 1) (k : Fin 1280) (j : Fin 1024) :
    iblk m c 7 t (ix3 b k j) = m ((c : Thread nD τ).loc main_arg4) (ix2 k j) := by
  have e : ((win0_7.blk t).view.emb (ix3 b k j) : S1x1280x1024.Idx) = ix3 b k j := by blk_ext [(idx_in t).2.2.2.2.2.2.2.1]
  show V m c main_v1 ((win0_7.blk t).view.emb (ix3 b k j)) = _
  rw [e]
  unfold V
  simp only [hostOps0]
  after_reads_at

theorem blk8 (t : Fin cfg0.N) (b : Fin 1) (k : Fin 1024) (j : Fin 1024) :
    iblk m c 8 t (ix3 b k j) = m ((c : Thread nD τ).loc main_arg5) (ix2 k j) := by
  have e : ((win0_8.blk t).view.emb (ix3 b k j) : S1x1024x1024.Idx) = ix3 b k j := by blk_ext [(idx_in t).2.2.2.2.2.2.2.2.1]
  show V m c main_v3 ((win0_8.blk t).view.emb (ix3 b k j)) = _
  rw [e]
  unfold V
  simp only [hostOps0]
  after_reads_at

theorem blk9 (t : Fin cfg0.N) (b : Fin 1) (k : Fin 1024) (j : Fin 1024) :
    iblk m c 9 t (ix3 b k j) = m ((c : Thread nD τ).loc main_arg6) (ix2 k j) := by
  have e : ((win0_9.blk t).view.emb (ix3 b k j) : S1x1024x1024.Idx) = ix3 b k j := by blk_ext [(idx_in t).2.2.2.2.2.2.2.2.2.1]
  show V m c main_v5 ((win0_9.blk t).view.emb (ix3 b k j)) = _
  rw [e]
  unfold V
  simp only [hostOps0]
  after_reads_at

theorem blk10 (t : Fin cfg0.N) (a : Fin 1) (k : Fin 1024) :
    iblk m c 10 t (ix2 a k) = m ((c : Thread nD τ).loc main_arg7) (ix1 k) := by
  have e : ((win0_10.blk t).view.emb (ix2 a k) : S1x1024.Idx) = ix2 a k := by blk_ext [(idx_in t).2.2.2.2.2.2.2.2.2.2]
  show V m c main_v6 ((win0_10.blk t).view.emb (ix2 a k)) = _
  rw [e]
  unfold V
  simp only [hostOps0]
  after_reads_at

end

variable {m : (ℓ : Loc nD τ sig) → Buf (Elt Ideal) ℓ} {c : Dev nD} {x p a b wa wb wo : ℕ → ℕ → EReal} {g : ℕ → EReal}
  (hx : ∀ (r : Fin 4096) (k : Fin 1024), m ((c : Thread nD τ).loc main_arg0) (ix2 r k) = x r k)
  (hp : ∀ (r : Fin 4096) (k : ℕ) (hk : k < 2048), m ((c : Thread nD τ).loc main_arg1) (ix2 r ⟨4608 + k, by omega⟩) = p r k)
  (ha : ∀ (r : Fin 4096) (k : Fin 1280), m ((c : Thread nD τ).loc main_arg2) (ix2 r k) = a r k)
  (hb : ∀ (r : Fin 4096) (k : Fin 1024), m ((c : Thread nD τ).loc main_arg3) (ix2 r k) = b r k)
  (hwa : ∀ (k : Fin 1280) (j : Fin 1024), m ((c : Thread nD τ).loc main_arg4) (ix2 k j) = wa k j)
  (hwb : ∀ (k j : Fin 1024), m ((c : Thread nD τ).loc main_arg5) (ix2 k j) = wb k j)
  (hwo : ∀ (k j : Fin 1024), m ((c : Thread nD τ).loc main_arg6) (ix2 k j) = wo k j)
  (hg : ∀ k : Fin 1024, m ((c : Thread nD τ).loc main_arg7) (ix1 k) = g k)
include hx hp ha hb hwa hwb hwo hg

/-- What point `t` reads. -/
theorem blk (t : Fin cfg0.N) : Blk (iblk m c 0 t) (iblk m c 1 t) (iblk m c 2 t) (iblk m c 3 t) (iblk m c 4 t) (iblk m c 5 t) (iblk m c 6 t) (iblk m c 7 t) (iblk m c 8 t) (iblk m c 9 t) (iblk m c 10 t)
    (sh t.val x) (sh t.val p) (sh t.val fun r k => p r (1024 + k)) (sh t.val a) (sh t.val b) wa wb wo g where
  x r k := (blk0 m c t r k).trans (hx _ _)
  ga0 r k := by
    exact (blk1 m c t r k).trans ((congrArg (fun z => m ((c : Thread nD τ).loc main_arg1) (ix2 ⟨512 * t.val + r.val, by have := lt_of_lt_of_eq t.isLt N_0; omega⟩ z))
      (Fin.ext (by show 4608 + k.val = 4608 + (0 + k.val); omega))).trans (hp _ (0 + k.val) (by omega)))
  ga1 r k := by
    exact (blk2 m c t r k).trans ((congrArg (fun z => m ((c : Thread nD τ).loc main_arg1) (ix2 ⟨512 * t.val + r.val, by have := lt_of_lt_of_eq t.isLt N_0; omega⟩ z))
      (Fin.ext (by show 5120 + k.val = 4608 + (512 + k.val); omega))).trans (hp _ (512 + k.val) (by omega)))
  gb0 r k := by
    exact (blk3 m c t r k).trans ((congrArg (fun z => m ((c : Thread nD τ).loc main_arg1) (ix2 ⟨512 * t.val + r.val, by have := lt_of_lt_of_eq t.isLt N_0; omega⟩ z))
      (Fin.ext (by show 5632 + k.val = 4608 + (1024 + (0 + k.val)); omega))).trans (hp _ (1024 + (0 + k.val)) (by omega)))
  gb1 r k := by
    exact (blk4 m c t r k).trans ((congrArg (fun z => m ((c : Thread nD τ).loc main_arg1) (ix2 ⟨512 * t.val + r.val, by have := lt_of_lt_of_eq t.isLt N_0; omega⟩ z))
      (Fin.ext (by show 6144 + k.val = 4608 + (1024 + (512 + k.val)); omega))).trans (hp _ (1024 + (512 + k.val)) (by omega)))
  a r k := (blk5 m c t r k).trans (ha _ _)
  b r k := (blk6 m c t r k).trans (hb _ _)
  wa e k j := (blk7 m c t e k j).trans (hwa k j)
  wb e k j := (blk8 m c t e k j).trans (hwb k j)
  wo e k j := (blk9 m c t e k j).trans (hwo k j)
  g e k := (blk10 m c t e k).trans (hg k)

end Cert.MergeF.Ker

end
-- ==== Proof.MrfVal.lean ====
/-
  THE FIVE RESULTS of the merge's forward pass are the reference's.
-/
module

public import proofs.«01_k».proof.Proof.MrfArgs

@[expose] public section

set_option maxRecDepth 16384
set_option maxHeartbeats 800000
set_option backward.proofsInPublic true

noncomputable section

namespace Cert.MergeF.Ker

open Cert.Kernel6Ideal Cert.Kernel6Ideal.Gen Cert.Kernel6Ideal.Value Idealize.ShloMosaic Idealize.ShloMosaic.TcCoe Cert.FfnF Cert.Merge Cert.MergeF

/-- The block index of each output window at point `t`. -/
theorem idx_out : ∀ t : Fin cfg0.N, win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

section shift
variable (n q : ℕ) (x g0 g1 A B M w : ℕ → ℕ → EReal) (g : ℕ → EReal)
theorem up_sh : up (n := n) (sh q A) w = sh q (up (n := n) A w) := rfl
theorem mg_sh : mg (sh q g0) (sh q g1) (sh q A) (sh q B) = sh q (mg g0 g1 A B) := rfl
theorem xo_sh : xo (sh q x) (sh q M) w = sh q (xo x M w) := rfl
theorem hn_sh : hn (sh q x) g = sh q (hn x g) := rfl
end shift

variable {m : (ℓ : Loc nD τ sig) → Buf (Elt Ideal) ℓ} {c : Dev nD} {x p a b wa wb wo : ℕ → ℕ → EReal} {g : ℕ → EReal}
  (hx : ∀ (r : Fin 4096) (k : Fin 1024), m ((c : Thread nD τ).loc main_arg0) (ix2 r k) = x r k)
  (hp : ∀ (r : Fin 4096) (k : ℕ) (hk : k < 2048), m ((c : Thread nD τ).loc main_arg1) (ix2 r ⟨4608 + k, by omega⟩) = p r k)
  (ha : ∀ (r : Fin 4096) (k : Fin 1280), m ((c : Thread nD τ).loc main_arg2) (ix2 r k) = a r k)
  (hb : ∀ (r : Fin 4096) (k : Fin 1024), m ((c : Thread nD τ).loc main_arg3) (ix2 r k) = b r k)
  (hwa : ∀ (k : Fin 1280) (j : Fin 1024), m ((c : Thread nD τ).loc main_arg4) (ix2 k j) = wa k j)
  (hwb : ∀ (k j : Fin 1024), m ((c : Thread nD τ).loc main_arg5) (ix2 k j) = wb k j)
  (hwo : ∀ (k j : Fin 1024), m ((c : Thread nD τ).loc main_arg6) (ix2 k j) = wo k j)
  (hg : ∀ k : Fin 1024, m ((c : Thread nD τ).loc main_arg7) (ix1 k) = g k)
include hx hp ha hb hwa hwb hwo hg

theorem r11 : (dats m 0 c).arrAt 11 cfg0.N = Cert.Reference6Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hN : cfg0.N = 8 := N_0
  refine (dats m 0 c).arrAt_eq_of_cover 11 _ (fun t hf => ?_) (fun i => ?_)
  · rw [flushed11]
    funext y
    obtain ⟨r, k, rfl⟩ : ∃ r k, y = ix2 (n0 := 512) (n1 := 1024) r k := ⟨y 0, y 1, (ix2_eta y).symm⟩
    have e : ((win0_11.blk t).view.emb (ix2 r k) : S4096x1024.Idx) = ix2 ⟨512 * t.val + r.val, by have := lt_of_lt_of_eq t.isLt N_0; omega⟩ k := by
      blk_ext [(idx_out t).1]
    show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = Cert.Reference6Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((win0_11.blk t).view.emb (ix2 r k))
    rw [e]
    have v := out0_11_at (blk hx hp ha hb hwa hwb hwo hg t) r k
    rw [up_sh, up_sh, mg_sh, xo_sh] at v
    exact v.trans (Ref.v43 hx hp ha hb hwa hwb hwo ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_11 _, ?_⟩
    have e : ((win0_11.blk t).view.emb (ix2 ⟨r.val % 512, by omega⟩ k) : S4096x1024.Idx) = ix2 r k := by
      blk_ext [(idx_out t).1, ht]
    rw [← e]
    exact View.emb_mem_set _ _

theorem r12 : (dats m 0 c).arrAt 12 cfg0.N = Cert.Reference6Ideal.Read.val_main_v45 (F := Ideal) (m ((c : Thread nD τ).loc main_arg2)) (m ((c : Thread nD τ).loc main_arg4)) := by
  have hN : cfg0.N = 8 := N_0
  refine (dats m 0 c).arrAt_eq_of_cover 12 _ (fun t hf => ?_) (fun i => ?_)
  · rw [flushed12]
    funext y
    obtain ⟨r, k, rfl⟩ : ∃ r k, y = ix2 (n0 := 512) (n1 := 1024) r k := ⟨y 0, y 1, (ix2_eta y).symm⟩
    have e : ((win0_12.blk t).view.emb (ix2 r k) : S4096x1024.Idx) = ix2 ⟨512 * t.val + r.val, by have := lt_of_lt_of_eq t.isLt N_0; omega⟩ k := by
      blk_ext [(idx_out t).2.1]
    show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = Cert.Reference6Ideal.Read.val_main_v45 (F := Ideal) (m ((c : Thread nD τ).loc main_arg2)) (m ((c : Thread nD τ).loc main_arg4)) ((win0_12.blk t).view.emb (ix2 r k))
    rw [e]
    have v := out0_12_at (blk hx hp ha hb hwa hwb hwo hg t) r k
    rw [up_sh] at v
    exact v.trans (Ref.v45 ha hwa ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_12 _, ?_⟩
    have e : ((win0_12.blk t).view.emb (ix2 ⟨r.val % 512, by omega⟩ k) : S4096x1024.Idx) = ix2 r k := by
      blk_ext [(idx_out t).2.1, ht]
    rw [← e]
    exact View.emb_mem_set _ _

theorem r13 : (dats m 0 c).arrAt 13 cfg0.N = Cert.Reference6Ideal.Read.val_main_v47 (F := Ideal) (m ((c : Thread nD τ).loc main_arg3)) (m ((c : Thread nD τ).loc main_arg5)) := by
  have hN : cfg0.N = 8 := N_0
  refine (dats m 0 c).arrAt_eq_of_cover 13 _ (fun t hf => ?_) (fun i => ?_)
  · rw [flushed13]
    funext y
    obtain ⟨r, k, rfl⟩ : ∃ r k, y = ix2 (n0 := 512) (n1 := 1024) r k := ⟨y 0, y 1, (ix2_eta y).symm⟩
    have e : ((win0_13.blk t).view.emb (ix2 r k) : S4096x1024.Idx) = ix2 ⟨512 * t.val + r.val, by have := lt_of_lt_of_eq t.isLt N_0; omega⟩ k := by
      blk_ext [(idx_out t).2.2.1]
    show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = Cert.Reference6Ideal.Read.val_main_v47 (F := Ideal) (m ((c : Thread nD τ).loc main_arg3)) (m ((c : Thread nD τ).loc main_arg5)) ((win0_13.blk t).view.emb (ix2 r k))
    rw [e]
    have v := out0_13_at (blk hx hp ha hb hwa hwb hwo hg t) r k
    rw [up_sh] at v
    exact v.trans (Ref.v47 hb hwb ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_13 _, ?_⟩
    have e : ((win0_13.blk t).view.emb (ix2 ⟨r.val % 512, by omega⟩ k) : S4096x1024.Idx) = ix2 r k := by
      blk_ext [(idx_out t).2.2.1, ht]
    rw [← e]
    exact View.emb_mem_set _ _

theorem r14 : (dats m 0 c).arrAt 14 cfg0.N = Cert.Reference6Ideal.Read.val_main_v49 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  have hN : cfg0.N = 8 := N_0
  refine (dats m 0 c).arrAt_eq_of_cover 14 _ (fun t hf => ?_) (fun i => ?_)
  · rw [flushed14]
    funext y
    obtain ⟨r, k, rfl⟩ : ∃ r k, y = ix2 (n0 := 512) (n1 := 1024) r k := ⟨y 0, y 1, (ix2_eta y).symm⟩
    have e : ((win0_14.blk t).view.emb (ix2 r k) : S4096x1024.Idx) = ix2 ⟨512 * t.val + r.val, by have := lt_of_lt_of_eq t.isLt N_0; omega⟩ k := by
      blk_ext [(idx_out t).2.2.2.1]
    show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = Cert.Reference6Ideal.Read.val_main_v49 (F := Ideal) (m ((c : Thread nD τ).loc main_arg1)) (m ((c : Thread nD τ).loc main_arg2)) (m ((c : Thread nD τ).loc main_arg3)) (m ((c : Thread nD τ).loc main_arg4)) (m ((c : Thread nD τ).loc main_arg5)) ((win0_14.blk t).view.emb (ix2 r k))
    rw [e]
    have v := out0_14_at (blk hx hp ha hb hwa hwb hwo hg t) r k
    rw [up_sh, up_sh, mg_sh] at v
    exact v.trans (Ref.v49 hp ha hb hwa hwb ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_14 _, ?_⟩
    have e : ((win0_14.blk t).view.emb (ix2 ⟨r.val % 512, by omega⟩ k) : S4096x1024.Idx) = ix2 r k := by
      blk_ext [(idx_out t).2.2.2.1, ht]
    rw [← e]
    exact View.emb_mem_set _ _

theorem r15 : (dats m 0 c).arrAt 15 cfg0.N = Cert.Reference6Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hN : cfg0.N = 8 := N_0
  refine (dats m 0 c).arrAt_eq_of_cover 15 _ (fun t hf => ?_) (fun i => ?_)
  · rw [flushed15]
    funext y
    obtain ⟨r, k, rfl⟩ : ∃ r k, y = ix2 (n0 := 512) (n1 := 1024) r k := ⟨y 0, y 1, (ix2_eta y).symm⟩
    have e : ((win0_15.blk t).view.emb (ix2 r k) : S4096x1024.Idx) = ix2 ⟨512 * t.val + r.val, by have := lt_of_lt_of_eq t.isLt N_0; omega⟩ k := by
      blk_ext [(idx_out t).2.2.2.2]
    show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = Cert.Reference6Ideal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_15.blk t).view.emb (ix2 r k))
    rw [e]
    have v := out0_15_at (blk hx hp ha hb hwa hwb hwo hg t) r k
    rw [up_sh, up_sh, mg_sh, xo_sh, hn_sh] at v
    exact v.trans (Ref.v51 hx hp ha hb hwa hwb hwo hg ⟨512 * t.val + r.val, by have := lt_of_lt_of_eq t.isLt N_0; omega⟩ k).symm
  · obtain ⟨r, k, rfl⟩ : ∃ r k, i = ix2 (n0 := 4096) (n1 := 1024) r k := ⟨i 0, i 1, (ix2_eta i).symm⟩
    obtain ⟨t, ht⟩ : ∃ t : Fin cfg0.N, t.val = r.val / 512 := ⟨⟨r.val / 512, lt_of_lt_of_eq (by omega) hN.symm⟩, rfl⟩
    refine ⟨t, flush0_15 _, ?_⟩
    have e : ((win0_15.blk t).view.emb (ix2 ⟨r.val % 512, by omega⟩ k) : S4096x1024.Idx) = ix2 r k := by
      blk_ext [(idx_out t).2.2.2.2, ht]
    rw [← e]
    exact View.emb_mem_set _ _

end Cert.MergeF.Ker

end
-- ==== Proof.MrfAlg.lean ====
/-
  THE ALGEBRAIC CLAIM of the merge's forward pass: its run's five results are the reference's.
-/
module

public import proofs.«01_k».proof.Defs
public import proofs.«01_k».proof.Proof.MrfVal
public import proofs.«01_k».proof.Proof.Arr
public import proofs.«01_k».proof.Proof.Gen.Reference6Ideal.Run
public import Idealize.ShloMosaic.Lib.Quiescent
public import Idealize.ShloMosaic.Adequacy
public import Idealize.ShloMosaic.Init

@[expose] public section

set_option maxRecDepth 16384
set_option maxHeartbeats 800000
set_option backward.proofsInPublic true

noncomputable section

namespace Cert.MergeF

open Idealize.ShloMosaic Idealize.ShloMosaic.TcCoe Idealize.SL.Sem Cert.Arr Cert.Kernel6Ideal Cert.MergeF.Ker

/-- The two gates, columns 4608 to 6655 of the projection, extended by zero. -/
def gates (x : S4096x6656.Idx → EReal) : ℕ → ℕ → EReal :=
  arr2 fun (r : Fin 4096) (k : Fin 2048) => x (ix2 r ⟨4608 + k.val, by omega⟩)

theorem gates_apply (x : S4096x6656.Idx → EReal) (r : Fin 4096) (k : ℕ) (hk : k < 2048) : x (ix2 r ⟨4608 + k, by omega⟩) = gates x r k :=
  arr2_apply (fun (r : Fin 4096) (k : Fin 2048) => x (ix2 r ⟨4608 + k.val, by omega⟩)) r ⟨k, hk⟩

/-- The kernel's five results are the reference's. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨_, _, _, _, _, Cert.Kernel6Ideal.Value.run_blocks m g, ?_⟩
  refine (θ_run _ _ _).mono (fun r h (c : Dev nD) => ?_) (Cert.Reference6Ideal.Value.run m' g')
  have q0 := arr2_apply fun (r : Fin 4096) (k : Fin 1024) => m ((c : Thread nD τ).loc main_arg0) (ix2 r k)
  have q1 := gates_apply (m ((c : Thread nD τ).loc main_arg1))
  have q2 := arr2_apply fun (r : Fin 4096) (k : Fin 1280) => m ((c : Thread nD τ).loc main_arg2) (ix2 r k)
  have q3 := arr2_apply fun (r : Fin 4096) (k : Fin 1024) => m ((c : Thread nD τ).loc main_arg3) (ix2 r k)
  have q4 := arr2_apply fun (r : Fin 1280) (k : Fin 1024) => m ((c : Thread nD τ).loc main_arg4) (ix2 r k)
  have q5 := arr2_apply fun (r : Fin 1024) (k : Fin 1024) => m ((c : Thread nD τ).loc main_arg5) (ix2 r k)
  have q6 := arr2_apply fun (r : Fin 1024) (k : Fin 1024) => m ((c : Thread nD τ).loc main_arg6) (ix2 r k)
  have q7 := arr1_apply fun (k : Fin 1024) => m ((c : Thread nD τ).loc main_arg7) (ix1 k)
  obtain ⟨a0, a1, a2, a3, a4, a5, a6, a7⟩ := hagree c
  obtain ⟨h0, h1, h2, h3, h4, hk⟩ := h c
  refine ⟨h0.trans ?_, h1.trans ?_, h2.trans ?_, h3.trans ?_, h4.trans ?_, hk⟩
  · refine (Cert.Reference6Ideal.Read.val_main_v43_eq _ _ _ _ _ _ _).trans ?_
    rw [r11 q0 q1 q2 q3 q4 q5 q6 q7, ← a0, ← a1, ← a2, ← a3, ← a4, ← a5, ← a6]
  · refine (Cert.Reference6Ideal.Read.val_main_v45_eq _ _).trans ?_
    rw [r12 q0 q1 q2 q3 q4 q5 q6 q7, ← a2, ← a4]
  · refine (Cert.Reference6Ideal.Read.val_main_v47_eq _ _).trans ?_
    rw [r13 q0 q1 q2 q3 q4 q5 q6 q7, ← a3, ← a5]
  · refine (Cert.Reference6Ideal.Read.val_main_v49_eq _ _ _ _ _).trans ?_
    rw [r14 q0 q1 q2 q3 q4 q5 q6 q7, ← a1, ← a2, ← a3, ← a4, ← a5]
  · refine (Cert.Reference6Ideal.Read.val_main_v51_eq _ _).trans ?_
    rw [r15 q0 q1 q2 q3 q4 q5 q6 q7, ← a0, ← a1, ← a2, ← a3, ← a4, ← a5, ← a6, ← a7]

/-- The reference runs, keeps its arguments and leaves every counter at zero: it has none. -/
theorem reference_frame : Cert.quiescent_Reference6Ideal (hReference6Ideal := Cert.Reference6Ideal.Gen.facts) := fun m ρ _ =>
  (θ_run _ _ _).mono (fun r h => And.intro (fun c => (h c).2.2.2.2.2) (sem_eq_zero_of_no_sems rfl r.2)) (Cert.Reference6Ideal.Value.run m ρ)

end Cert.MergeF

end
-- ==== Proof.PrjVal.lean ====
/-
  THE INPUT PROJECTION'S FORWARD PASS: point `4 i + q` multiplies rows `1024 q …` of the normed, scaled rows by quarter `i` of the weight,
  and the blocks together are the reference's projection.
-/
module

public import proofs.«01_k».proof.Proof.FffVal
public import proofs.«01_k».proof.Proof.Axes
public import proofs.«01_k».proof.Proof.Gen.Kernel7Ideal.Value
public import proofs.«01_k».proof.Proof.Gen.Reference7Ideal.Read
public import Idealize.ShloMosaic.Lib.Pipeline.ReadBack
public import Idealize.ShloMosaic.Lib.Pipeline.ValueKit
public import Idealize.ShloMosaic.Lib.StableHlo.ReadAt

@[expose] public section

set_option maxRecDepth 16384
set_option maxHeartbeats 800000
set_option backward.proofsInPublic true

noncomputable section

namespace Cert.Prj

open Idealize.ShloMosaic Cert.Ffn Cert.FfnF

namespace Ref

open Cert.Reference7Ideal Cert.Reference7Ideal.Gen Cert.Reference7Ideal.Read

variable {x0 : S4096x1024.Idx → EReal} {x1 : S1024.Idx → EReal} {x2 : S1024x6656.Idx → EReal}
  {x : ℕ → ℕ → EReal} {g : ℕ → EReal} {wi : ℕ → ℕ → EReal}
  (hx : ∀ (r : Fin 4096) (c : Fin 1024), x0 (ix2 r c) = x r c)
  (hg : ∀ c : Fin 1024, x1 (ix1 c) = g c)
  (hw : ∀ (c : Fin 1024) (f : Fin 6656), x2 (ix2 c f) = wi c f)

include hx

theorem v8 (a : Fin 1) (r : Fin 4096) (c : Fin 1) : val_main_v8 (F := Ideal) x0 (ix3 a r c) = Rms.rs (x r) := by
  pointwise [val_main_v8, val_main_v7, val_main_v6, val_main_cst_1, val_main_v5, val_main_v4, val_main_cst_0, val_main_v3, val_main_v2, val_main_cst, val_main_v1, val_main_v0, hx]
  rfl

include hg hw

theorem v16 (r : Fin 4096) (f : Fin 6656) : val_main_v16 (F := Ideal) x0 x1 x2 (ix2 r f) = pr (hn x g) wi r f := by
  pointwise [val_main_v16, val_main_v15, val_main_v14, val_main_v13, val_main_v12, val_main_v11, val_main_v10, val_main_v9, v8 hx, val_main_v0, hx, hg, hw]
  rfl

end Ref

namespace Ker

open Cert.Kernel7Ideal Cert.Kernel7Ideal.Gen Cert.Kernel7Ideal.Value Idealize.ShloMosaic.TcCoe

theorem pay1 {v0 : S1024x1024.Idx → EReal} {v2 : S1x1x1024x1664.Idx → EReal} {h wi : ℕ → ℕ → EReal} {q o : ℕ}
    (H : ∀ (r k : Fin 1024), v0 (ix2 r k) = h (1024 * q + r) k) (W : ∀ (a b : Fin 1) (k : Fin 1024) (f : Fin 1664), v2 (ix4 a b k f) = wi k (1664 * o + f))
    (r : Fin 1024) (f : Fin 1664) : k0_pay1 (F := Ideal) v0 v2 (ix2 r f) = pr h wi (1024 * q + r) (1664 * o + f) := by
  pointwise [k0_pay1, H, W]
  rfl

theorem out0_2_at {x0 : Vec Ideal S1024x1024 .bf16} {x1 : Vec Ideal S1x1x1024x1664 .bf16} {h wi : ℕ → ℕ → EReal} {q o : ℕ}
    (H : ∀ (r k : Fin 1024), x0 (ix2 r k) = h (1024 * q + r) k) (W : ∀ (a b : Fin 1) (k : Fin 1024) (f : Fin 1664), x1 (ix4 a b k f) = wi k (1664 * o + f))
    (r : Fin 1024) (f : Fin 1664) : out0_2 (F := Ideal) x0 x1 (ix2 r f) = pr h wi (1024 * q + r) (1664 * o + f) := by
  frame_out
  exact pay1 H W r f

/-- The block index of each window at point `t`. -/
theorem idx : ∀ t : Fin cfg0.N, win0_0.index t = ![t.val % 4, 0] ∧ win0_1.index t = ![0, t.val / 4, 0, 0] ∧ win0_2.index t = ![t.val % 4, t.val / 4] :=
  (by decide +kernel : ∀ t : Fin grid0.N, _)

variable {m : (ℓ : Loc nD τ sig) → Buf (Elt Ideal) ℓ} {c : Dev nD} {x : ℕ → ℕ → EReal} {g : ℕ → EReal} {wi : ℕ → ℕ → EReal}
  (hx : ∀ (r : Fin 4096) (k : Fin 1024), m ((c : Thread nD τ).loc main_arg0) (ix2 r k) = x r k)
  (hg : ∀ k : Fin 1024, m ((c : Thread nD τ).loc main_arg1) (ix1 k) = g k)
  (hw : ∀ (k : Fin 1024) (f : Fin 6656), m ((c : Thread nD τ).loc main_arg2) (ix2 k f) = wi k f)

section
include hx hg

/-- The normed, scaled rows the host computes are the reference's. -/
theorem blk0 (t : Fin cfg0.N) (r k : Fin 1024) : iblk m c 0 t (ix2 r k) = hn x g (1024 * (t.val % 4) + r) k := by
  have e : ((win0_0.blk t).view.emb (ix2 r k) : S4096x1024.Idx) = ix2 ⟨1024 * (t.val % 4) + r.val, by omega⟩ k := by blk_ext [(idx t).1]
  show V m c main_v15 ((win0_0.blk t).view.emb (ix2 r k)) = _
  rw [e]
  unfold V
  simp only [hostOps0]
  after_reads_at
  exact FfnF.Ker.hn_host (1024 * (t.val % 4) + r.val) k.val (fun k => m ((c : Thread nD τ).loc main_arg0) (ix2 ⟨1024 * (t.val % 4) + r.val, by omega⟩ k))
    _ _ (fun k => hx _ k) (hx _ k) (hg k)
end

section
include hw

/-- The quarter of the weight a point reads. -/
theorem blk1 (t : Fin cfg0.N) (a b : Fin 1) (k : Fin 1024) (f : Fin 1664) : iblk m c 1 t (ix4 a b k f) = wi k (1664 * (t.val / 4) + f) := by
  have ht : t.val < 16 := lt_of_lt_of_eq t.isLt N_0
  have e : ((win0_1.blk t).view.emb (ix4 a b k f) : S1x4x1024x1664.Idx) = ix4 a ⟨t.val / 4, by omega⟩ k f := by blk_ext [(idx t).2.1]
  show V m c main_v19 ((win0_1.blk t).view.emb (ix4 a b k f)) = _
  rw [e]
  unfold V
  simp only [hostOps0]
  after_reads_at
  exact (congrArg (fun z => m ((c : Thread nD τ).loc main_arg2) (ix2 k z)) (Fin.ext (by show t.val / 4 * 1664 + f.val = 1664 * (t.val / 4) + f.val; omega))).trans
    (hw k ⟨1664 * (t.val / 4) + f.val, by omega⟩)
end

include hx hg hw

theorem r2 : (dats m 0 c).arrAt 2 cfg0.N = Cert.Reference7Ideal.Read.val_main_v16 (F := Ideal) (m ((c : Thread nD τ).loc main_arg0)) (m ((c : Thread nD τ).loc main_arg1)) (m ((c : Thread nD τ).loc main_arg2)) := by
  have hN : cfg0.N = 16 := N_0
  refine (dats m 0 c).arrAt_eq_of_cover 2 _ (fun t hf => ?_) (fun i => ?_)
  · rw [flushed2]
    funext y
    have ht : t.val < 16 := lt_of_lt_of_eq t.isLt N_0
    obtain ⟨r, k, rfl⟩ : ∃ r k, y = ix2 (n0 := 1024) (n1 := 1664) r k := ⟨y 0, y 1, (ix2_eta y).symm⟩
    have e : ((win0_2.blk t).view.emb (ix2 r k) : S4096x6656.Idx) = ix2 ⟨1024 * (t.val % 4) + r.val, by omega⟩ ⟨1664 * (t.val / 4) + k.val, by omega⟩ := by
      blk_ext [(idx t).2.2]
    show out0_2 (F := Ideal) (iblk m c 0 t) (iblk m c 1 t) (ix2 r k) = Cert.Reference7Ideal.Read.val_main_v16 (F := Ideal) (m ((c : Thread nD τ).loc main_arg0)) (m ((c : Thread nD τ).loc main_arg1)) (m ((c : Thread nD τ).loc main_arg2)) ((win0_2.blk t).view.emb (ix2 r k))
    rw [e]
    exact (out0_2_at (blk0 hx hg t) (blk1 hw t) r k).trans (Ref.v16 hx hg hw ⟨1024 * (t.val % 4) + r.val, by omega⟩ ⟨1664 * (t.val / 4) + k.val, by omega⟩).symm
  · obtain ⟨r, k, rfl⟩ : ∃ r k, i = ix2 (n0 := 4096) (n1 := 6656) r k := ⟨i 0, i 1, (ix2_eta i).symm⟩
    obtain ⟨t, ht⟩ : ∃ t : Fin cfg0.N, t.val = 4 * (k.val / 1664) + r.val / 1024 := ⟨⟨4 * (k.val / 1664) + r.val / 1024, lt_of_lt_of_eq (by omega) hN.symm⟩, rfl⟩
    have h4 : t.val % 4 = r.val / 1024 := by omega
    have h5 : t.val / 4 = k.val / 1664 := by omega
    refine ⟨t, flush0_2 _, ?_⟩
    have e : ((win0_2.blk t).view.emb (ix2 ⟨r.val % 1024, by omega⟩ ⟨k.val % 1664, by omega⟩) : S4096x6656.Idx) = ix2 r k := by
      blk_ext [(idx t).2.2, h4, h5]
    rw [← e]
    exact View.emb_mem_set _ _

end Ker

end Cert.Prj

end
-- ==== Proof.PrjAlg.lean ====
/-
  THE ALGEBRAIC CLAIM of the input projection's forward pass: its run's result is the reference's.
-/
module

public import proofs.«01_k».proof.Defs
public import proofs.«01_k».proof.Proof.PrjVal
public import proofs.«01_k».proof.Proof.Arr
public import proofs.«01_k».proof.Proof.Gen.Reference7Ideal.Run
public import Idealize.ShloMosaic.Lib.Quiescent
public import Idealize.ShloMosaic.Adequacy
public import Idealize.ShloMosaic.Init

@[expose] public section

set_option maxRecDepth 16384
set_option maxHeartbeats 800000
set_option backward.proofsInPublic true

noncomputable section

namespace Cert.Prj

open Idealize.ShloMosaic Idealize.ShloMosaic.TcCoe Idealize.SL.Sem Cert.Arr Cert.Kernel7Ideal Cert.Prj.Ker

/-- The kernel's result is the reference's. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.Value.run_blocks m g, ?_⟩
  refine (θ_run _ _ _).mono (fun r h (c : Dev nD) => ?_) (Cert.Reference7Ideal.Value.run m' g')
  have q0 := arr2_apply fun (r : Fin 4096) (k : Fin 1024) => m ((c : Thread nD τ).loc main_arg0) (ix2 r k)
  have q1 := arr1_apply fun (k : Fin 1024) => m ((c : Thread nD τ).loc main_arg1) (ix1 k)
  have q2 := arr2_apply fun (r : Fin 1024) (k : Fin 6656) => m ((c : Thread nD τ).loc main_arg2) (ix2 r k)
  obtain ⟨a0, a1, a2⟩ := hagree c
  obtain ⟨h0, hk⟩ := h c
  refine ⟨h0.trans ?_, hk⟩
  refine (Cert.Reference7Ideal.Read.val_main_v16_eq _ _ _).trans ?_
  rw [r2 q0 q1 q2, ← a0, ← a1, ← a2]

/-- The reference runs, keeps its arguments and leaves every counter at zero: it has none. -/
theorem reference_frame : Cert.quiescent_Reference7Ideal (hReference7Ideal := Cert.Reference7Ideal.Gen.facts) := fun m ρ _ =>
  (θ_run _ _ _).mono (fun r h => And.intro (fun c => (h c).2) (sem_eq_zero_of_no_sems rfl r.2)) (Cert.Reference7Ideal.Value.run m ρ)

end Cert.Prj

end
-- ==== Proof.LosKer.lean ====
/-
  THE LOSS HEAD over the extended reals, and its kernel's payloads: each, read at an index, is a function of the rows, the targets and the gain.
-/
module

public import proofs.«01_k».proof.Proof.FfnFn
public import proofs.«01_k».proof.Proof.Gen.Kernel8Ideal.Value
public import Idealize.ShloMosaic.Lib.Pipeline.ReadBack
public import Idealize.ShloMosaic.Lib.Pipeline.ValueKit

@[expose] public section

set_option maxRecDepth 16384
set_option maxHeartbeats 800000
set_option backward.proofsInPublic true

noncomputable section

namespace Cert.Loss

open Idealize.ShloMosaic Cert.Ffn

section
variable (x t : ℕ → ℕ → EReal) (g : ℕ → EReal)

/-- The error: the normed, scaled row less the target. -/
def er (r k : ℕ) : EReal := nrm x r k * g k - t r k

/-- Its gradient: the error by the number of channels. -/
def gr (r k : ℕ) : EReal := er x t g r k * ((1 / 1024 : ℝ) : EReal)

/-- The mean square of a row's error. -/
def sq (r : ℕ) : EReal := Ideal.div (∑ k : Fin 1024, er x t g r k * er x t g r k) ((1024 : ℝ) : EReal)

/-- The loss, the gradient of the row and that of the gain. -/
def loss : EReal := ((1 / 2 : ℝ) : EReal) * ∑ r : Fin 4096, sq x t g r
def dx (r k : ℕ) : EReal := Rms.dx (gr x t g r) g (x r) k
def dg (k : ℕ) : EReal := ∑ r : Fin 4096, gr x t g r k * nrm x r k

end

namespace Ker

open Cert.Kernel8Ideal Cert.Kernel8Ideal.Gen

/-- A block of rows is a function of row and column. -/
abbrev Rows (x : S1024x1024.Idx → EReal) (f : ℕ → ℕ → EReal) : Prop := ∀ (r : Fin 1024) (c : Fin 1024), x (ix2 r c) = (f r c)
/-- A single row is a function of the column. -/
abbrev Row (x : S1x1024.Idx → EReal) (f : ℕ → EReal) : Prop := ∀ (b : Fin 1) (c : Fin 1024), x (ix2 b c) = (f c)

variable {x t u : ℕ → ℕ → EReal} {g : ℕ → EReal} {v3 v18 v36 : S1024x1024.Idx → EReal} {v4 : S1x1024.Idx → EReal}

/-- The literal of a 1024th. -/
theorem lit_1024th : Ideal.ofBits .f32 0x3A800000#32 = ((1 / 1024 : ℝ) : EReal) := by
  simp [Ideal.ofBits, Ideal.ieee, -EReal.coe_mul]; norm_num

theorem pay1 (Hx : Rows v3 x) (r : Fin 1024) (b : Fin 1) : k0_pay1 (F := Ideal) v3 (ix2 r b) = (Rms.rs (x r)) := by
  pointwise [k0_pay1, Hx]
  rfl

theorem pay2 (Hx : Rows v3 x) : Rows (k0_pay2 (F := Ideal) v3) (nrm x) := fun r c => by
  pointwise [k0_pay2, pay1 Hx, Hx]
  rfl

theorem pay7 (Hg : Row v4 g) : Row (k0_pay7 (F := Ideal) v4) g := fun b c => by
  pointwise [k0_pay7, Hg]

theorem pay8 (Hx : Rows v3 x) (Hg : Row v4 g) (Ht : Rows v18 t) : Rows (k0_pay8 (F := Ideal) v3 v4 v18) (er x t g) := fun r c => by
  pointwise [k0_pay8, pay7 Hg, Hx, Ht]
  rfl

theorem pay10 (Hx : Rows v3 x) (Hg : Row v4 g) (Ht : Rows v18 t) : Rows (k0_pay10 (F := Ideal) v3 v4 v18) (gr x t g) := fun r c => by
  pointwise [k0_pay10, lit_1024th, pay8 Hx Hg Ht]
  rfl

/-- A block's part of the loss, added to what is there. -/
theorem pay9 (Hx : Rows v3 x) (Hg : Row v4 g) (Ht : Rows v18 t) {v29 : S1x128.Idx → EReal} {e : EReal} (He : ∀ (b : Fin 1) (j : Fin 128), v29 (ix2 b j) = e)
    (b : Fin 1) (j : Fin 128) : k0_pay9 (F := Ideal) v3 v4 v18 v29 (ix2 b j) = e + ((1 / 2 : ℝ) : EReal) * ∑ r : Fin 1024, sq x t g r := by
  pointwise [k0_pay9, pay8 Hx Hg Ht, He]
  rfl

theorem pay3 (Hx : Rows v3 x) (Hg : Row v4 g) (Hu : Rows v36 u) : Rows (k0_pay3 (F := Ideal) v3 v4 v36) fun r c => Rms.dx (u r) g (x r) c := fun r c => by
  pointwise [k0_pay3, pay1 Hx, pay2 Hx, Hg, Hu]
  rfl

/-- A block's part of the gradient of the gain, added to what is there. -/
theorem pay4 (Hx : Rows v3 x) (Hu : Rows v36 u) {v61 : S1x1024.Idx → EReal} {e : ℕ → EReal} (He : Row v61 e) (b : Fin 1) (c : Fin 1024) :
    k0_pay4 (F := Ideal) v3 v36 v61 (ix2 b c) = e c + ∑ r : Fin 1024, u r c * nrm x r c := by
  pointwise [k0_pay4, pay2 Hx, Hu, He]

end Ker

end Cert.Loss

end
-- ==== Proof.LosOut.lean ====
/-
  WHAT A GRID POINT WRITES in the loss head: the gradient of its rows, and its parts of the loss and of the gain's gradient.
-/
module

public import proofs.«01_k».proof.Proof.LosKer

@[expose] public section

set_option maxRecDepth 16384
set_option maxHeartbeats 800000
set_option backward.proofsInPublic true

noncomputable section

namespace Cert.Loss.Ker

open Cert.Kernel8Ideal Cert.Kernel8Ideal.Gen Idealize.ShloMosaic Cert.Loss Cert.Ffn

/-- The blocks a grid point reads, as functions of two indices. -/
structure Blk (x0 x1 : S1024x1024.Idx → EReal) (x2 : S1x1024.Idx → EReal) (x t : ℕ → ℕ → EReal) (g : ℕ → EReal) : Prop where
  x : Rows x0 x
  t : Rows x1 t
  g : Row x2 g

variable {x t : ℕ → ℕ → EReal} {g : ℕ → EReal}
variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x128 .f32) (harg5 : arg5.IsWhole) (arg6 : Memref sig .tc .vmem S1x1024 .f32) (harg6 : arg6.IsWhole)
  (x0 : Vec Ideal S1024x1024 .f32) (x1 : Vec Ideal S1024x1024 .f32) (x2 : Vec Ideal S1x1024 .f32) (xo4 : Vec Ideal S1x128 .f32) (xo5 : Vec Ideal S1x1024 .f32)

theorem out0_A_3_at (hc0 : cond0_0 i) (H : Blk x0 x1 x2 x t g) (r : Fin 1024) (k : Fin 1024) :
    out0_A_3 (F := Ideal) c i arg1 harg1 arg2 harg2 arg3 harg3 arg4 harg4 arg5 harg5 arg6 harg6 hc0 x0 x1 x2 (ix2 r k) = (dx x t g r k) := by
  frame_out
  exact pay3 H.x (pay7 H.g) (pay10 H.x H.g H.t) r k

theorem out0_A_4_at (hc0 : cond0_0 i) (H : Blk x0 x1 x2 x t g) (b : Fin 1) (j : Fin 128) :
    out0_A_4 (F := Ideal) c i arg1 harg1 arg2 harg2 arg3 harg3 arg4 harg4 arg5 harg5 arg6 harg6 hc0 x0 x1 x2 (ix2 b j) = ((1 / 2 : ℝ) : EReal) * ∑ r : Fin 1024, sq x t g r := by
  frame_open
  simp (disch := decide) only [↓ View.readCov_skip, ↓ View.readCov_cons_toLoadRect, ↓ View.readCov_fill]
  frame_out
  refine (pay9 H.x H.g H.t (e := 0) (fun b c => by pointwise [k0_pay5]) b j).trans ?_
  simp only [zero_add]

theorem out0_A_5_at (hc0 : cond0_0 i) (H : Blk x0 x1 x2 x t g) (b : Fin 1) (k : Fin 1024) :
    out0_A_5 (F := Ideal) c i arg1 harg1 arg2 harg2 arg3 harg3 arg4 harg4 arg5 harg5 arg6 harg6 hc0 x0 x1 x2 (ix2 b k) = ∑ r : Fin 1024, gr x t g r k * nrm x r k := by
  frame_open
  simp (disch := decide) only [↓ View.readCov_skip, ↓ View.readCov_cons_toLoadRect, ↓ View.readCov_fill]
  frame_out
  refine (pay4 H.x (pay10 H.x H.g H.t) (e := fun _ => 0) (fun b c => by pointwise [k0_pay6]) b k).trans ?_
  simp only [zero_add]

theorem out0_B_3_at (hc0 : ¬cond0_0 i) (H : Blk x0 x1 x2 x t g) (r : Fin 1024) (k : Fin 1024) :
    out0_B_3 (F := Ideal) c i arg1 harg1 arg2 harg2 arg3 harg3 arg4 harg4 arg5 harg5 arg6 harg6 hc0 x0 x1 x2 xo4 xo5 (ix2 r k) = (dx x t g r k) := by
  frame_out
  exact pay3 H.x (pay7 H.g) (pay10 H.x H.g H.t) r k

theorem out0_B_4_at (hc0 : ¬cond0_0 i) (H : Blk x0 x1 x2 x t g) {e : EReal} (He : ∀ (b : Fin 1) (j : Fin 128), xo4 (ix2 b j) = e) (b : Fin 1) (j : Fin 128) :
    out0_B_4 (F := Ideal) c i arg1 harg1 arg2 harg2 arg3 harg3 arg4 harg4 arg5 harg5 arg6 harg6 hc0 x0 x1 x2 xo4 xo5 (ix2 b j) = e + ((1 / 2 : ℝ) : EReal) * ∑ r : Fin 1024, sq x t g r := by
  frame_out
  exact pay9 H.x H.g H.t He b j

theorem out0_B_5_at (hc0 : ¬cond0_0 i) (H : Blk x0 x1 x2 x t g) {e : ℕ → EReal} (He : Row xo5 e) (b : Fin 1) (k : Fin 1024) :
    out0_B_5 (F := Ideal) c i arg1 harg1 arg2 harg2 arg3 harg3 arg4 harg4 arg5 harg5 arg6 harg6 hc0 x0 x1 x2 xo4 xo5 (ix2 b k) = e k + ∑ r : Fin 1024, gr x t g r k * nrm x r k := by
  frame_out
  exact pay4 H.x (pay10 H.x H.g H.t) He b k

end Cert.Loss.Ker

end
-- ==== Proof.LosFold.lean ====
/-
  THE SWEEP OVER THE FOUR GRID POINTS of the loss head: what point `t` reads are rows `1024 t … 1024 t + 1023`, and the loss and the gradient of the gain hold, after it,
  the sums over the blocks up to `t`.
-/
module

public import proofs.«01_k».proof.Proof.LosOut
public import proofs.«01_k».proof.Proof.Blocks

@[expose] public section

set_option maxRecDepth 16384
set_option maxHeartbeats 800000
set_option backward.proofsInPublic true

noncomputable section

namespace Cert.Loss.Ker

open Cert.Kernel8Ideal Cert.Kernel8Ideal.Gen Cert.Kernel8Ideal.Value Idealize.ShloMosaic Idealize.ShloMosaic.TcCoe Cert.Loss Cert.Ffn

/-- The rows from `1024 q` on. -/
def sh (q : ℕ) (x : ℕ → ℕ → EReal) : ℕ → ℕ → EReal := fun r c => x (1024 * q + r) c

section shift
variable (x t : ℕ → ℕ → EReal) (g : ℕ → EReal)

theorem sq_sh (q r : ℕ) : sq (sh q x) (sh q t) g r = sq x t g (1024 * q + r) := rfl
theorem gr_sh (q r k : ℕ) : gr (sh q x) (sh q t) g r k = gr x t g (1024 * q + r) k := rfl
theorem nrm_sh (q r k : ℕ) : nrm (sh q x) r k = nrm x (1024 * q + r) k := rfl
theorem dx_sh (q r k : ℕ) : dx (sh q x) (sh q t) g r k = dx x t g (1024 * q + r) k := rfl

end shift

/-- One block's part of the loss and of the gradient of the gain. -/
def lossPart (x t : ℕ → ℕ → EReal) (g : ℕ → EReal) (q : ℕ) : EReal := ((1 / 2 : ℝ) : EReal) * ∑ r : Fin 1024, sq x t g (1024 * q + r)
def gainPart (x t : ℕ → ℕ → EReal) (g : ℕ → EReal) (k q : ℕ) : EReal := ∑ r : Fin 1024, gr x t g (1024 * q + r) k * nrm x (1024 * q + r) k

variable {x tg : ℕ → ℕ → EReal} {g : ℕ → EReal}
variable {m : (ℓ : Loc nD τ sig) → Buf (Elt Ideal) ℓ} {c : Dev nD}
  (HB : ∀ t : Fin cfg0.N, Blk (iblk m c 0 t) (iblk m c 1 t) (iblk m c 2 t) (sh t.val x) (sh t.val tg) g)
include HB

theorem out3 (t : Fin cfg0.N) (r : Fin 1024) (k : Fin 1024) : (outsAt0 m c t.val t.isLt).1 (ix2 r k) = (dx x tg g (1024 * t.val + r) k) := by
  rw [← dx_sh]
  by_cases h0 : t.val % 4 = 0
  · have e : (outsAt0 m c t.val t.isLt).1 = out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) := by rw [outsAt0_A m c t h0]
    rw [e]
    exact out0_A_3_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0) (HB t) r k
  · have e : (outsAt0 m c t.val t.isLt).1 = out0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
    rw [e]
    exact out0_B_3_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (HB t) r k

/-- The loss after a first point, and after a later one. -/
theorem out4_A (t : Fin cfg0.N) (h0 : t.val % 4 = 0) (b : Fin 1) (j : Fin 128) : (outsAt0 m c t.val t.isLt).2.1 (ix2 b j) = lossPart x tg g t.val := by
  have e : (outsAt0 m c t.val t.isLt).2.1 = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) := by rw [outsAt0_A m c t h0]
  rw [e]
  exact out0_A_4_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0) (HB t) b j

theorem out4_B (t : Fin cfg0.N) (h0 : ¬t.val % 4 = 0) {f : EReal}
    (hf : ∀ (b : Fin 1) (j : Fin 128), (outsAt0 m c (t.val - 1) (Nat.lt_of_le_of_lt (Nat.sub_le _ _) t.isLt)).2.1 (ix2 b j) = f) (b : Fin 1) (j : Fin 128) :
    (outsAt0 m c t.val t.isLt).2.1 (ix2 b j) = f + lossPart x tg g t.val := by
  have e : (outsAt0 m c t.val t.isLt).2.1 = out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
  rw [e]
  exact out0_B_4_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (HB t) hf b j

/-- The gradient of the gain after a first point, and after a later one. -/
theorem out5_A (t : Fin cfg0.N) (h0 : t.val % 4 = 0) (b : Fin 1) (k : Fin 1024) : (outsAt0 m c t.val t.isLt).2.2 (ix2 b k) = gainPart x tg g k t.val := by
  have e : (outsAt0 m c t.val t.isLt).2.2 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) := by rw [outsAt0_A m c t h0]
  rw [e]
  exact out0_A_5_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) ((hcond0_0 t).mpr h0) (HB t) b k

theorem out5_B (t : Fin cfg0.N) (h0 : ¬t.val % 4 = 0) {f : ℕ → EReal}
    (hf : ∀ (b : Fin 1) (k : Fin 1024), (outsAt0 m c (t.val - 1) (Nat.lt_of_le_of_lt (Nat.sub_le _ _) t.isLt)).2.2 (ix2 b k) = f k) (b : Fin 1) (k : Fin 1024) :
    (outsAt0 m c t.val t.isLt).2.2 (ix2 b k) = f k + gainPart x tg g k t.val := by
  have e : (outsAt0 m c t.val t.isLt).2.2 = out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 := by rw [outsAt0_B m c t h0]
  rw [e]
  exact out0_B_5_at c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (HB t) hf b k

/-- Both after point `n`. -/
theorem out4 (n : ℕ) (hn : n < cfg0.N) (b : Fin 1) (j : Fin 128) : (outsAt0 m c n hn).2.1 (ix2 b j) = (∑ q ∈ Finset.range (n + 1), lossPart x tg g q) := by
  induction n generalizing b j with
  | zero =>
    rw [Nat.zero_add, Finset.sum_range_one]
    exact out4_A HB ⟨0, hn⟩ rfl b j
  | succ n ih =>
    have hN : cfg0.N = 4 := N_0
    have hB : ¬(⟨n + 1, hn⟩ : Fin cfg0.N).val % 4 = 0 := by show ¬(n + 1) % 4 = 0; omega
    rw [Finset.sum_range_succ _ (n + 1)]
    exact out4_B HB ⟨n + 1, hn⟩ hB (f := ∑ q ∈ Finset.range (n + 1), lossPart x tg g q) (fun b j => ih (Nat.lt_of_succ_lt hn) b j) b j

theorem out5 (n : ℕ) (hn : n < cfg0.N) (b : Fin 1) (k : Fin 1024) : (outsAt0 m c n hn).2.2 (ix2 b k) = (∑ q ∈ Finset.range (n + 1), gainPart x tg g k q) := by
  induction n generalizing b k with
  | zero =>
    rw [Nat.zero_add, Finset.sum_range_one]
    exact out5_A HB ⟨0, hn⟩ rfl b k
  | succ n ih =>
    have hN : cfg0.N = 4 := N_0
    have hB : ¬(⟨n + 1, hn⟩ : Fin cfg0.N).val % 4 = 0 := by show ¬(n + 1) % 4 = 0; omega
    rw [Finset.sum_range_succ _ (n + 1)]
    exact out5_B HB ⟨n + 1, hn⟩ hB (f := fun k => ∑ q ∈ Finset.range (n + 1), gainPart x tg g k q) (fun b k => ih (Nat.lt_of_succ_lt hn) b k) b k

/-- After the last point they are the sums over all rows. -/
theorem out4_last (t : Fin cfg0.N) (ht : t.val % 4 = 3) (b : Fin 1) (j : Fin 128) : (outsAt0 m c t.val t.isLt).2.1 (ix2 b j) = loss x tg g := by
  have hN : cfg0.N = 4 := N_0
  have h4 : t.val + 1 = 4 := by have := t.isLt; omega
  have e := Blocks.sum_blocks (N := 4096) (t.val + 1) 1024 (by rw [h4]) (fun r => sq x tg g r)
  rw [out4 HB]
  unfold loss lossPart
  rw [← e, mul_comm, ← Rms.sum_mul_real _ _ (by norm_num : (0 : ℝ) ≤ 1 / 2)]
  exact Finset.sum_congr rfl fun q _ => mul_comm _ _

theorem out5_last (t : Fin cfg0.N) (ht : t.val % 4 = 3) (b : Fin 1) (k : Fin 1024) : (outsAt0 m c t.val t.isLt).2.2 (ix2 b k) = dg x tg g k := by
  have hN : cfg0.N = 4 := N_0
  have h4 : t.val + 1 = 4 := by have := t.isLt; omega
  have e := Blocks.sum_blocks (N := 4096) (t.val + 1) 1024 (by rw [h4]) (fun r => gr x tg g r k * nrm x r k)
  rw [out5 HB]
  unfold dg gainPart
  rw [← e]

end Cert.Loss.Ker

end
-- ==== Proof.LosRef.lean ====
/-
  THE REFERENCE'S STAGES for the loss head: each, read at an index, is a function of `LosKer`.
-/
module

public import proofs.«01_k».proof.Proof.LosKer
public import proofs.«01_k».proof.Proof.Axes
public import proofs.«01_k».proof.Proof.Gen.Reference8Ideal.Read

@[expose] public section

set_option maxRecDepth 16384
set_option maxHeartbeats 800000
set_option backward.proofsInPublic true

noncomputable section

namespace Cert.Loss.Ref

open Cert.Reference8Ideal Cert.Reference8Ideal.Gen Cert.Reference8Ideal.Read Idealize.ShloMosaic Cert.Loss Cert.Ffn

variable {x0 x1 : S4096x1024.Idx → EReal} {x2 : S1024.Idx → EReal} {x t : ℕ → ℕ → EReal} {g : ℕ → EReal}
  (hx : ∀ (r : Fin 4096) (c : Fin 1024), x0 (ix2 r c) = (x r c))
  (ht : ∀ (r : Fin 4096) (c : Fin 1024), x1 (ix2 r c) = (t r c))
  (hg : ∀ c : Fin 1024, x2 (ix1 c) = (g c))

section
include hx

theorem v8 (b : Fin 1) (r : Fin 4096) (c : Fin 1) : val_main_v8 (F := Ideal) x0 (ix3 b r c) = (Rms.ms (x r)) := by
  pointwise [val_main_v8, val_main_v7, val_main_cst_1, val_main_v6, val_main_v5, val_main_cst_0, val_main_v4, val_main_v3, val_main_cst, val_main_v2, val_main_v0, hx]
  rfl

theorem v9 (b : Fin 1) (r : Fin 4096) (c : Fin 1) : val_main_v9 (F := Ideal) x0 (ix3 b r c) = (Rms.rs (x r)) := by
  pointwise [val_main_v9, v8 hx]
  rfl

theorem v12 (b : Fin 1) (r : Fin 4096) (c : Fin 1) : val_main_v12 (F := Ideal) x0 (ix3 b r c) = (((-(1 / 2) : ℝ) : EReal) * Ideal.div (Rms.rs (x r)) (Rms.ms (x r))) := by
  pointwise [val_main_v12, val_main_v11, val_main_cst_2, val_main_v10, v9 hx, v8 hx]

theorem v14 (b : Fin 1) (r : Fin 4096) (c : Fin 1024) : val_main_v14 (F := Ideal) x0 (ix3 b r c) = (nrm x r c) := by
  pointwise [val_main_v14, val_main_v13, v9 hx, val_main_v0, hx]
  rfl

end

/-- The factor of the error's gradient. -/
theorem factor (e : EReal) : ((1 / 2 / 1024 : ℝ) : EReal) * (((2 : ℝ) : EReal) * e) = e * ((1 / 1024 : ℝ) : EReal) := by
  rw [← mul_assoc, ← EReal.coe_mul, mul_comm]
  congr 2
  norm_num

include hx ht hg

theorem v18 (b : Fin 1) (r : Fin 4096) (c : Fin 1024) : val_main_v18 (F := Ideal) x0 x1 x2 (ix3 b r c) = (er x t g r c) := by
  pointwise [val_main_v18, val_main_v17, val_main_v16, val_main_v15, v14 hx, val_main_v1, ht, hg]
  rfl

theorem v32 (b : Fin 1) (r : Fin 4096) (c : Fin 1024) : val_main_v32 (F := Ideal) x0 x1 x2 (ix3 b r c) = (gr x t g r c) := by
  pointwise [val_main_v32, val_main_v31, val_main_v30, val_main_v29, val_main_v28, val_main_v27, val_main_v21, val_main_v20, val_main_cst_3, val_main_cst_8, val_main_cst_9, val_main_cst_10, v18 hx ht hg]
  exact factor _

theorem v55 (b : Fin 1) (j : Fin 128) : val_main_v55 (F := Ideal) x0 x1 x2 (ix2 b j) = loss x t g := by
  pointwise [val_main_v55, val_main_v26, val_main_v25, val_main_v24, val_main_v23, val_main_v22, val_main_v19, val_main_cst_4, val_main_cst_5, val_main_cst_6, val_main_cst_7, v18 hx ht hg]
  rw [Fin.sum_univ_one]
  rfl

theorem v38 (c : Fin 1024) : val_main_v38 (F := Ideal) x0 x1 x2 (ix1 c) = (dg x t g c) := by
  pointwise [val_main_v38, val_main_v35, val_main_v34, val_main_v33, val_main_cst_11, val_main_cst_12, v14 hx, v32 hx ht hg]
  unfold dg
  simp only [Finset.univ_unique, Finset.sum_singleton]
  refine Finset.sum_congr rfl fun r _ => ?_
  ac_rfl

theorem v56 (b : Fin 1) (c : Fin 1024) : val_main_v56 (F := Ideal) x0 x1 x2 (ix2 b c) = (dg x t g c) := by
  pointwise [val_main_v56, v38 hx ht hg]

theorem v37 (b : Fin 1) (r : Fin 4096) (c : Fin 1024) : val_main_v37 (F := Ideal) x0 x1 x2 (ix3 b r c) = (gr x t g r c * g c) := by
  pointwise [val_main_v37, val_main_v36, val_main_v15, v32 hx ht hg, hg]

/-- The gradient by the mean square, at every column. -/
theorem v49 (b : Fin 1) (r : Fin 4096) (c : Fin 1024) : val_main_v49 (F := Ideal) x0 x1 x2 (ix3 b r c) = (Rms.dms (gr x t g r) g (x r)) := by
  pointwise [val_main_v49, val_main_v48, val_main_v47, val_main_v46, val_main_v45, val_main_v44, val_main_v41, val_main_v40, val_main_v39, val_main_cst_13, val_main_cst_14, val_main_cst_15, val_main_v0, v37 hx ht hg, v12 hx, hx]
  rw [Fin.sum_univ_one, Fin.sum_univ_one]
  rfl

theorem v54 (r : Fin 4096) (c : Fin 1024) : val_main_v54 (F := Ideal) x0 x1 x2 (ix2 r c) = (dx x t g r c) := by
  pointwise [val_main_v54, val_main_v53, val_main_v52, val_main_v51, val_main_v50, val_main_v43, val_main_v42, v49 hx ht hg, v37 hx ht hg, v9 hx, val_main_v0, hx]
  unfold dx
  rw [← Rms.dx_eq]

end Cert.Loss.Ref

end
-- ==== Proof.LosVal.lean ====
/-
  WHAT A GRID POINT READS in the loss head, and the three results: the kernel's are the reference's.
-/
module

public import proofs.«01_k».proof.Proof.LosFold
public import proofs.«01_k».proof.Proof.LosRef
public import Idealize.ShloMosaic.Lib.StableHlo.ReadAt

@[expose] public section

set_option maxRecDepth 16384
set_option maxHeartbeats 800000
set_option backward.proofsInPublic true

noncomputable section

namespace Cert.Loss.Ker

open Cert.Kernel8Ideal Cert.Kernel8Ideal.Gen Cert.Kernel8Ideal.Value Idealize.ShloMosaic Idealize.ShloMosaic.TcCoe Cert.Loss Cert.Ffn

/-- The block index of each window at point `p`. -/
theorem idx : ∀ p : Fin cfg0.N, win0_0.index p = ![p.val, 0] ∧ win0_1.index p = ![p.val, 0] ∧ win0_2.index p = ![0, 0]
    ∧ win0_3.index p = ![p.val, 0] ∧ win0_4.index p = ![0, 0] ∧ win0_5.index p = ![0, 0] :=
  (by decide +kernel : ∀ p : Fin grid0.N, _)

section
variable (m : (ℓ : Loc nD τ sig) → Buf (Elt Ideal) ℓ) (c : Dev nD)

theorem blk0 (p : Fin cfg0.N) (r : Fin 1024) (k : Fin 1024) :
    iblk m c 0 p (ix2 r k) = m ((c : Thread nD τ).loc main_arg0) (ix2 ⟨1024 * p.val + r.val, by have := lt_of_lt_of_eq p.isLt N_0; omega⟩ k) := by
  blk_ext [iblk, V, (idx p).1]

theorem blk1 (p : Fin cfg0.N) (r : Fin 1024) (k : Fin 1024) :
    iblk m c 1 p (ix2 r k) = m ((c : Thread nD τ).loc main_arg1) (ix2 ⟨1024 * p.val + r.val, by have := lt_of_lt_of_eq p.isLt N_0; omega⟩ k) := by
  blk_ext [iblk, V, (idx p).2.1]

theorem blk2 (p : Fin cfg0.N) (b : Fin 1) (k : Fin 1024) :
    iblk m c 2 p (ix2 b k) = m ((c : Thread nD τ).loc main_arg2) (ix1 k) := by
  have e : ((win0_2.blk p).view.emb (ix2 b k) : S1x1024.Idx) = ix2 b k := by blk_ext [(idx p).2.2.1]
  show V m c main_v0 ((win0_2.blk p).view.emb (ix2 b k)) = _
  rw [e]
  unfold V
  simp only [hostOps0]
  after_reads_at

end

variable {m : (ℓ : Loc nD τ sig) → Buf (Elt Ideal) ℓ} {c : Dev nD} {x tg : ℕ → ℕ → EReal} {g : ℕ → EReal}
  (hx : ∀ (r : Fin 4096) (k : Fin 1024), m ((c : Thread nD τ).loc main_arg0) (ix2 r k) = (x r k))
  (ht : ∀ (r : Fin 4096) (k : Fin 1024), m ((c : Thread nD τ).loc main_arg1) (ix2 r k) = (tg r k))
  (hg : ∀ k : Fin 1024, m ((c : Thread nD τ).loc main_arg2) (ix1 k) = (g k))
include hx ht hg

/-- What point `p` reads. -/
theorem blk (p : Fin cfg0.N) : Blk (iblk m c 0 p) (iblk m c 1 p) (iblk m c 2 p) (sh p.val x) (sh p.val tg) g where
  x r k := (blk0 m c p r k).trans (hx _ _)
  t r k := (blk1 m c p r k).trans (ht _ _)
  g b k := (blk2 m c p b k).trans (hg k)

theorem r3 : (dats m 0 c).arrAt 3 cfg0.N = Cert.Reference8Ideal.Read.val_main_v54 (F := Ideal) (m ((c : Thread nD τ).loc main_arg0)) (m ((c : Thread nD τ).loc main_arg1)) (m ((c : Thread nD τ).loc main_arg2)) := by
  have hN : cfg0.N = 4 := N_0
  refine (dats m 0 c).arrAt_eq_of_cover 3 _ (fun p hf => ?_) (fun i => ?_)
  · rw [flushed3]
    funext y
    obtain ⟨r, k, rfl⟩ : ∃ r k, y = ix2 (n0 := 1024) (n1 := 1024) r k := ⟨y 0, y 1, (ix2_eta y).symm⟩
    have e : ((win0_3.blk p).view.emb (ix2 r k) : S4096x1024.Idx) = ix2 ⟨1024 * p.val + r.val, by have := lt_of_lt_of_eq p.isLt hN; omega⟩ k := by
      blk_ext [(idx p).2.2.2.1]
    show (outsAt0 m c p.val p.isLt).1 (ix2 r k) = Cert.Reference8Ideal.Read.val_main_v54 (F := Ideal) (m ((c : Thread nD τ).loc main_arg0)) (m ((c : Thread nD τ).loc main_arg1)) (m ((c : Thread nD τ).loc main_arg2)) ((win0_3.blk p).view.emb (ix2 r k))
    rw [e]
    exact (out3 (blk hx ht hg) p r k).trans (Ref.v54 hx ht hg ⟨1024 * p.val + r.val, by have := lt_of_lt_of_eq p.isLt hN; omega⟩ k).symm
  · obtain ⟨r, k, rfl⟩ : ∃ r k, i = ix2 (n0 := 4096) (n1 := 1024) r k := ⟨i 0, i 1, (ix2_eta i).symm⟩
    obtain ⟨p, hp⟩ : ∃ p : Fin cfg0.N, p.val = r.val / 1024 := ⟨⟨r.val / 1024, lt_of_lt_of_eq (by omega) hN.symm⟩, rfl⟩
    refine ⟨p, flush0_3 _, ?_⟩
    have e : ((win0_3.blk p).view.emb (ix2 ⟨r.val % 1024, by omega⟩ k) : S4096x1024.Idx) = ix2 r k := by
      blk_ext [(idx p).2.2.2.1, hp]
    rw [← e]
    exact View.emb_mem_set _ _

theorem r4 : (dats m 0 c).arrAt 4 cfg0.N = Cert.Reference8Ideal.Read.val_main_v55 (F := Ideal) (m ((c : Thread nD τ).loc main_arg0)) (m ((c : Thread nD τ).loc main_arg1)) (m ((c : Thread nD τ).loc main_arg2)) := by
  have hN : cfg0.N = 4 := N_0
  refine (dats m 0 c).arrAt_eq_of_cover 4 _ (fun p hf => ?_) (fun i => ?_)
  · rw [flushed4]
    funext y
    obtain ⟨b, k, rfl⟩ : ∃ b k, y = ix2 (n0 := 1) (n1 := 128) b k := ⟨y 0, y 1, (ix2_eta y).symm⟩
    have e : ((win0_4.blk p).view.emb (ix2 b k) : S1x128.Idx) = ix2 b k := by blk_ext [(idx p).2.2.2.2.1]
    show (outsAt0 m c p.val p.isLt).2.1 (ix2 b k) = Cert.Reference8Ideal.Read.val_main_v55 (F := Ideal) (m ((c : Thread nD τ).loc main_arg0)) (m ((c : Thread nD τ).loc main_arg1)) (m ((c : Thread nD τ).loc main_arg2)) ((win0_4.blk p).view.emb (ix2 b k))
    rw [e]
    exact (out4_last (blk hx ht hg) p ((flush0_4 p).1 hf) b k).trans (Ref.v55 hx ht hg b k).symm
  · obtain ⟨b, k, rfl⟩ : ∃ b k, i = ix2 (n0 := 1) (n1 := 128) b k := ⟨i 0, i 1, (ix2_eta i).symm⟩
    obtain ⟨p, hp⟩ : ∃ p : Fin cfg0.N, p.val = 3 := ⟨⟨3, lt_of_lt_of_eq (by omega) hN.symm⟩, rfl⟩
    refine ⟨p, (flush0_4 _).2 (by rw [hp]), ?_⟩
    have e : ((win0_4.blk p).view.emb (ix2 b k) : S1x128.Idx) = ix2 b k := by blk_ext [(idx p).2.2.2.2.1]
    rw [← e]
    exact View.emb_mem_set _ _

theorem r5 : (dats m 0 c).arrAt 5 cfg0.N = Cert.Reference8Ideal.Read.val_main_v56 (F := Ideal) (m ((c : Thread nD τ).loc main_arg0)) (m ((c : Thread nD τ).loc main_arg1)) (m ((c : Thread nD τ).loc main_arg2)) := by
  have hN : cfg0.N = 4 := N_0
  refine (dats m 0 c).arrAt_eq_of_cover 5 _ (fun p hf => ?_) (fun i => ?_)
  · rw [flushed5]
    funext y
    obtain ⟨b, k, rfl⟩ : ∃ b k, y = ix2 (n0 := 1) (n1 := 1024) b k := ⟨y 0, y 1, (ix2_eta y).symm⟩
    have e : ((win0_5.blk p).view.emb (ix2 b k) : S1x1024.Idx) = ix2 b k := by blk_ext [(idx p).2.2.2.2.2]
    show (outsAt0 m c p.val p.isLt).2.2 (ix2 b k) = Cert.Reference8Ideal.Read.val_main_v56 (F := Ideal) (m ((c : Thread nD τ).loc main_arg0)) (m ((c : Thread nD τ).loc main_arg1)) (m ((c : Thread nD τ).loc main_arg2)) ((win0_5.blk p).view.emb (ix2 b k))
    rw [e]
    exact (out5_last (blk hx ht hg) p ((flush0_5 p).1 hf) b k).trans (Ref.v56 hx ht hg b k).symm
  · obtain ⟨b, k, rfl⟩ : ∃ b k, i = ix2 (n0 := 1) (n1 := 1024) b k := ⟨i 0, i 1, (ix2_eta i).symm⟩
    obtain ⟨p, hp⟩ : ∃ p : Fin cfg0.N, p.val = 3 := ⟨⟨3, lt_of_lt_of_eq (by omega) hN.symm⟩, rfl⟩
    refine ⟨p, (flush0_5 _).2 (by rw [hp]), ?_⟩
    have e : ((win0_5.blk p).view.emb (ix2 b k) : S1x1024.Idx) = ix2 b k := by blk_ext [(idx p).2.2.2.2.2]
    rw [← e]
    exact View.emb_mem_set _ _

end Cert.Loss.Ker

end
-- ==== Proof.LosAlg.lean ====
/-
  THE ALGEBRAIC CLAIM of the loss head: its run's three results are the reference's.
-/
module

public import proofs.«01_k».proof.Defs
public import proofs.«01_k».proof.Proof.LosVal
public import proofs.«01_k».proof.Proof.Arr
public import proofs.«01_k».proof.Proof.Gen.Reference8Ideal.Run
public import Idealize.ShloMosaic.Lib.Quiescent
public import Idealize.ShloMosaic.Adequacy
public import Idealize.ShloMosaic.Init

@[expose] public section

set_option maxRecDepth 16384
set_option maxHeartbeats 800000
set_option backward.proofsInPublic true

noncomputable section

namespace Cert.Loss

open Idealize.ShloMosaic Idealize.ShloMosaic.TcCoe Idealize.SL.Sem Cert.Arr Cert.Kernel8Ideal Cert.Loss.Ker

/-- The kernel's three results are the reference's. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨_, _, _, Cert.Kernel8Ideal.Value.run_blocks m g, ?_⟩
  refine (θ_run _ _ _).mono (fun r h (c : Dev nD) => ?_) (Cert.Reference8Ideal.Value.run m' g')
  have q0 := arr2_apply fun (r : Fin 4096) (k : Fin 1024) => m ((c : Thread nD τ).loc main_arg0) (ix2 r k)
  have q1 := arr2_apply fun (r : Fin 4096) (k : Fin 1024) => m ((c : Thread nD τ).loc main_arg1) (ix2 r k)
  have q2 := arr1_apply fun (k : Fin 1024) => m ((c : Thread nD τ).loc main_arg2) (ix1 k)
  obtain ⟨a0, a1, a2⟩ := hagree c
  obtain ⟨h0, h1, h2, hk⟩ := h c
  refine ⟨h0.trans ?_, h1.trans ?_, h2.trans ?_, hk⟩
  · refine (Cert.Reference8Ideal.Read.val_main_v54_eq _ _).trans ?_
    rw [r3 q0 q1 q2, ← a0, ← a1, ← a2]
  · refine (Cert.Reference8Ideal.Read.val_main_v55_eq _ _ _).trans ?_
    rw [r4 q0 q1 q2, ← a0, ← a1, ← a2]
  · refine (Cert.Reference8Ideal.Read.val_main_v56_eq _ _ _).trans ?_
    rw [r5 q0 q1 q2, ← a0, ← a1, ← a2]

/-- The reference runs, keeps its arguments and leaves every counter at zero: it has none. -/
theorem reference_frame : Cert.quiescent_Reference8Ideal (hReference8Ideal := Cert.Reference8Ideal.Gen.facts) := fun m ρ _ =>
  (θ_run _ _ _).mono (fun r h => And.intro (fun c => (h c).2.2.2) (sem_eq_zero_of_no_sems rfl r.2)) (Cert.Reference8Ideal.Value.run m ρ)

end Cert.Loss

end
-- ==== Proof.lean ====
/-
  THE PROOF OF THE CLAIM: the frames are the generated ones; the first program's idealisation replaces three words by named
  constants, the others' nothing; each kernel's results equal its reference's, because each equals one function of its arguments
  (backward calls: `Ffn…` the feed-forward layer, `In…` the input projection, `Mrg…` the merge of the branches, `Sgu…` the gating
  unit; forward calls: `Fff…`, `Prj…`, `Mrf…` likewise, `Los…` the loss head).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_arguments
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Skeleton
public import proofs.«01_k».proof.Proof.Gen.Kernel6Ideal.Skeleton
public import proofs.«01_k».proof.Proof.Gen.Kernel6.Launch
public import proofs.«01_k».proof.Proof.Gen.Kernel6Ideal.Launch
public import proofs.«01_k».proof.Proof.Gen.Kernel6.Points
public import proofs.«01_k».proof.Proof.Gen.Kernel6Ideal.Points
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Kernel7.Points
public import proofs.«01_k».proof.Proof.Gen.Kernel7Ideal.Points
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Kernel8.Points
public import proofs.«01_k».proof.Proof.Gen.Kernel8Ideal.Points
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.SguVal
public import proofs.«01_k».proof.Proof.FfnAlg
public import proofs.«01_k».proof.Proof.InAlg
public import proofs.«01_k».proof.Proof.MrgAlg
public import proofs.«01_k».proof.Proof.FffAlg
public import proofs.«01_k».proof.Proof.MrfAlg
public import proofs.«01_k».proof.Proof.PrjAlg
public import proofs.«01_k».proof.Proof.LosAlg
public import Idealize.ShloMosaic.Lib.Quiescent
public import Idealize.ShloMosaic.Adequacy
public import Idealize.ShloMosaic.Init

@[expose] public section

set_option backward.proofsInPublic true
set_option maxRecDepth 16384

noncomputable section

namespace Cert.Proof

open Idealize.ShloMosaic Idealize.SL.Sem Cert.Kernel

/-- The kernel's five results are the reference's, at finite arguments. -/
theorem algebraic : Cert.algebraic_KernelIdeal_ReferenceIdeal_pre_finite_arguments (hKernelIdeal := Cert.KernelIdeal.Gen.facts)
    (hReferenceIdeal := Cert.ReferenceIdeal.Gen.facts) (hPre_finite_arguments := Cert.Pre_finite_arguments.Gen.facts) := by
  intro m g m' g' hpre hagree
  refine ⟨_, _, _, _, _, Cert.KernelIdeal.Value.run m g, ?_⟩
  refine (θ_run _ _ _).mono (fun r h c => ?_) (Cert.ReferenceIdeal.Value.run m' g')
  have H := Cert.Sgu.Pre.reads (hpre c)
  obtain ⟨a0, a1, a2, a3, a4, a5⟩ := hagree c
  obtain ⟨h0, h1, h2, h3, h4, hk⟩ := h c
  refine ⟨h0.trans ?_, h1.trans ?_, h2.trans ?_, h3.trans ?_, h4.trans ?_, hk⟩
  · refine (Cert.ReferenceIdeal.Read.val_main_v169_eq _).trans ?_
    rw [Cert.Sgu.Ker.g7 H, ← a0, ← a1, ← a2, ← a3, ← a4, ← a5]
  · refine (Cert.ReferenceIdeal.Read.val_main_v107_eq _).trans ?_
    rw [Cert.Sgu.Ker.g8 H, ← a0, ← a1, ← a4, ← a5]
  · refine (Cert.ReferenceIdeal.Read.val_main_v170_eq _).trans ?_
    rw [Cert.Sgu.Ker.g9 H, ← a0, ← a1]
  · refine (Cert.ReferenceIdeal.Read.val_main_v171_eq _).trans ?_
    rw [Cert.Sgu.Ker.g10 H, ← a0, ← a1, ← a2]
  · refine (Cert.ReferenceIdeal.Read.val_main_v172_eq _).trans ?_
    rw [Cert.Sgu.Ker.g11 H, ← a0, ← a1, ← a2]

/-- The reference runs, keeps its arguments and leaves every counter at zero: it has none. -/
theorem reference_frame : Cert.quiescent_ReferenceIdeal (hReferenceIdeal := Cert.ReferenceIdeal.Gen.facts) := fun m ρ _ =>
  (θ_run _ _ _).mono (fun r h => And.intro (fun c => (h c).2.2.2.2.2) (sem_eq_zero_of_no_sems rfl r.2)) (Cert.ReferenceIdeal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_arguments.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ,
  Cert.Ffn.reference_frame,
  fun m ρ _ => Cert.Kernel3.Gen.frame m ρ, fun m ρ _ => Cert.Kernel3Ideal.Gen.frame m ρ,
  Cert.InProj.reference_frame,
  fun m ρ _ => Cert.Kernel4.Gen.frame m ρ, fun m ρ _ => Cert.Kernel4Ideal.Gen.frame m ρ,
  Cert.Merge.reference_frame,
  fun m ρ _ => Cert.Kernel5.Gen.frame m ρ, fun m ρ _ => Cert.Kernel5Ideal.Gen.frame m ρ,
  Cert.FfnF.reference_frame,
  fun m ρ _ => Cert.Kernel6.Gen.frame m ρ, fun m ρ _ => Cert.Kernel6Ideal.Gen.frame m ρ,
  Cert.MergeF.reference_frame,
  fun m ρ _ => Cert.Kernel7.Gen.frame m ρ, fun m ρ _ => Cert.Kernel7Ideal.Gen.frame m ρ,
  Cert.Prj.reference_frame,
  fun m ρ _ => Cert.Kernel8.Gen.frame m ρ, fun m ρ _ => Cert.Kernel8Ideal.Gen.frame m ρ,
  Cert.Loss.reference_frame,
  ⟨IdealRules.named_const.statement Cert.KernelIdeal.κ "gelu_a" .bf16 0x3D37#16 ((12003091/268435456 : ℝ) : EReal) rfl,
    IdealRules.named_const.statement Cert.KernelIdeal.κ "gelu_c" .bf16 0x3F4C#16 ((6693141/8388608 : ℝ) : EReal) rfl,
    IdealRules.named_const.statement Cert.KernelIdeal.κ "gelu_3a" .bf16 0x3E09#16 ((36009273/268435456 : ℝ) : EReal) rfl⟩,
  algebraic, trivial, Cert.Ffn.algebraic, trivial, Cert.InProj.algebraic, trivial, Cert.Merge.algebraic,
  trivial, Cert.FfnF.algebraic, trivial, Cert.MergeF.algebraic, trivial, Cert.Prj.algebraic, trivial, Cert.Loss.algebraic⟩

end Cert.Proof

end
